-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S1x1024x1024 1 × IVec S1024x1024 1 × IVec S1x1024x8x128 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x1024x8x128 .bf16 := Host.absf main_arg2
  let main_cst_1 : FVec F S_ .bf16 := constant S_ .bf16 0x7F80#16
  let main_v7 : FVec F S1x1024x8x128 .bf16 := broadcastInDim S1x1024x8x128 ![] bcast_S_S1x1024x8x128 main_cst_1
  let main_v8 : IVec S1x1024x8x128 1 := cmpf .olt main_v6 main_v7
  (main_v2, main_v5, main_v8)
-- ==== Pre_finite_ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x1024x1024 .bf16) (main_arg1 : FVec F S1024x1024 .bf16) (main_arg2 : FVec F S1x4096x8x128 .bf16) (main_arg3 : FVec F S1x4096x8x128 .bf16) (main_arg4 : FVec F S1024x1024 .bf16) : IVec S1x1024x1024 1 × IVec S1024x1024 1 × IVec S1x4096x8x128 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x4096x8x128 .bf16 := Host.absf main_arg2
  let main_cst_1 : FVec F S_ .bf16 := constant S_ .bf16 0x7F80#16
  let main_v7 : FVec F S1x4096x8x128 .bf16 := broadcastInDim S1x4096x8x128 ![] bcast_S_S1x4096x8x128 main_cst_1
  let main_v8 : IVec S1x4096x8x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S512x1024 : Shape := ⟨2, ![512, 1024]⟩
abbrev S8 : Shape := ⟨1, ![8]⟩
abbrev S4 : Shape := ⟨1, ![4]⟩
abbrev S6 : Shape := ⟨1, ![6]⟩
abbrev S_ : Shape := ⟨0, ![]⟩
abbrev S1x256x1x128 : Shape := ⟨4, ![1, 256, 1, 128]⟩
abbrev S256x128 : Shape := ⟨2, ![256, 128]⟩
abbrev S1 : Shape := ⟨1, ![1]⟩
abbrev S256x1024 : Shape := ⟨2, ![256, 1024]⟩
abbrev S1x128x1x128 : Shape := ⟨4, ![1, 128, 1, 128]⟩
abbrev S128x128 : Shape := ⟨2, ![128, 128]⟩
abbrev S128x1024 : Shape := ⟨2, ![128, 1024]⟩
abbrev S1x256x1024 : Shape := ⟨3, ![1, 256, 1024]⟩
abbrev S256x512 : Shape := ⟨2, ![256, 512]⟩
abbrev S512x128 : Shape := ⟨2, ![512, 128]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1024x1024, .bf16⟩
  | .local _ .vmem, ⟨5, _⟩ => ⟨S1x1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v16 : BitVec 1 := Scalar.cmpi .eq v2 c0_i32_13
  let v17 : BitVec 32 := Scalar.extui v16
  let c0_i32_27 : BitVec 32 := 0#32
  let v18 : BitVec 1 := Scalar.cmpi .ne v17 c0_i32_27
  v18

def k0_dev4 : Nat :=
  let c0_i32_341 : BitVec 32 := 0#32
  let c1_i32_339 : BitVec 32 := 1#32
  let c1_i32_340 : BitVec 32 := 1#32
  let v393 : BitVec 32 := Scalar.muli c1_i32_339 c1_i32_340
  let v394 : BitVec 32 := Scalar.addi c0_i32_341 v393
  v394.toNat
def k0_dev5 : Nat :=
  let c0_i32_347 : BitVec 32 := 0#32
  let c1_i32_345 : BitVec 32 := 1#32
  let c1_i32_346 : BitVec 32 := 1#32
  let v401 : BitVec 32 := Scalar.muli c1_i32_345 c1_i32_346
  let v402 : BitVec 32 := Scalar.addi c0_i32_347 v401
  v402.toNat
def k0_dev6 : Nat :=
  let c0_i32_450 : BitVec 32 := 0#32
  let c3_i32_448 : BitVec 32 := 3#32
  let c1_i32_449 : BitVec 32 := 1#32
  let v489 : BitVec 32 := Scalar.muli c3_i32_448 c1_i32_449
  let v490 : BitVec 32 := Scalar.addi c0_i32_450 v489
  v490.toNat
def k0_dev7 : Nat :=
  let c0_i32_456 : BitVec 32 := 0#32
  let c3_i32_454 : BitVec 32 := 3#32
  let c1_i32_455 : BitVec 32 := 1#32
  let v497 : BitVec 32 := Scalar.muli c3_i32_454 c1_i32_455
  let v498 : BitVec 32 := Scalar.addi c0_i32_456 v497
  v498.toNat
def k0_dev8 : Nat :=
  let c0_i32_559 : BitVec 32 := 0#32
  let c1_i32_557 : BitVec 32 := 1#32
  let c1_i32_558 : BitVec 32 := 1#32
  let v585 : BitVec 32 := Scalar.muli c1_i32_557 c1_i32_558
  let v586 : BitVec 32 := Scalar.addi c0_i32_559 v585
  v586.toNat
def k0_dev9 : Nat :=
  let c0_i32_566 : BitVec 32 := 0#32
  let c1_i32_564 : BitVec 32 := 1#32
  let c1_i32_565 : BitVec 32 := 1#32
  let v593 : BitVec 32 := Scalar.muli c1_i32_564 c1_i32_565
  let v594 : BitVec 32 := Scalar.addi c0_i32_566 v593
  v594.toNat
def k0_dev10 : Nat :=
  let c0_i32_669 : BitVec 32 := 0#32
  let c3_i32_667 : BitVec 32 := 3#32
  let c1_i32_668 : BitVec 32 := 1#32
  let v681 : BitVec 32 := Scalar.muli c3_i32_667 c1_i32_668
  let v682 : BitVec 32 := Scalar.addi c0_i32_669 v681
  v682.toNat
def k0_dev11 : Nat :=
  let c0_i32_675 : BitVec 32 := 0#32
  let c3_i32_673 : BitVec 32 := 3#32
  let c1_i32_674 : BitVec 32 := 1#32
  let v689 : BitVec 32 := Scalar.muli c3_i32_673 c1_i32_674
  let v690 : BitVec 32 := Scalar.addi c0_i32_675 v689
  v690.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v19 : BitVec 1 := Scalar.cmpi .eq v2 c1_i32_28
  let v20 : BitVec 32 := Scalar.extui v19
  let c0_i32_33 : BitVec 32 := 0#32
  let v21 : BitVec 1 := Scalar.cmpi .ne v20 c0_i32_33
  v21

def k0_dev12 : Nat :=
  let c0_i32_341 : BitVec 32 := 0#32
  let c3_i32_339 : BitVec 32 := 3#32
  let c1_i32_340 : BitVec 32 := 1#32
  let v393 : BitVec 32 := Scalar.muli c3_i32_339 c1_i32_340
  let v394 : BitVec 32 := Scalar.addi c0_i32_341 v393
  v394.toNat
def k0_dev13 : Nat :=
  let c0_i32_347 : BitVec 32 := 0#32
  let c3_i32_345 : BitVec 32 := 3#32
  let c1_i32_346 : BitVec 32 := 1#32
  let v401 : BitVec 32 := Scalar.muli c3_i32_345 c1_i32_346
  let v402 : BitVec 32 := Scalar.addi c0_i32_347 v401
  v402.toNat
def k0_off1 (d0 : Dev nD) : Fin 3 → Nat :=
  let c0 : Index := 0#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v22 : BitVec 32 := Scalar.muli c256_i32 v2
  let v23 : Index := Scalar.indexCast v22
  let c0_34 : Index := 0#32
  ![0, v23.toNat, 0]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_37 : BitVec 32 := 1#32
  let v30 : BitVec 1 := Scalar.cmpi .eq v2 c1_i32_37
  let v31 : BitVec 32 := Scalar.extui v30
  let c0_i32_50 : BitVec 32 := 0#32
  let v32 : BitVec 1 := Scalar.cmpi .ne v31 c0_i32_50
  v32

def k0_dev14 : Nat :=
  let c0_i32_272 : BitVec 32 := 0#32
  let c2_i32_270 : BitVec 32 := 2#32
  let c1_i32_271 : BitVec 32 := 1#32
  let v325 : BitVec 32 := Scalar.muli c2_i32_270 c1_i32_271
  let v326 : BitVec 32 := Scalar.addi c0_i32_272 v325
  v326.toNat
def k0_dev15 : Nat :=
  let c0_i32_279 : BitVec 32 := 0#32
  let c2_i32_277 : BitVec 32 := 2#32
  let c1_i32_278 : BitVec 32 := 1#32
  let v333 : BitVec 32 := Scalar.muli c2_i32_277 c1_i32_278
  let v334 : BitVec 32 := Scalar.addi c0_i32_279 v333
  v334.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_51 : BitVec 32 := 3#32
  let v33 : BitVec 1 := Scalar.cmpi .eq v2 c3_i32_51
  let v34 : BitVec 32 := Scalar.extui v33
  let c0_i32_68 : BitVec 32 := 0#32
  let v35 : BitVec 1 := Scalar.cmpi .ne v34 c0_i32_68
  v35

def k0_dev16 : Nat :=
  let c0_i32_272 : BitVec 32 := 0#32
  let c2_i32_270 : BitVec 32 := 2#32
  let c1_i32_271 : BitVec 32 := 1#32
  let v325 : BitVec 32 := Scalar.muli c2_i32_270 c1_i32_271
  let v326 : BitVec 32 := Scalar.addi c0_i32_272 v325
  v326.toNat
def k0_dev17 : Nat :=
  let c0_i32_279 : BitVec 32 := 0#32
  let c2_i32_277 : BitVec 32 := 2#32
  let c1_i32_278 : BitVec 32 := 1#32
  let v333 : BitVec 32 := Scalar.muli c2_i32_277 c1_i32_278
  let v334 : BitVec 32 := Scalar.addi c0_i32_279 v333
  v334.toNat
def k0_off2 (d0 : Dev nD) : Fin 2 → Nat :=
  let c256_i32_138 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v213 : BitVec 32 := Scalar.muli c256_i32_138 v2
  let v214 : Index := Scalar.indexCast v213
  let c0_139 : Index := 0#32
  ![v214.toNat, 0]
def k0_off3 (d0 : Dev nD) : Fin 2 → Nat :=
  let c256_i32_143 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v221 : BitVec 32 := Scalar.muli c256_i32_143 v2
  let c0_i32_156 : BitVec 32 := 0#32
  ![v221.toNat, 0]
def k0_dev18 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_140 : BitVec 32 := 1#32
  let v218 : BitVec 32 := Scalar.addi v2 c1_i32_140
  let c4_i32_141 : BitVec 32 := 4#32
  let v219 : BitVec 32 := Scalar.remsi v218 c4_i32_141
  let c1_i32_154 : BitVec 32 := 1#32
  let v230 : BitVec 32 := Scalar.muli v219 c1_i32_154
  let v231 : BitVec 32 := Scalar.addi c0_i32_155 v230
  v231.toNat
def k0_dev19 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_144 : BitVec 32 := 2#32
  let v222 : BitVec 32 := Scalar.addi v2 c2_i32_144
  let c4_i32_145 : BitVec 32 := 4#32
  let v223 : BitVec 32 := Scalar.remsi v222 c4_i32_145
  let c1_i32_160 : BitVec 32 := 1#32
  let v238 : BitVec 32 := Scalar.muli v223 c1_i32_160
  let v239 : BitVec 32 := Scalar.addi c0_i32_161 v238
  v239.toNat
def k0_dev20 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_148 : BitVec 32 := 3#32
  let v226 : BitVec 32 := Scalar.addi v2 c3_i32_148
  let c4_i32_149 : BitVec 32 := 4#32
  let v227 : BitVec 32 := Scalar.remsi v226 c4_i32_149
  let c1_i32_166 : BitVec 32 := 1#32
  let v246 : BitVec 32 := Scalar.muli v227 c1_i32_166
  let v247 : BitVec 32 := Scalar.addi c0_i32_167 v246
  v247.toNat
def k0_off4 (d0 : Dev nD) (c1_i32_170 : BitVec 32) : Fin 2 → Nat :=
  let c256_i32_174 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v254 : BitVec 32 := Scalar.subi v2 c1_i32_170
  let c4_i32_171 : BitVec 32 := 4#32
  let v255 : BitVec 32 := Scalar.addi v254 c4_i32_171
  let c4_i32_172 : BitVec 32 := 4#32
  let v256 : BitVec 32 := Scalar.remsi v255 c4_i32_172
  let v258 : BitVec 32 := Scalar.muli c256_i32_174 v256
  let c0_i32_179 : BitVec 32 := 0#32
  ![v258.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S1x1024x8x128 : Shape := ⟨4, ![1, 1024, 8, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S_ : Shape := ⟨0, ![]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x4096x8x128, .bf16⟩
  | .hbm, ⟨3, _⟩ => ⟨S1x4096x8x128, .bf16⟩
  | .hbm, ⟨4, _⟩ => ⟨S1024x1024, .bf16⟩
  | .hbm, ⟨5, _⟩ => ⟨S1x1024x1024, .f32⟩
  | .hbm, ⟨6, _⟩ => ⟨S1x1024x1024, .bf16⟩
  | .hbm, ⟨7, _⟩ => ⟨S1x1024x8x128, .bf16⟩
  | .hbm, ⟨8, _⟩ => ⟨S1024, .i32⟩
  | .hbm, ⟨9, _⟩ => ⟨S1024x1, .i32⟩
  | .hbm, ⟨10, _⟩ => ⟨S4096, .i32⟩
  | .hbm, ⟨11, _⟩ => ⟨S1x4096, .i32⟩
  | .hbm, ⟨12, _⟩ => ⟨S1024x4096, .i32⟩
  | .hbm, ⟨13, _⟩ => ⟨S1024x4096, .i32⟩
  | .hbm, ⟨14, _⟩ => ⟨S1024x4096, .i32⟩
  | .hbm, ⟨15, _⟩ => ⟨S1024x4096, .i32⟩
  | .hbm, ⟨16, _⟩ => ⟨S_, .i32⟩
  | .hbm, ⟨17, _⟩ => ⟨S1024x4096, .i32⟩
  | .hbm, ⟨18, _⟩ => ⟨S1024x4096, .i1⟩
  | .hbm, ⟨19, _⟩ => ⟨S1x8x1024x4096, .f32⟩
  | .hbm, ⟨20, _⟩ => ⟨S1x8x1024x4096, .bf16⟩
  | .hbm, ⟨21, _⟩ => ⟨S1x8x1024x4096, .f32⟩
  | .hbm, ⟨22, _⟩ => ⟨S_, .f32⟩
  | .hbm, ⟨23, _⟩ => ⟨S1x8x1024x4096, .f32⟩
  | .hbm, ⟨24, _⟩ => ⟨S1x8x1024x4096, .f32⟩
  | .hbm, ⟨25, _⟩ => ⟨S1x1x1024x4096, .i1⟩
  | .hbm, ⟨26, _⟩ => ⟨S_, .f32⟩
  | .hbm, ⟨27, _⟩ => ⟨S_, .f32⟩
  | .hbm, ⟨28, _⟩ => ⟨S1x8x1024x4096, .i1⟩
  | .hbm, ⟨29, _⟩ => ⟨S1x8x1024x4096, .f32⟩
  | .hbm, ⟨30, _⟩ => ⟨S1x8x1024x4096, .f32⟩
  | .hbm, ⟨31, _⟩ => ⟨S_, .f32⟩
  | .hbm, ⟨32, _⟩ => ⟨S1x8x1024, .f32⟩
  | .hbm, ⟨33, _⟩ => ⟨S1x8x1024x1, .f32⟩
  | .hbm, ⟨34, _⟩ => ⟨S1x8x1024x4096, .f32⟩
  | .hbm, ⟨35, _⟩ => ⟨S1x8x1024x4096, .f32⟩
  | .hbm, ⟨36, _⟩ => ⟨S1x8x1024x4096, .f32⟩
  | .hbm, ⟨37, _⟩ => ⟨S_, .i1⟩
  | .hbm, ⟨38, _⟩ => ⟨S1024, .i1⟩
  | .hbm, ⟨39, _⟩ => ⟨S1x1x1024x1, .i1⟩
  | .hbm, ⟨40, _⟩ => ⟨S_, .f32⟩
  | .hbm, ⟨41, _⟩ => ⟨S1x8x1024, .f32⟩
  | .hbm, ⟨42, _⟩ => ⟨S1x8x1024x1, .f32⟩
  | .hbm, ⟨43, _⟩ => ⟨S_, .f32⟩
  | .hbm, ⟨44, _⟩ => ⟨S_, .f32⟩
  | .hbm, ⟨45, _⟩ => ⟨S1x8x1024x1, .i1⟩
  | .hbm, ⟨46, _⟩ => ⟨S1x8x1024x1, .f32⟩
  | .hbm, ⟨47, _⟩ => ⟨S1x8x1024x1, .f32⟩
  | .hbm, ⟨48, _⟩ => ⟨S1x8x1024x4096, .f32⟩
  | .hbm, ⟨49, _⟩ => ⟨S1x8x1024x4096, .f32⟩
  | .hbm, ⟨50, _⟩ => ⟨S1x1x1024x1, .i1⟩
  | .hbm, ⟨51, _⟩ => ⟨S_, .f32⟩
  | .hbm, ⟨52, _⟩ => ⟨S_, .f32⟩
  | .hbm, ⟨53, _⟩ => ⟨S1x8x1024x4096, .i1⟩
  | .hbm, ⟨54, _⟩ => ⟨S1x8x1024x4096, .f32⟩
  | .hbm, ⟨55, _⟩ => ⟨S1x8x1024x4096, .f32⟩
  | .hbm, ⟨56, _⟩ => ⟨S1x4096x8x128, .f32⟩
  | .hbm, ⟨57, _⟩ => ⟨S1x8x128x1024, .f32⟩
  | .hbm, ⟨58, _⟩ => ⟨S1x1024x8x128, .f32⟩
  | .hbm, ⟨59, _⟩ => ⟨S1x1024x1024, .f32⟩
  | .hbm, ⟨60, _⟩ => ⟨S1024x1024, .f32⟩
  | .hbm, ⟨61, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

def κ : String → Option EReal := fun
  | "mask" => some ⊥
  | _ => none
-- ==== Proof.SameProgram.lean ====
/- The kernel as it is lowered and its idealization differ in one thing: the mask's constant has a
name in the idealization. Where the name is read as the bits it stands for, the two are the same
program, so a run proved for the idealization at every float instance is a run of the kernel. -/
module

public import proofs.«01_k».proof.Defs
public import proofs.«01_k».proof.Proof.Gen.KernelIdeal
public import proofs.«01_k».proof.Proof.Gen.Kernel

@[expose] public section

set_option maxRecDepth 16384

noncomputable section

namespace Cert.Proof

open Idealize.ShloMosaic Idealize.ShloMosaic.TcCoe Idealize.SL.Sem

/-- At the bits a named constant is read as the bits it replaces. -/
instance namedBits : Named Bits where
  named _ _ {φ} b := FloatOps.ofBits φ b

theorem body_eq : Cert.Kernel.cc0_body (F := Bits) = Cert.KernelIdeal.cc0_body (F := Bits) := rfl

theorem main_eq : Cert.Kernel.main (F := Bits) = Cert.KernelIdeal.main (F := Bits) := rfl

theorem defs₀_eq : Cert.Kernel.defs₀ (F := Bits) = Cert.KernelIdeal.defs₀ (F := Bits) := by
  refine congrArg Defs.onTc (funext fun l => funext fun a => ?_)
  match l, a with
  | ⟨0, _⟩, (t, s) => dsimp only; rw [body_eq]

theorem defs_eq : Cert.Kernel.defs (F := Bits) = Cert.KernelIdeal.defs (F := Bits) :=
  congrArg (Pipeline.defs (Cert.KernelIdeal.pcfgs (F := Bits))) defs₀_eq

end Cert.Proof

end
-- ==== Proof.KI.Cells.lean ====
/- The cells of the exchange: the runtime's barrier and the kernel's own DMA semaphores, device by device, and the
   row bands of the scratch buffers that the copies move. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

/-! ## The buffers -/

abbrev ksM : Memref sig .tc .vmem S1024x1024 .bf16 := Memref.whole cc0_scratch0
abbrev vsM : Memref sig .tc .vmem S1024x1024 .bf16 := Memref.whole cc0_scratch1
abbrev kwM : Memref sig .tc .vmem S512x1024 .bf16 := Memref.whole cc0_scratch2
abbrev vwM : Memref sig .tc .vmem S512x1024 .bf16 := Memref.whole cc0_scratch3
abbrev agM : Memref sig .tc .vmem S1024x1024 .bf16 := Memref.whole cc0_scratch4

/-- The runtime's barrier semaphore of collective id 0. -/
abbrev barS : Sem sig := (SemArray.scalar (sig.barrier 0 rfl) : Sems sig S_).sem

/-- The kernel's own DMA semaphores: the 26 entries of its five arrays, in order. -/
abbrev osem (k : Fin 26) : SemLoc sig := .dma (⟨6 + k.val, by have := k.isLt; show 6 + k.val < 32; omega⟩ : Fin 32)

theorem ownSemFacts : Pipeline.OwnSemFacts cfg0.spec osem := by decide

/-- All the semaphores of the exchange: the barrier, then the kernel's own. -/
def csem : Fin 27 → SemLoc sig := Fin.cons (.reg barS) osem

/-- The transfers' amounts: 256 rows, and 128 rows, of a buffer of 1024 sixteen-bit columns. -/
abbrev N256 : ℕ := 16384
abbrev N128 : ℕ := 8192

/-! ## Row bands -/

/-- The rows `a ..< a + n` of a buffer of `N` rows. -/
def rows (N a n : ℕ) : Finset (Shape.Idx ⟨2, ![N, 1024]⟩) :=
  Finset.univ.filter fun i => a ≤ (i 0).val ∧ (i 0).val < a + n

theorem mem_rows {N a n : ℕ} {i : Shape.Idx ⟨2, ![N, 1024]⟩} : i ∈ rows N a n ↔ a ≤ (i 0).val ∧ (i 0).val < a + n := by
  unfold rows; rw [Finset.mem_filter]; exact ⟨fun h => h.2, fun h => ⟨Finset.mem_univ _, h⟩⟩

theorem rows_add (N a n k : ℕ) : rows N a (n + k) = rows N a n ∪ rows N (a + n) k := by
  ext i; rw [Finset.mem_union, mem_rows, mem_rows, mem_rows]; omega

theorem rows_disjoint (N a n k : ℕ) : Disjoint (rows N a n) (rows N (a + n) k) :=
  Finset.disjoint_left.mpr fun i h h' => by rw [mem_rows] at h h'; omega

theorem rows_all (N : ℕ) : rows N 0 N = Finset.univ := by
  ext i; rw [mem_rows]
  have : (i 0).val < N := (i 0).isLt
  exact ⟨fun _ => Finset.mem_univ _, fun _ => ⟨Nat.zero_le _, by omega⟩⟩

/-- The rectangle of whole rows `a ..< a + n`. -/
theorem set_unit_rows (N a n : ℕ) (off size : Fin 2 → ℕ) (h0 : off = ![a, 0]) (h1 : size = ![n, 1024])
    (inb : ∀ i, off i + size i ≤ (⟨2, ![N, 1024]⟩ : Shape).size i) :
    (Rect.unit (s := ⟨2, ![N, 1024]⟩) off size inb).set = rows N a n := by
  subst h0; subst h1
  ext i
  rw [Rect.mem_set_unit, mem_rows]
  constructor
  · intro h; exact h 0
  · intro h x
    have hx : (x : Fin 2) = 0 ∨ (x : Fin 2) = 1 := by fin_cases x; exact Or.inl rfl; exact Or.inr rfl
    rcases hx with rfl | rfl
    · exact h
    · exact ⟨Nat.zero_le _, by have := (i 1).isLt; exact (by simpa using this)⟩

/-! ## What the buffers hold -/

section Contents

variable {F : FTy → Type} [FloatOps F] [Named F]

/-- The contents the exchange is about: each device's shard of the keys and of the values with the heads laid side by
    side (`k`, `v`), and the gathered result rows (`ag`). -/
structure Cont (F : FTy → Type) where
  k : Dev nD → S1024x1024.Idx → Elt F .bf16
  v : Dev nD → S1024x1024.Idx → Elt F .bf16
  ag : S1024x1024.Idx → Elt F .bf16

/-- The first key of device `c`'s window. -/
def wst (c : Dev nD) : ℕ := if c.val = 0 then 0 else 256 * c.val - 128

/-- Row `r` of the sharded keys, `r` counted over the whole sequence: which device holds it, and where. -/
def rowAt (f : Dev nD → S1024x1024.Idx → Elt F .bf16) (r : ℕ) (j : Fin 1024) : Elt F .bf16 :=
  f (if r < 1024 then 0 else 1) (ix2 ⟨r % 1024, Nat.mod_lt _ (by decide)⟩ j)

/-- Device `c`'s window: 512 rows from its first key. -/
def winOf (f : Dev nD → S1024x1024.Idx → Elt F .bf16) (c : Dev nD) : S512x1024.Idx → Elt F .bf16 :=
  fun i => rowAt f (wst c + (i 0).val) (i 1)

abbrev Cont.kw (X : Cont F) (c : Dev nD) : S512x1024.Idx → Elt F .bf16 := winOf X.k c
abbrev Cont.vw (X : Cont F) (c : Dev nD) : S512x1024.Idx → Elt F .bf16 := winOf X.v c

end Contents

end Cert.KernelIdeal.Win
-- ==== Proof.KI.Sched.lean ====
/- The schedule of the exchange: which cells carry a unit of work, how much each credits, what each hands over, and
   the order in which the devices may wait. -/
module

public import proofs.«01_k».proof.Proof.KI.Cells

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-! ## The ghost state: the pipeline library's and the exchange's -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Bands of the scratch buffers -/

def ksB (c : Dev nD) (a n : ℕ) (q : PosShare TreeShare) (f : S1024x1024.Idx → Elt F .bf16) : sProp 𝕄 :=
  ksM.view.loc (c : Thread nD τ) ↦[rows 1024 a n]{q} f
def vsB (c : Dev nD) (a n : ℕ) (q : PosShare TreeShare) (f : S1024x1024.Idx → Elt F .bf16) : sProp 𝕄 :=
  vsM.view.loc (c : Thread nD τ) ↦[rows 1024 a n]{q} f
def agB (c : Dev nD) (a n : ℕ) (q : PosShare TreeShare) (f : S1024x1024.Idx → Elt F .bf16) : sProp 𝕄 :=
  agM.view.loc (c : Thread nD τ) ↦[rows 1024 a n]{q} f
def kwB (c : Dev nD) (a n : ℕ) (q : PosShare TreeShare) (f : S512x1024.Idx → Elt F .bf16) : sProp 𝕄 :=
  kwM.view.loc (c : Thread nD τ) ↦[rows 512 a n]{q} f
def vwB (c : Dev nD) (a n : ℕ) (q : PosShare TreeShare) (f : S512x1024.Idx → Elt F .bf16) : sProp 𝕄 :=
  vwM.view.loc (c : Thread nD τ) ↦[rows 512 a n]{q} f

section Bands
variable (c : Dev nD) (a n k : ℕ) (q : PosShare TreeShare)
  (f g : S1024x1024.Idx → Elt F .bf16) (f' g' : S512x1024.Idx → Elt F .bf16)

omit [FloatOps F] [Named F]

instance ksB_storable : BI.Storable (upEmb : UEmb _ 𝕄) (ksB c a n q f) := by unfold ksB; infer_instance
instance vsB_storable : BI.Storable (upEmb : UEmb _ 𝕄) (vsB c a n q f) := by unfold vsB; infer_instance
instance agB_storable : BI.Storable (upEmb : UEmb _ 𝕄) (agB c a n q f) := by unfold agB; infer_instance
instance kwB_storable : BI.Storable (upEmb : UEmb _ 𝕄) (kwB c a n q f') := by unfold kwB; infer_instance
instance vwB_storable : BI.Storable (upEmb : UEmb _ 𝕄) (vwB c a n q f') := by unfold vwB; infer_instance

theorem ksB_add : (ksB c a (n + k) q f : sProp 𝕄) ⊣⊢ iprop(ksB c a n q f ∗ ksB c (a + n) k q f) := by
  unfold ksB; rw [rows_add]; exact pointsTo_union (rows_disjoint 1024 a n k)
theorem vsB_add : (vsB c a (n + k) q f : sProp 𝕄) ⊣⊢ iprop(vsB c a n q f ∗ vsB c (a + n) k q f) := by
  unfold vsB; rw [rows_add]; exact pointsTo_union (rows_disjoint 1024 a n k)
theorem agB_add : (agB c a (n + k) q f : sProp 𝕄) ⊣⊢ iprop(agB c a n q f ∗ agB c (a + n) k q f) := by
  unfold agB; rw [rows_add]; exact pointsTo_union (rows_disjoint 1024 a n k)
theorem kwB_add : (kwB c a (n + k) q f' : sProp 𝕄) ⊣⊢ iprop(kwB c a n q f' ∗ kwB c (a + n) k q f') := by
  unfold kwB; rw [rows_add]; exact pointsTo_union (rows_disjoint 512 a n k)
theorem vwB_add : (vwB c a (n + k) q f' : sProp 𝕄) ⊣⊢ iprop(vwB c a n q f' ∗ vwB c (a + n) k q f') := by
  unfold vwB; rw [rows_add]; exact pointsTo_union (rows_disjoint 512 a n k)

theorem ksB_half : (ksB c a n q f : sProp 𝕄) ⊣⊢ iprop(ksB c a n q.left f ∗ ksB c a n q.right f) := by
  unfold ksB; exact pointsTo_share (PosShare.mem_left_op_right q)
theorem vsB_half : (vsB c a n q f : sProp 𝕄) ⊣⊢ iprop(vsB c a n q.left f ∗ vsB c a n q.right f) := by
  unfold vsB; exact pointsTo_share (PosShare.mem_left_op_right q)
theorem agB_half : (agB c a n q f : sProp 𝕄) ⊣⊢ iprop(agB c a n q.left f ∗ agB c a n q.right f) := by
  unfold agB; exact pointsTo_share (PosShare.mem_left_op_right q)
theorem kwB_half : (kwB c a n q f' : sProp 𝕄) ⊣⊢ iprop(kwB c a n q.left f' ∗ kwB c a n q.right f') := by
  unfold kwB; exact pointsTo_share (PosShare.mem_left_op_right q)
theorem vwB_half : (vwB c a n q f' : sProp 𝕄) ⊣⊢ iprop(vwB c a n q.left f' ∗ vwB c a n q.right f') := by
  unfold vwB; exact pointsTo_share (PosShare.mem_left_op_right q)

end Bands

/-! ## Shares -/

abbrev qL : PosShare TreeShare := fullShare.left
abbrev qR : PosShare TreeShare := fullShare.right
/-- The four parts of the own rows of the gathered buffer: one for each send, the last one kept. -/
abbrev q1 : PosShare TreeShare := fullShare.left.left
abbrev q2 : PosShare TreeShare := fullShare.left.right
abbrev q3 : PosShare TreeShare := fullShare.right.left
abbrev q4 : PosShare TreeShare := fullShare.right.right

/-! ## What each cell hands over -/

/-- The bands of the windows of device `c` that device `p` writes. -/
def kvWin (c p : Dev nD) : sProp 𝕄 :=
  match c.val, p.val with
  | 1, 0 => iprop((∃ f, kwB c 256 256 fullShare f) ∗ (∃ f, vwB c 256 256 fullShare f)
      ∗ (∃ f, kwB c 0 256 fullShare f) ∗ (∃ f, vwB c 0 256 fullShare f))
  | 3, 0 => iprop((∃ f, kwB c 0 256 fullShare f) ∗ (∃ f, vwB c 0 256 fullShare f)
      ∗ (∃ f, kwB c 256 128 fullShare f) ∗ (∃ f, vwB c 256 128 fullShare f))
  | 3, 1 => iprop((∃ f, kwB c 384 128 fullShare f) ∗ (∃ f, vwB c 384 128 fullShare f))
  | 2, 1 => iprop((∃ f, kwB c 0 256 fullShare f) ∗ (∃ f, vwB c 0 256 fullShare f))
  | 2, 3 => iprop((∃ f, kwB c 256 256 fullShare f) ∗ (∃ f, vwB c 256 256 fullShare f))
  | _, _ => iprop(emp)

/-- What device `c`'s barrier signal hands device `p`: the rows of `c`'s scratch buffers that `p` will write. -/
def give (c p : Dev nD) : sProp 𝕄 := iprop((∃ f, agB c (256 * p.val) 256 fullShare f) ∗ kvWin c p)

variable (X : Cont F)

/-- What the DMA cell `q` of device `c` hands its waiter: a share of the source back, or the rows that have arrived. -/
def dmaPay (c : Dev nD) (q : ℕ) : sProp 𝕄 :=
  match q, c.val with
  | 25, _ => agB c (256 * c.val) 256 q1 X.ag
  | 26, _ => agB c (256 * c.val) 256 q2 X.ag
  | 27, _ => agB c (256 * c.val) 256 q3 X.ag
  | 29, _ => agB c (256 * ((c.val + 3) % 4)) 256 fullShare X.ag
  | 30, _ => agB c (256 * ((c.val + 2) % 4)) 256 fullShare X.ag
  | 31, _ => agB c (256 * ((c.val + 1) % 4)) 256 fullShare X.ag
  | 6, 0 => ksB c 384 256 qL (X.k c)
  | 7, 0 => vsB c 384 256 qL (X.v c)
  | 8, 0 => ksB c 128 256 qL (X.k c)
  | 9, 0 => vsB c 128 256 qL (X.v c)
  | 10, 0 => ksB c 640 256 qL (X.k c)
  | 11, 0 => vsB c 640 256 qL (X.v c)
  | 12, 0 => ksB c 896 128 qL (X.k c)
  | 13, 0 => vsB c 896 128 qL (X.v c)
  | 14, 1 => ksB c 0 128 qL (X.k c)
  | 15, 1 => vsB c 0 128 qL (X.v c)
  | 16, 1 => kwB c 256 256 qL (X.kw c)
  | 17, 1 => vwB c 256 256 qL (X.vw c)
  | 14, 3 => kwB c 0 256 qL (X.kw c)
  | 15, 3 => vwB c 0 256 qL (X.vw c)
  | 18, 1 => kwB c 256 256 fullShare (X.kw c)
  | 19, 1 => vwB c 256 256 fullShare (X.vw c)
  | 20, 1 => kwB c 0 256 fullShare (X.kw c)
  | 21, 1 => vwB c 0 256 fullShare (X.vw c)
  | 18, 2 => kwB c 0 256 fullShare (X.kw c)
  | 19, 2 => vwB c 0 256 fullShare (X.vw c)
  | 20, 2 => kwB c 256 256 fullShare (X.kw c)
  | 21, 2 => vwB c 256 256 fullShare (X.vw c)
  | 18, 3 => kwB c 0 256 fullShare (X.kw c)
  | 19, 3 => vwB c 0 256 fullShare (X.vw c)
  | 20, 3 => kwB c 256 128 fullShare (X.kw c)
  | 21, 3 => vwB c 256 128 fullShare (X.vw c)
  | 22, 3 => kwB c 384 128 fullShare (X.kw c)
  | 23, 3 => vwB c 384 128 fullShare (X.vw c)
  | _, _ => iprop(emp)

/-- Which DMA cells of device `c` are used. -/
def used (c q : ℕ) : Bool :=
  (25 ≤ q && q ≤ 27) || (29 ≤ q && q ≤ 31)
  || (c == 0 && (6 ≤ q && q ≤ 13)) || (c == 1 && (14 ≤ q && q ≤ 21)) || (c == 2 && (18 ≤ q && q ≤ 21))
  || (c == 3 && ((14 ≤ q && q ≤ 15) || (18 ≤ q && q ≤ 23)))

/-- What a DMA cell is credited: 256 rows' worth, or 128. -/
def amt (c q : ℕ) : ℕ :=
  if (c == 0 && (12 ≤ q && q ≤ 13)) || (c == 1 && (14 ≤ q && q ≤ 15)) || (c == 3 && (20 ≤ q && q ≤ 23)) then N128 else N256

/-- One round. A barrier cell has a duty of one unit from each other device; a used DMA cell has one duty. -/
def sched : Rounds.Schedule (GSem nD τ sig) (Dev nD) 𝕄 where
  duties g r := if r = 0 ∧ g.1.2 = .tc then
      match g.2 with
      | .reg _ => Finset.univ.erase g.1.1
      | .dma q => if used g.1.1.val q.val then {0} else ∅
    else ∅
  unitless _ := False
  amount g _ _ := match g.2 with
    | .reg _ => 1
    | .dma q => amt g.1.1.val q.val
  payload g _ d := match g.2 with
    | .reg _ => give d g.1.1
    | .dma q => dmaPay X g.1.1 q.val
  amount_pos g _ _ _ := by
    split
    · exact Nat.one_pos
    · unfold amt; split <;> decide

omit [FloatOps F] [Named F] in
instance kvWin_storable (c p : Dev nD) : BI.Storable (upEmb : UEmb _ 𝕄) (kvWin (F := F) c p) := by
  unfold kvWin; split <;> infer_instance
omit [FloatOps F] [Named F] in
instance give_storable (c p : Dev nD) : BI.Storable (upEmb : UEmb _ 𝕄) (give (F := F) c p) := by
  unfold give; infer_instance
omit [FloatOps F] [Named F] in
instance dmaPay_storable (c : Dev nD) (q : ℕ) : BI.Storable (upEmb : UEmb _ 𝕄) (dmaPay X c q) := by
  unfold dmaPay; split <;> infer_instance
omit [FloatOps F] [Named F] in
instance sched_payload_storable (g : GSem nD τ sig) (r : ℕ) (d : Dev nD) :
    BI.Storable (upEmb : UEmb _ 𝕄) ((sched X).payload g r d) := by
  show BI.Storable upEmb (match g.2 with | .reg _ => give d g.1.1 | .dma q => dmaPay X g.1.1 q.val)
  split <;> infer_instance

/-! ## The cells -/

/-- The barrier cell of device `c`, and its DMA cell `q`. -/
abbrev barC (c : Dev nD) : GSem nD τ sig := ((c : Thread nD τ), .reg barS)
abbrev dmaC (c : Dev nD) (q : DmaSem sig) : GSem nD τ sig := ((c : Thread nD τ), .dma q)
abbrev kcell (ck : Dev nD × Fin 27) : GSem nD τ sig := ((ck.1 : Thread nD τ), csem ck.2)

section Tables
variable (c : Dev nD)
omit [FloatOps F] [Named F]

theorem duties_bar : (sched X).duties (barC c) 0 = Finset.univ.erase c := by dsimp only [sched]; exact if_pos ⟨rfl, rfl⟩
theorem duties_dma (q : DmaSem sig) (h : used c.val q.val = true) : (sched X).duties (dmaC c q) 0 = {0} := by
  dsimp only [sched]; rw [if_pos ⟨rfl, rfl⟩, if_pos h]
theorem duties_unused (q : DmaSem sig) (h : used c.val q.val = false) (r : ℕ) : (sched X).duties (dmaC c q) r = ∅ := by
  dsimp only [sched]; split
  · rw [h]; rfl
  · rfl
theorem duties_later (g : GSem nD τ sig) : ∀ r, 1 ≤ r → (sched X).duties g r = ∅ :=
  fun r hr => by dsimp only [sched]; rw [if_neg fun h => by omega]

theorem amount_bar (d : Dev nD) : (sched X).amount (barC c) 0 d = 1 := rfl
theorem amount_dma (q : DmaSem sig) (d : Dev nD) : (sched X).amount (dmaC c q) 0 d = amt c.val q.val := rfl
theorem payload_bar (d : Dev nD) : (sched X).payload (barC c) 0 d = give d c := rfl
theorem payload_dma (q : DmaSem sig) (d : Dev nD) : (sched X).payload (dmaC c q) 0 d = dmaPay X c q.val := rfl

theorem expect_bar : (sched X).expect (barC c) 0 = 3 := by
  unfold Schedule.expect Schedule.amountOf
  rw [duties_bar, Finset.sum_congr rfl fun d _ => amount_bar X c d, Finset.sum_const, Finset.card_erase_of_mem (Finset.mem_univ _)]
  rfl
theorem expect_dma (q : DmaSem sig) (h : used c.val q.val = true) : (sched X).expect (dmaC c q) 0 = amt c.val q.val := by
  unfold Schedule.expect Schedule.amountOf; rw [duties_dma X c q h, Finset.sum_singleton, amount_dma]

/-- The rest of a DMA cell's round is its one payload. -/
theorem rest_dma (q : DmaSem sig) (h : used c.val q.val = true) :
    bigSep ((sched X).duties (dmaC c q) 0 \ ∅) (fun d => (sched X).payload (dmaC c q) 0 d) = dmaPay X c q.val := by
  rw [Finset.sdiff_empty, duties_dma X c q h, bigSep_singleton, payload_dma]

end Tables

/-! ## Levels -/

def L (g : GSem nD τ sig) : Finset Unit := if g.1.2 = .tc then {()} else ∅
/-- The barrier first, then the copies out of the staged rows, then the copies out of a window, then the gathering. -/
def lvq (c q : ℕ) : ℕ := if 28 ≤ q then 4 else if 18 ≤ q ∧ q ≤ 23 then (if c = 2 then 3 else 2) else 0
def lv (g : GSem nD τ sig) (_ : Unit) : ℕ := match g.2 with
  | .reg _ => 1
  | .dma q => lvq g.1.1.val q.val

theorem L_of_ne (g : GSem nD τ sig) (h : g.1.2 ≠ .tc) : L g = ∅ := if_neg h
theorem L_tc (c : Dev nD) (sm : SemLoc sig) : L ((c : Thread nD τ), sm) = {()} := if_pos rfl

/-- All that is owed sits at cells above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tally {n : ℕ} (g : GSem nD τ sig) (k : ℕ) (hg : g.1.2 = .tc) (h : n < lv g ()) : Above n (tallyAt g () k) := by
  intro g' u hg'
  rw [tallyAt_apply] at hg'
  by_cases e : g' = g ∧ u = ()
  · rw [e.1]; exact ⟨hg, h⟩
  · rw [if_neg e] at hg'; exact absurd hg' (Nat.lt_irrefl 0)

omit [FloatOps F] [Named F] in
theorem mayWait_above (c : Dev nD) (sm : SemLoc sig) (n : ℕ) (O : CellTallies nD τ sig Unit) (hO : Above n O)
    (hsm : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Cert.KernelIdeal.Win
-- ==== Proof.KI.Steps.lean ====
/- One step of a body at each kind of effect: a copy sent to a peer, a wait for a copy, and the state a device carries
   between its steps. -/
module

public import proofs.«01_k».proof.Proof.KI.Sched

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

omit [FloatOps F] [Named F] in
/-- A separating conjunction over a set, one member taken out. -/
theorem bigSep_at {I : Type} [DecidableEq I] {s : Finset I} {i : I} (h : i ∈ s) {Φ : I → sProp 𝕄} :
    bigSep s Φ = iprop(Φ i ∗ bigSep (s.erase i) Φ) := BI.bigSep_erase h

omit [FloatOps F] [Named F] in
/-- One member of it. -/
theorem bigSep_get {I : Type} [DecidableEq I] {s : Finset I} {i : I} (h : i ∈ s) {Φ : I → sProp 𝕄} :
    (bigSep s Φ : sProp 𝕄) ⊢ Φ i := BI.bigSep_elim h

/-! ## The copies a device has still to send -/

/-- One copy: the peer it goes to, the semaphore its source side raises, the one its target side raises, its amount. -/
structure Flow where
  p : Dev nD
  qs : DmaSem sig
  qd : DmaSem sig
  n : ℕ

/-- The copies of keys and values that device `c` sends, in the order it sends them. -/
def kvFlows (c : Dev nD) : List Flow :=
  match c.val with
  | 0 => [⟨1, 6, 18, N256⟩, ⟨1, 7, 19, N256⟩, ⟨3, 10, 18, N256⟩, ⟨3, 11, 19, N256⟩,
          ⟨1, 8, 20, N256⟩, ⟨1, 9, 21, N256⟩, ⟨3, 12, 20, N128⟩, ⟨3, 13, 21, N128⟩]
  | 1 => [⟨3, 14, 22, N128⟩, ⟨3, 15, 23, N128⟩, ⟨2, 16, 18, N256⟩, ⟨2, 17, 19, N256⟩]
  | 3 => [⟨2, 14, 20, N256⟩, ⟨2, 15, 21, N256⟩]
  | _ => []

/-- The peer `k` places on. -/
def nx (c : Dev nD) (k : ℕ) : Dev nD := ⟨(c.val + k) % 4, Nat.mod_lt _ (by decide)⟩

/-- The copies of its result rows that device `c` sends. -/
def agFlows (c : Dev nD) : List Flow := [⟨nx c 1, 25, 29, N256⟩, ⟨nx c 2, 26, 30, N256⟩, ⟨nx c 3, 27, 31, N256⟩]

def owedL : List Flow → CellTallies nD τ sig Unit
  | [] => 0
  | e :: l => owedL l + tallyAt (dmaC e.p e.qd) () e.n

theorem owedL_cons (e : Flow) (l : List Flow) : owedL (e :: l) = owedL l + tallyAt (dmaC e.p e.qd) () e.n := rfl

theorem above_owedL (n : ℕ) : ∀ (l : List Flow), (∀ e ∈ l, n < lvq e.p.val e.qd.val) → Above n (owedL l)
  | [], _ => above_zero n
  | e :: l, h => above_add (above_owedL n l fun e' h' => h e' (List.mem_cons_of_mem _ h'))
      (above_tally _ _ rfl (h e List.mem_cons_self))

def toksL (c : Dev nD) : List Flow → sProp 𝕄
  | [] => iprop(emp)
  | e :: l => iprop((dutyTok ER (dmaC c e.qs) 0 (0 : Dev nD) ∗ dutyTok ER (dmaC e.p e.qd) 0 (0 : Dev nD)) ∗ toksL c l)

omit [FloatOps F] [Named F] in
theorem toksL_cons (c : Dev nD) (e : Flow) (l : List Flow) :
    (toksL (F := F) c (e :: l))
      = iprop((dutyTok ER (dmaC c e.qs) 0 (0 : Dev nD) ∗ dutyTok ER (dmaC e.p e.qd) 0 (0 : Dev nD)) ∗ toksL c l) := rfl

/-- What a device owes while the copies `l` are still to be sent, and its right to send them. -/
def run (c : Dev nD) (l : List Flow) : sProp 𝕄 := iprop((∃ W, owes (c : Thread nD τ) (owedL l) W) ∗ toksL c l)

variable (X : Cont F) (K : Dev nD × Fin 27 → ℕ)

/-! ## What all devices know -/

def ctx : sProp 𝕄 :=
  iprop((bigSep Finset.univ fun ck => cellInv ER (sched X) (K ck) (kcell ck))
    ∗ (bigSep Finset.univ fun ck : Dev nD × Fin 27 => reached ER (kcell ck) 0) ∗ levAts L lv)

instance ctx_persistent : BI.Persistent (ctx X K) := by unfold ctx; infer_instance

theorem ctx_inv (ck : Dev nD × Fin 27) : ctx X K ⊢ cellInv ER (sched X) (K ck) (kcell ck) := by
  unfold ctx
  iintro ⟨#H, -, -⟩
  iapply (bigSep_get (Finset.mem_univ ck) (Φ := fun ck => cellInv ER (sched X) (K ck) (kcell ck)))
  iexact H

theorem ctx_reached (ck : Dev nD × Fin 27) : ctx X K ⊢ reached ER (kcell ck) 0 := by
  unfold ctx
  iintro ⟨-, #H, -⟩
  iapply (bigSep_get (Finset.mem_univ ck) (Φ := fun ck : Dev nD × Fin 27 => reached ER (kcell ck) 0))
  iexact H

theorem ctx_lev : ctx X K ⊢ levAts L lv := by unfold ctx; iintro ⟨-, -, #H⟩; iexact H

/-- The place of a DMA semaphore of the kernel's own among a device's cells. -/
def kq (q : DmaSem sig) : Fin 27 := ⟨q.val - 5, by have h : q.val < 32 := q.isLt; omega⟩

theorem csem_kq : ∀ (q : Fin 32), 6 ≤ q.val → csem (kq q) = .dma q := by decide

theorem used_ge (c q : ℕ) (h : used c q = true) : 6 ≤ q := by
  by_contra hq
  have h6 : q < 6 := by omega
  unfold used at h
  simp only [Bool.or_eq_true, Bool.and_eq_true, decide_eq_true_eq, beq_iff_eq] at h
  omega

theorem kcell_kq (c : Dev nD) (q : DmaSem sig) (h : used c.val q.val = true) : kcell (c, kq q) = dmaC c q := by
  show ((c : Thread nD τ), csem (kq q)) = _
  rw [csem_kq q (used_ge _ _ h)]

/-! ## A device's own cells -/

/-- The device's cells: those in `S` are done with, their counters at zero; the others are still at their start. -/
def cells (c : Dev nD) (S : Finset (Fin 27)) : sProp 𝕄 :=
  bigSep Finset.univ fun k => if k ∈ S then semVal (kcell (c, k)) 0 else atPos ER (kcell (c, k)) 0 ∅ 0

theorem cells_take (c : Dev nD) (S : Finset (Fin 27)) (k : Fin 27) (h : k ∉ S) :
    (cells (F := F) c S) ⊢ iprop(atPos ER (kcell (c, k)) 0 ∅ 0 ∗ (semVal (kcell (c, k)) 0 -∗ cells (F := F) c (insert k S))) := by
  have hrest : bigSep (Finset.univ.erase k) (fun j => if j ∈ S then semVal (kcell (c, j)) 0 else atPos ER (kcell (c, j)) 0 ∅ 0)
      = bigSep (Finset.univ.erase k)
        (fun j => if j ∈ insert k S then semVal (kcell (c, j)) 0 else (atPos ER (kcell (c, j)) 0 ∅ 0 : sProp 𝕄)) :=
    bigSep_congr fun j hj => by
      have hne : j ≠ k := Finset.ne_of_mem_erase hj
      by_cases hS : j ∈ S
      · rw [if_pos hS, if_pos (Finset.mem_insert_of_mem hS)]
      · rw [if_neg hS, if_neg fun h' => (Finset.mem_insert.mp h').elim hne hS]
  unfold cells
  rw [bigSep_at (Finset.mem_univ k), if_neg h,
    bigSep_at (Finset.mem_univ k) (Φ := fun j => if j ∈ insert k S then semVal (kcell (c, j)) 0 else atPos ER (kcell (c, j)) 0 ∅ 0),
    if_pos (Finset.mem_insert_self k S), hrest]
  iintro ⟨H, Hr⟩
  isplitl [H]; · iexact H
  iintro Hz
  isplitl [Hz]; · iexact Hz
  iexact Hr

/-- At the end the cells that were never used close too. -/
theorem cells_finish (c : Dev nD) (S : Finset (Fin 27)) (h : ∀ k, k ∉ S → ∀ r, (sched X).duties (kcell (c, k)) r = ∅) :
    iprop(ctx X K ∗ cells (F := F) c S) ⊢ iprop(|={Set.univ}=> bigSep Finset.univ fun k => semVal (kcell (c, k)) 0) := by
  have step : ∀ k : Fin 27, iprop(ctx X K ∗ (if k ∈ S then semVal (kcell (c, k)) 0 else atPos ER (kcell (c, k)) 0 ∅ 0))
      ⊢ iprop(|={Set.univ}=> semVal (kcell (c, k)) 0 : sProp 𝕄) := by
    intro k
    by_cases hk : k ∈ S
    · rw [if_pos hk]; iintro ⟨-, H⟩; imodintro; iexact H
    · rw [if_neg hk]; iintro ⟨#Hc, H⟩
      ihave #Hi := (ctx_inv X K (c, k)) $$ Hc
      iapply (Rounds.cell_close ER (sched X) (Set.mem_univ (K (c, k))) (fun h => h) (R := 0) (fun r _ => h k hk r))
      isplitr; · iexact Hi
      iexact H
  unfold cells
  iintro ⟨#Hc, H⟩
  iapply (bigSep_fupd Finset.univ (fun k => semVal (kcell (c, k)) 0))
  iapply (bigSep_with_persistent (R := ctx X K) (fun k _ => step k))
  isplitr; · iexact Hc
  iexact H

abbrev 𝒱₀ : Variants := Variants.none

/-! ## Waiting for a copy -/

theorem wait_step (c : Dev nD) (q : DmaSem sig) (N : ℕ) {sp sp' : Space} {s s' : Shape} {e e' : EltTy} {κ' : Kind}
    {src : Memref sig .tc sp' s' e'} {dst : Memref sig κ' sp s e} {hsrc : src.view.WordExact} {hdst : dst.view.WordExact}
    (hN : dst.view.dmaCredit = N) (hu : used c.val q.val = true) (ha : amt c.val q.val = N)
    {α : Type} {Q : α → sProp 𝕄} {k : PUnit → Prog (TpuEff nD τ sig (Elt F) Λ₀ .tc) α}
    (l : List Flow) (hl : ∀ e ∈ l, lvq c.val q.val < lvq e.p.val e.qd.val) (S : Finset (Fin 27)) (hS : kq q ∉ S) :
    iprop(ctx X K ∗ cred (tallyAt (dmaC c q) () N) ∗ run c l ∗ cells (F := F) c S)
      ⊢ iprop(((run c l ∗ cells (F := F) c (insert (kq q) S) ∗ dmaPay X c q.val)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hN
  unfold run
  iintro ⟨#Hc, HC, ⟨⟨%W, HO⟩, Ht⟩, Hs⟩ Hk
  ihave #Hi := (ctx_inv X K (c, kq q)) $$ Hc
  ihave #Hlev := (ctx_lev X K) $$ Hc
  ihave Hs := (cells_take c S (kq q) hS) $$ Hs
  rw [kcell_kq c q hu]
  icases Hs with ⟨Hat, Hs⟩
  iapply (Rounds.wp_wait_rest_token 𝒱₀ ER (sched X) (c : Thread nD τ) none (κ := K (c, kq q))
      (wpE_waitDma2_eq 𝒱₀ (c : Thread nD τ) none Set.univ) (Set.mem_univ _) () (O := owedL l) (W := W) (R := 0) (m := 0) (T := ∅)
      (by rw [Nat.zero_add]; exact ha.symm.trans (expect_dma X c q hu).symm)) $$ [HC HO Hat]
  · isplitr; · iexact Hi
    isplitl [HC]; · iexact HC
    isplitl [HO]; · iexact HO
    isplitr; · iapply (mayWait_above c (.dma q) (lvq c.val q.val) (owedL l) (above_owedL _ l hl) le_rfl); iexact Hlev
    iexact Hat
  iintro ⟨HO, Hat, -, Hpay⟩
  imod (Rounds.cell_close ER (sched X) (Set.mem_univ (K (c, kq q))) (fun h => h) (R := 0 + 1) (duties_later X (dmaC c q))) $$ [Hat] with Hz
  · isplitr; · iexact Hi
    iexact Hat
  iapply Hk
  isplitl [HO Ht]
  · isplitl [HO]; · iexists _; iexact HO
    iexact Ht
  isplitl [Hs Hz]
  · iapply Hs; iexact Hz
  ihave Hp := (Entails.of_eq (rest_dma X c q hu)) $$ Hpay
  iexact Hp

/-! ## Sending a copy -/

theorem send_step (c p pd : Dev nD) (hpd : pd = p) (qs qd : DmaSem sig) (N : ℕ) {s : Shape}
    {src : Memref sig .tc .vmem s .bf16} {dst : Memref sig (Dev.tc pd : Thread nD τ).2.kind .vmem s .bf16} {hsc : dst.view.ref.isScScratch = false}
    {hsrc : src.view.WordExact} {hdst : dst.view.WordExact}
    {hsem : DmaTarget.Typed .vmem (.dma qd) (.remote (Dev.tc pd : Thread nD τ) dst (.dma qs) hsc)}
    (hN : dst.view.amount (.dma qd) = N)
    (hu : used c.val qs.val = true) (ha : amt c.val qs.val = N) (hu' : used p.val qd.val = true) (ha' : amt p.val qd.val = N)
    {α : Type} {Q : α → sProp 𝕄} {k : PUnit → Prog (TpuEff nD τ sig (Elt F) Λ₀ .tc) α} {q : PosShare TreeShare}
    (fs : Buf (Elt F) (src.view.loc (c : Thread nD τ))) (fd : Buf (Elt F) (dst.view.loc (Dev.tc pd : Thread nD τ)))
    (hpay₁ : (src.view.loc (c : Thread nD τ) ↦[src.view.set]{q} fs) ⊢ dmaPay X c qs.val)
    (hpay₂ : (dst.view.loc (Dev.tc pd : Thread nD τ) ↦[dst.view.set]{fullShare}
        (dst.view.write (Elt F) fd (src.view.read (Elt F) fs) Finset.univ)) ⊢ dmaPay X p qd.val) (l : List Flow) :
    iprop(ctx X K ∗ (src.view.loc (c : Thread nD τ) ↦[src.view.set]{q} fs)
        ∗ (dst.view.loc (Dev.tc pd : Thread nD τ) ↦[dst.view.set]{fullShare} fd) ∗ run c (⟨p, qs, qd, N⟩ :: l))
      ⊢ iprop(((cred (tallyAt (dmaC c qs) () N) ∗ run c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc pd : Thread nD τ) dst (.dma qs) hsc) (.dma qd) hsrc hdst hsem) k) Q) := by
  subst hpd
  unfold run
  iintro ⟨#Hc, Hsrc, Hdst, ⟨⟨%W, HO⟩, Ht⟩⟩ Hk
  ihave #Hi := (ctx_inv X K (c, kq qs)) $$ Hc
  ihave #Hi' := (ctx_inv X K (pd, kq qd)) $$ Hc
  ihave #Hr := (ctx_reached X K (c, kq qs)) $$ Hc
  ihave #Hr' := (ctx_reached X K (pd, kq qd)) $$ Hc
  rw [kcell_kq c qs hu, kcell_kq pd qd hu']
  ihave Ht := (Entails.of_eq (toksL_cons (F := F) c ⟨pd, qs, qd, N⟩ l)) $$ Ht
  icases Ht with ⟨⟨Ht1, Ht2⟩, Ht⟩
  iapply (Rounds.wp_send_pointsTo 𝒱₀ ER (sched X) (c : Thread nD τ) none (κ₁ := K (c, kq qs)) (κ₂ := K (pd, kq qd))
    (r₁ := 0) (r₂ := 0) (d₁ := (0 : Dev nD)) (d₂ := (0 : Dev nD)) (fd := fd) (q := q) (fs := fs) (src := src) (dst := dst) (hsc := hsc) (hsrc := hsrc) (hdst := hdst) (hsem := hsem) (k := k) (Q := Q)
    (by rw [duties_dma X c qs hu]; exact Finset.mem_singleton_self _) (by rw [duties_dma X pd qd hu']; exact Finset.mem_singleton_self _)
    () () N hN ((amount_dma X c qs 0).trans ha) ((amount_dma X pd qd 0).trans ha') (owedL l) rfl (W := W)
    (by rw [payload_dma]; exact hpay₁) (by rw [payload_dma]; exact hpay₂)) $$ [Hsrc Hdst HO Ht1 Ht2]
  · isplitr; · iexact Hi
    isplitr; · iexact Hi'
    isplitl [Hsrc]; · iexact Hsrc
    isplitl [Hdst]; · iexact Hdst
    isplitl [HO]; · iexact HO
    isplitl [Ht1]; · iexact Ht1
    isplitr; · iexact Hr
    isplitl [Ht2]; · iexact Ht2
    iexact Hr'
  iintro ⟨HC, HO⟩
  iapply Hk
  isplitl [HC]; · iexact HC
  isplitl [HO]; · iexists W; iexact HO
  iexact Ht

end Cert.KernelIdeal.Win
-- ==== Proof.KI.Moves.lean ====
/- The copies by name: which rows leave which buffer and land where, and what the landing leaves there. -/
module

public import proofs.«01_k».proof.Proof.KI.Steps

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

/-! ## Whole rows as a rectangle -/

section Geometry
omit [FloatOps F] [Named F]

/-- A row of the band, as the rectangle's own index. -/
theorem exists_emb_rows {N a n : ℕ} {off : Fin 2 → ℕ} (h0 : off = ![a, 0])
    (inb : ∀ i, off i + (![n, 1024] : Fin 2 → ℕ) i ≤ (⟨2, ![N, 1024]⟩ : Shape).size i)
    {i : Shape.Idx ⟨2, ![N, 1024]⟩} (hi : i ∈ rows N a n) :
    ∃ j : (Rect.unit (s := ⟨2, ![N, 1024]⟩) off ![n, 1024] inb).shape.Idx,
      (Rect.unit (s := ⟨2, ![N, 1024]⟩) off ![n, 1024] inb).emb j = i := by
  rw [← set_unit_rows N a n off ![n, 1024] h0 rfl inb, ← Rect.map_emb_univ, Finset.mem_map] at hi
  obtain ⟨j, -, hj⟩ := hi
  exact ⟨j, hj⟩

/-- Two bands of equally many rows: the element of one at the place of an element of the other. -/
theorem emb_rows_emb {N N' a a' n : ℕ} {off off' : Fin 2 → ℕ} (h0 : off = ![a, 0]) (h0' : off' = ![a', 0])
    (inb : ∀ i, off i + (![n, 1024] : Fin 2 → ℕ) i ≤ (⟨2, ![N, 1024]⟩ : Shape).size i)
    (inb' : ∀ i, off' i + (![n, 1024] : Fin 2 → ℕ) i ≤ (⟨2, ![N', 1024]⟩ : Shape).size i)
    (j : (⟨2, ![n, 1024]⟩ : Shape).Idx) {h} :
    (Rect.unit (s := ⟨2, ![N, 1024]⟩) off ![n, 1024] inb).emb j
      = ix2 ⟨a + ((((Rect.unit (s := ⟨2, ![N', 1024]⟩) off' ![n, 1024] inb').emb j) 0).val - a'), h⟩
          (((Rect.unit (s := ⟨2, ![N', 1024]⟩) off' ![n, 1024] inb').emb j) 1) := by
  subst h0; subst h0'
  funext x
  match x with
  | ⟨0, _⟩ =>
    refine Fin.ext ?_
    show a + 1 * (j 0).val = a + (a' + 1 * (j 0).val - a')
    omega
  | ⟨1, _⟩ =>
    refine Fin.ext ?_
    show 0 + 1 * (j 1).val = 0 + 1 * (j 1).val
    rfl

end Geometry

/-! ## The bands as the copies name them -/

section Bands
omit [FloatOps F] [Named F]

theorem ks_slice (c : Dev nD) (a n : ℕ) {off : Fin 2 → ℕ} (h0 : off = ![a, 0])
    (inb : ∀ i, off i + (![n, 1024] : Fin 2 → ℕ) i ≤ S1024x1024.size i) {hl} (q : PosShare TreeShare) (f : S1024x1024.Idx → Elt F .bf16) :
    ((((ksM.slice (Rect.unit (s := S1024x1024) off ![n, 1024] inb) hl).view.loc (c : Thread nD τ))
      ↦[(ksM.slice (Rect.unit (s := S1024x1024) off ![n, 1024] inb) hl).view.set]{q} f) : sProp 𝕄) = ksB c a n q f := by
  unfold ksB
  rw [show (ksM.slice (Rect.unit (s := S1024x1024) off ![n, 1024] inb) hl).view.set = rows 1024 a n from
    (View.set_slice_whole _ _).trans (set_unit_rows 1024 a n off ![n, 1024] h0 rfl inb)]

theorem vs_slice (c : Dev nD) (a n : ℕ) {off : Fin 2 → ℕ} (h0 : off = ![a, 0])
    (inb : ∀ i, off i + (![n, 1024] : Fin 2 → ℕ) i ≤ S1024x1024.size i) {hl} (q : PosShare TreeShare) (f : S1024x1024.Idx → Elt F .bf16) :
    ((((vsM.slice (Rect.unit (s := S1024x1024) off ![n, 1024] inb) hl).view.loc (c : Thread nD τ))
      ↦[(vsM.slice (Rect.unit (s := S1024x1024) off ![n, 1024] inb) hl).view.set]{q} f) : sProp 𝕄) = vsB c a n q f := by
  unfold vsB
  rw [show (vsM.slice (Rect.unit (s := S1024x1024) off ![n, 1024] inb) hl).view.set = rows 1024 a n from
    (View.set_slice_whole _ _).trans (set_unit_rows 1024 a n off ![n, 1024] h0 rfl inb)]

theorem kw_slice (c : Dev nD) (a n : ℕ) {off : Fin 2 → ℕ} (h0 : off = ![a, 0])
    (inb : ∀ i, off i + (![n, 1024] : Fin 2 → ℕ) i ≤ S512x1024.size i) {hl} (q : PosShare TreeShare) (f : S512x1024.Idx → Elt F .bf16) :
    ((((kwM.slice (Rect.unit (s := S512x1024) off ![n, 1024] inb) hl).view.loc (c : Thread nD τ))
      ↦[(kwM.slice (Rect.unit (s := S512x1024) off ![n, 1024] inb) hl).view.set]{q} f) : sProp 𝕄) = kwB c a n q f := by
  unfold kwB
  rw [show (kwM.slice (Rect.unit (s := S512x1024) off ![n, 1024] inb) hl).view.set = rows 512 a n from
    (View.set_slice_whole _ _).trans (set_unit_rows 512 a n off ![n, 1024] h0 rfl inb)]

theorem vw_slice (c : Dev nD) (a n : ℕ) {off : Fin 2 → ℕ} (h0 : off = ![a, 0])
    (inb : ∀ i, off i + (![n, 1024] : Fin 2 → ℕ) i ≤ S512x1024.size i) {hl} (q : PosShare TreeShare) (f : S512x1024.Idx → Elt F .bf16) :
    ((((vwM.slice (Rect.unit (s := S512x1024) off ![n, 1024] inb) hl).view.loc (c : Thread nD τ))
      ↦[(vwM.slice (Rect.unit (s := S512x1024) off ![n, 1024] inb) hl).view.set]{q} f) : sProp 𝕄) = vwB c a n q f := by
  unfold vwB
  rw [show (vwM.slice (Rect.unit (s := S512x1024) off ![n, 1024] inb) hl).view.set = rows 512 a n from
    (View.set_slice_whole _ _).trans (set_unit_rows 512 a n off ![n, 1024] h0 rfl inb)]

theorem ag_slice (c : Dev nD) (a n : ℕ) {off : Fin 2 → ℕ} (h0 : off = ![a, 0])
    (inb : ∀ i, off i + (![n, 1024] : Fin 2 → ℕ) i ≤ S1024x1024.size i) {hl} (q : PosShare TreeShare) (f : S1024x1024.Idx → Elt F .bf16) :
    ((((agM.slice (Rect.unit (s := S1024x1024) off ![n, 1024] inb) hl).view.loc (c : Thread nD τ))
      ↦[(agM.slice (Rect.unit (s := S1024x1024) off ![n, 1024] inb) hl).view.set]{q} f) : sProp 𝕄) = agB c a n q f := by
  unfold agB
  rw [show (agM.slice (Rect.unit (s := S1024x1024) off ![n, 1024] inb) hl).view.set = rows 1024 a n from
    (View.set_slice_whole _ _).trans (set_unit_rows 1024 a n off ![n, 1024] h0 rfl inb)]

end Bands

/-! ## What a landing leaves -/

section Landing
omit [FloatOps F] [Named F]

theorem land_ks_kw (a a' n : ℕ) {off off' : Fin 2 → ℕ} (h0 : off = ![a, 0]) (h0' : off' = ![a', 0])
    (inb : ∀ i, off i + (![n, 1024] : Fin 2 → ℕ) i ≤ S1024x1024.size i) (inb' : ∀ i, off' i + (![n, 1024] : Fin 2 → ℕ) i ≤ S512x1024.size i)
    {hl hl'} (ha : a + n ≤ 1024) (fs : S1024x1024.Idx → Elt F .bf16) (fd : S512x1024.Idx → Elt F .bf16)
    (i : S512x1024.Idx) (hi : i ∈ rows 512 a' n) :
    (kwM.slice (Rect.unit (s := S512x1024) off' ![n, 1024] inb') hl').view.write (Elt F) fd
        ((ksM.slice (Rect.unit (s := S1024x1024) off ![n, 1024] inb) hl).view.read (Elt F) fs) Finset.univ i
      = fs (ix2 ⟨a + ((i 0).val - a'), by have := mem_rows.mp hi; omega⟩ (i 1)) := by
  obtain ⟨j, rfl⟩ := exists_emb_rows h0' inb' hi
  refine (View.write_emb_of_mem (v := (kwM.slice (Rect.unit (s := S512x1024) off' ![n, 1024] inb') hl').view) fd _ (Finset.mem_univ j)).trans ?_
  exact congrArg fs (emb_rows_emb h0 h0' inb inb' j)

theorem land_vs_vw (a a' n : ℕ) {off off' : Fin 2 → ℕ} (h0 : off = ![a, 0]) (h0' : off' = ![a', 0])
    (inb : ∀ i, off i + (![n, 1024] : Fin 2 → ℕ) i ≤ S1024x1024.size i) (inb' : ∀ i, off' i + (![n, 1024] : Fin 2 → ℕ) i ≤ S512x1024.size i)
    {hl hl'} (ha : a + n ≤ 1024) (fs : S1024x1024.Idx → Elt F .bf16) (fd : S512x1024.Idx → Elt F .bf16)
    (i : S512x1024.Idx) (hi : i ∈ rows 512 a' n) :
    (vwM.slice (Rect.unit (s := S512x1024) off' ![n, 1024] inb') hl').view.write (Elt F) fd
        ((vsM.slice (Rect.unit (s := S1024x1024) off ![n, 1024] inb) hl).view.read (Elt F) fs) Finset.univ i
      = fs (ix2 ⟨a + ((i 0).val - a'), by have := mem_rows.mp hi; omega⟩ (i 1)) := by
  obtain ⟨j, rfl⟩ := exists_emb_rows h0' inb' hi
  refine (View.write_emb_of_mem (v := (vwM.slice (Rect.unit (s := S512x1024) off' ![n, 1024] inb') hl').view) fd _ (Finset.mem_univ j)).trans ?_
  exact congrArg fs (emb_rows_emb h0 h0' inb inb' j)

theorem land_kw_kw (a a' n : ℕ) {off off' : Fin 2 → ℕ} (h0 : off = ![a, 0]) (h0' : off' = ![a', 0])
    (inb : ∀ i, off i + (![n, 1024] : Fin 2 → ℕ) i ≤ S512x1024.size i) (inb' : ∀ i, off' i + (![n, 1024] : Fin 2 → ℕ) i ≤ S512x1024.size i)
    {hl hl'} (ha : a + n ≤ 512) (fs : S512x1024.Idx → Elt F .bf16) (fd : S512x1024.Idx → Elt F .bf16)
    (i : S512x1024.Idx) (hi : i ∈ rows 512 a' n) :
    (kwM.slice (Rect.unit (s := S512x1024) off' ![n, 1024] inb') hl').view.write (Elt F) fd
        ((kwM.slice (Rect.unit (s := S512x1024) off ![n, 1024] inb) hl).view.read (Elt F) fs) Finset.univ i
      = fs (ix2 ⟨a + ((i 0).val - a'), by have := mem_rows.mp hi; omega⟩ (i 1)) := by
  obtain ⟨j, rfl⟩ := exists_emb_rows h0' inb' hi
  refine (View.write_emb_of_mem (v := (kwM.slice (Rect.unit (s := S512x1024) off' ![n, 1024] inb') hl').view) fd _ (Finset.mem_univ j)).trans ?_
  exact congrArg fs (emb_rows_emb h0 h0' inb inb' j)

theorem land_vw_vw (a a' n : ℕ) {off off' : Fin 2 → ℕ} (h0 : off = ![a, 0]) (h0' : off' = ![a', 0])
    (inb : ∀ i, off i + (![n, 1024] : Fin 2 → ℕ) i ≤ S512x1024.size i) (inb' : ∀ i, off' i + (![n, 1024] : Fin 2 → ℕ) i ≤ S512x1024.size i)
    {hl hl'} (ha : a + n ≤ 512) (fs : S512x1024.Idx → Elt F .bf16) (fd : S512x1024.Idx → Elt F .bf16)
    (i : S512x1024.Idx) (hi : i ∈ rows 512 a' n) :
    (vwM.slice (Rect.unit (s := S512x1024) off' ![n, 1024] inb') hl').view.write (Elt F) fd
        ((vwM.slice (Rect.unit (s := S512x1024) off ![n, 1024] inb) hl).view.read (Elt F) fs) Finset.univ i
      = fs (ix2 ⟨a + ((i 0).val - a'), by have := mem_rows.mp hi; omega⟩ (i 1)) := by
  obtain ⟨j, rfl⟩ := exists_emb_rows h0' inb' hi
  refine (View.write_emb_of_mem (v := (vwM.slice (Rect.unit (s := S512x1024) off' ![n, 1024] inb') hl').view) fd _ (Finset.mem_univ j)).trans ?_
  exact congrArg fs (emb_rows_emb h0 h0' inb inb' j)

theorem land_ag_ag (a a' n : ℕ) {off off' : Fin 2 → ℕ} (h0 : off = ![a, 0]) (h0' : off' = ![a', 0])
    (inb : ∀ i, off i + (![n, 1024] : Fin 2 → ℕ) i ≤ S1024x1024.size i) (inb' : ∀ i, off' i + (![n, 1024] : Fin 2 → ℕ) i ≤ S1024x1024.size i)
    {hl hl'} (ha : a + n ≤ 1024) (fs : S1024x1024.Idx → Elt F .bf16) (fd : S1024x1024.Idx → Elt F .bf16)
    (i : S1024x1024.Idx) (hi : i ∈ rows 1024 a' n) :
    (agM.slice (Rect.unit (s := S1024x1024) off' ![n, 1024] inb') hl').view.write (Elt F) fd
        ((agM.slice (Rect.unit (s := S1024x1024) off ![n, 1024] inb) hl).view.read (Elt F) fs) Finset.univ i
      = fs (ix2 ⟨a + ((i 0).val - a'), by have := mem_rows.mp hi; omega⟩ (i 1)) := by
  obtain ⟨j, rfl⟩ := exists_emb_rows h0' inb' hi
  refine (View.write_emb_of_mem (v := (agM.slice (Rect.unit (s := S1024x1024) off' ![n, 1024] inb') hl').view) fd _ (Finset.mem_univ j)).trans ?_
  exact congrArg fs (emb_rows_emb h0 h0' inb inb' j)

end Landing

/-! ## The sends -/

section Sends
variable (X : Cont F) (K : Dev nD × Fin 27 → ℕ)

theorem send_ks_kw (c p pd : Dev nD) (hpd : pd = p) (qs qd : DmaSem sig) (N a a' n : ℕ) {off off' : Fin 2 → ℕ}
    (h0 : off = ![a, 0]) (h0' : off' = ![a', 0])
    {inb : ∀ i, off i + (![n, 1024] : Fin 2 → ℕ) i ≤ S1024x1024.size i} {inb' : ∀ i, off' i + (![n, 1024] : Fin 2 → ℕ) i ≤ S512x1024.size i} {hl hl'}
    (ha : a + n ≤ 1024)
    {hsc : (kwM.slice (Rect.unit (s := S512x1024) off' ![n, 1024] inb') hl').view.ref.isScScratch = false}
    {hsrc : (ksM.slice (Rect.unit (s := S1024x1024) off ![n, 1024] inb) hl).view.WordExact}
    {hdst : (kwM.slice (Rect.unit (s := S512x1024) off' ![n, 1024] inb') hl').view.WordExact}
    {hsem : DmaTarget.Typed .vmem (.dma qd) (.remote (Dev.tc pd : Thread nD τ) (kwM.slice (Rect.unit (s := S512x1024) off' ![n, 1024] inb') hl') (.dma qs) hsc)}
    (hN : (kwM.slice (Rect.unit (s := S512x1024) off' ![n, 1024] inb') hl').view.amount (.dma qd) = N)
    (hu : used c.val qs.val = true) (hc : amt c.val qs.val = N) (hu' : used p.val qd.val = true) (hc' : amt p.val qd.val = N)
    {α : Type} {Q : α → sProp 𝕄} {k : PUnit → Prog (TpuEff nD τ sig (Elt F) Λ₀ .tc) α} (q : PosShare TreeShare)
    (fs : S1024x1024.Idx → Elt F .bf16) (G : S512x1024.Idx → Elt F .bf16)
    (hp₁ : dmaPay X c qs.val = ksB c a n q fs) (hp₂ : dmaPay X p qd.val = kwB p a' n fullShare G)
    (hG : ∀ i : S512x1024.Idx, ∀ hi : i ∈ rows 512 a' n, fs (ix2 ⟨a + ((i 0).val - a'), by have := mem_rows.mp hi; omega⟩ (i 1)) = G i)
    (l : List Flow) :
    iprop(ctx X K ∗ ksB c a n q fs ∗ (∃ fd, kwB p a' n fullShare fd) ∗ run c (⟨p, qs, qd, N⟩ :: l))
      ⊢ iprop(((cred (tallyAt (dmaC c qs) () N) ∗ run c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (ksM.slice (Rect.unit (s := S1024x1024) off ![n, 1024] inb) hl)
              (.remote (Dev.tc pd : Thread nD τ) (kwM.slice (Rect.unit (s := S512x1024) off' ![n, 1024] inb') hl') (.dma qs) hsc) (.dma qd) hsrc hdst hsem) k) Q) := by
  iintro ⟨#Hc, Hs, ⟨%fd, Hd⟩, Hr⟩ Hk
  ihave Hs := (Entails.of_eq (ks_slice c a n h0 inb (hl := hl) q fs).symm) $$ Hs
  ihave Hd := (Entails.of_eq (kw_slice p a' n h0' inb' (hl := hl') fullShare fd).symm) $$ Hd
  subst hpd
  iapply (send_step X K c pd pd rfl qs qd N hN hu hc hu' hc' fs fd
    (by rw [hp₁]; exact Entails.of_eq (ks_slice c a n h0 inb (hl := hl) q fs))
    (by
      rw [hp₂]
      refine (Entails.of_eq (kw_slice pd a' n h0' inb' (hl := hl') fullShare _)).trans ?_
      unfold kwB
      exact Entails.of_eq (pointsTo_congr fun i hi => (land_ks_kw a a' n h0 h0' inb inb' ha fs fd i hi).trans (hG i hi)))
    l) $$ [Hs Hd Hr]
  · isplitr; · iexact Hc
    isplitl [Hs]; · iexact Hs
    isplitl [Hd]; · iexact Hd
    iexact Hr
  iexact Hk

theorem send_vs_vw (c p pd : Dev nD) (hpd : pd = p) (qs qd : DmaSem sig) (N a a' n : ℕ) {off off' : Fin 2 → ℕ}
    (h0 : off = ![a, 0]) (h0' : off' = ![a', 0])
    {inb : ∀ i, off i + (![n, 1024] : Fin 2 → ℕ) i ≤ S1024x1024.size i} {inb' : ∀ i, off' i + (![n, 1024] : Fin 2 → ℕ) i ≤ S512x1024.size i} {hl hl'}
    (ha : a + n ≤ 1024)
    {hsc : (vwM.slice (Rect.unit (s := S512x1024) off' ![n, 1024] inb') hl').view.ref.isScScratch = false}
    {hsrc : (vsM.slice (Rect.unit (s := S1024x1024) off ![n, 1024] inb) hl).view.WordExact}
    {hdst : (vwM.slice (Rect.unit (s := S512x1024) off' ![n, 1024] inb') hl').view.WordExact}
    {hsem : DmaTarget.Typed .vmem (.dma qd) (.remote (Dev.tc pd : Thread nD τ) (vwM.slice (Rect.unit (s := S512x1024) off' ![n, 1024] inb') hl') (.dma qs) hsc)}
    (hN : (vwM.slice (Rect.unit (s := S512x1024) off' ![n, 1024] inb') hl').view.amount (.dma qd) = N)
    (hu : used c.val qs.val = true) (hc : amt c.val qs.val = N) (hu' : used p.val qd.val = true) (hc' : amt p.val qd.val = N)
    {α : Type} {Q : α → sProp 𝕄} {k : PUnit → Prog (TpuEff nD τ sig (Elt F) Λ₀ .tc) α} (q : PosShare TreeShare)
    (fs : S1024x1024.Idx → Elt F .bf16) (G : S512x1024.Idx → Elt F .bf16)
    (hp₁ : dmaPay X c qs.val = vsB c a n q fs) (hp₂ : dmaPay X p qd.val = vwB p a' n fullShare G)
    (hG : ∀ i : S512x1024.Idx, ∀ hi : i ∈ rows 512 a' n, fs (ix2 ⟨a + ((i 0).val - a'), by have := mem_rows.mp hi; omega⟩ (i 1)) = G i)
    (l : List Flow) :
    iprop(ctx X K ∗ vsB c a n q fs ∗ (∃ fd, vwB p a' n fullShare fd) ∗ run c (⟨p, qs, qd, N⟩ :: l))
      ⊢ iprop(((cred (tallyAt (dmaC c qs) () N) ∗ run c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (vsM.slice (Rect.unit (s := S1024x1024) off ![n, 1024] inb) hl)
              (.remote (Dev.tc pd : Thread nD τ) (vwM.slice (Rect.unit (s := S512x1024) off' ![n, 1024] inb') hl') (.dma qs) hsc) (.dma qd) hsrc hdst hsem) k) Q) := by
  iintro ⟨#Hc, Hs, ⟨%fd, Hd⟩, Hr⟩ Hk
  ihave Hs := (Entails.of_eq (vs_slice c a n h0 inb (hl := hl) q fs).symm) $$ Hs
  ihave Hd := (Entails.of_eq (vw_slice p a' n h0' inb' (hl := hl') fullShare fd).symm) $$ Hd
  subst hpd
  iapply (send_step X K c pd pd rfl qs qd N hN hu hc hu' hc' fs fd
    (by rw [hp₁]; exact Entails.of_eq (vs_slice c a n h0 inb (hl := hl) q fs))
    (by
      rw [hp₂]
      refine (Entails.of_eq (vw_slice pd a' n h0' inb' (hl := hl') fullShare _)).trans ?_
      unfold vwB
      exact Entails.of_eq (pointsTo_congr fun i hi => (land_vs_vw a a' n h0 h0' inb inb' ha fs fd i hi).trans (hG i hi)))
    l) $$ [Hs Hd Hr]
  · isplitr; · iexact Hc
    isplitl [Hs]; · iexact Hs
    isplitl [Hd]; · iexact Hd
    iexact Hr
  iexact Hk

theorem send_kw_kw (c p pd : Dev nD) (hpd : pd = p) (qs qd : DmaSem sig) (N a a' n : ℕ) {off off' : Fin 2 → ℕ}
    (h0 : off = ![a, 0]) (h0' : off' = ![a', 0])
    {inb : ∀ i, off i + (![n, 1024] : Fin 2 → ℕ) i ≤ S512x1024.size i} {inb' : ∀ i, off' i + (![n, 1024] : Fin 2 → ℕ) i ≤ S512x1024.size i} {hl hl'}
    (ha : a + n ≤ 512)
    {hsc : (kwM.slice (Rect.unit (s := S512x1024) off' ![n, 1024] inb') hl').view.ref.isScScratch = false}
    {hsrc : (kwM.slice (Rect.unit (s := S512x1024) off ![n, 1024] inb) hl).view.WordExact}
    {hdst : (kwM.slice (Rect.unit (s := S512x1024) off' ![n, 1024] inb') hl').view.WordExact}
    {hsem : DmaTarget.Typed .vmem (.dma qd) (.remote (Dev.tc pd : Thread nD τ) (kwM.slice (Rect.unit (s := S512x1024) off' ![n, 1024] inb') hl') (.dma qs) hsc)}
    (hN : (kwM.slice (Rect.unit (s := S512x1024) off' ![n, 1024] inb') hl').view.amount (.dma qd) = N)
    (hu : used c.val qs.val = true) (hc : amt c.val qs.val = N) (hu' : used p.val qd.val = true) (hc' : amt p.val qd.val = N)
    {α : Type} {Q : α → sProp 𝕄} {k : PUnit → Prog (TpuEff nD τ sig (Elt F) Λ₀ .tc) α} (q : PosShare TreeShare)
    (fs : S512x1024.Idx → Elt F .bf16) (G : S512x1024.Idx → Elt F .bf16)
    (hp₁ : dmaPay X c qs.val = kwB c a n q fs) (hp₂ : dmaPay X p qd.val = kwB p a' n fullShare G)
    (hG : ∀ i : S512x1024.Idx, ∀ hi : i ∈ rows 512 a' n, fs (ix2 ⟨a + ((i 0).val - a'), by have := mem_rows.mp hi; omega⟩ (i 1)) = G i)
    (l : List Flow) :
    iprop(ctx X K ∗ kwB c a n q fs ∗ (∃ fd, kwB p a' n fullShare fd) ∗ run c (⟨p, qs, qd, N⟩ :: l))
      ⊢ iprop(((cred (tallyAt (dmaC c qs) () N) ∗ run c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (kwM.slice (Rect.unit (s := S512x1024) off ![n, 1024] inb) hl)
              (.remote (Dev.tc pd : Thread nD τ) (kwM.slice (Rect.unit (s := S512x1024) off' ![n, 1024] inb') hl') (.dma qs) hsc) (.dma qd) hsrc hdst hsem) k) Q) := by
  iintro ⟨#Hc, Hs, ⟨%fd, Hd⟩, Hr⟩ Hk
  ihave Hs := (Entails.of_eq (kw_slice c a n h0 inb (hl := hl) q fs).symm) $$ Hs
  ihave Hd := (Entails.of_eq (kw_slice p a' n h0' inb' (hl := hl') fullShare fd).symm) $$ Hd
  subst hpd
  iapply (send_step X K c pd pd rfl qs qd N hN hu hc hu' hc' fs fd
    (by rw [hp₁]; exact Entails.of_eq (kw_slice c a n h0 inb (hl := hl) q fs))
    (by
      rw [hp₂]
      refine (Entails.of_eq (kw_slice pd a' n h0' inb' (hl := hl') fullShare _)).trans ?_
      unfold kwB
      exact Entails.of_eq (pointsTo_congr fun i hi => (land_kw_kw a a' n h0 h0' inb inb' ha fs fd i hi).trans (hG i hi)))
    l) $$ [Hs Hd Hr]
  · isplitr; · iexact Hc
    isplitl [Hs]; · iexact Hs
    isplitl [Hd]; · iexact Hd
    iexact Hr
  iexact Hk

theorem send_vw_vw (c p pd : Dev nD) (hpd : pd = p) (qs qd : DmaSem sig) (N a a' n : ℕ) {off off' : Fin 2 → ℕ}
    (h0 : off = ![a, 0]) (h0' : off' = ![a', 0])
    {inb : ∀ i, off i + (![n, 1024] : Fin 2 → ℕ) i ≤ S512x1024.size i} {inb' : ∀ i, off' i + (![n, 1024] : Fin 2 → ℕ) i ≤ S512x1024.size i} {hl hl'}
    (ha : a + n ≤ 512)
    {hsc : (vwM.slice (Rect.unit (s := S512x1024) off' ![n, 1024] inb') hl').view.ref.isScScratch = false}
    {hsrc : (vwM.slice (Rect.unit (s := S512x1024) off ![n, 1024] inb) hl).view.WordExact}
    {hdst : (vwM.slice (Rect.unit (s := S512x1024) off' ![n, 1024] inb') hl').view.WordExact}
    {hsem : DmaTarget.Typed .vmem (.dma qd) (.remote (Dev.tc pd : Thread nD τ) (vwM.slice (Rect.unit (s := S512x1024) off' ![n, 1024] inb') hl') (.dma qs) hsc)}
    (hN : (vwM.slice (Rect.unit (s := S512x1024) off' ![n, 1024] inb') hl').view.amount (.dma qd) = N)
    (hu : used c.val qs.val = true) (hc : amt c.val qs.val = N) (hu' : used p.val qd.val = true) (hc' : amt p.val qd.val = N)
    {α : Type} {Q : α → sProp 𝕄} {k : PUnit → Prog (TpuEff nD τ sig (Elt F) Λ₀ .tc) α} (q : PosShare TreeShare)
    (fs : S512x1024.Idx → Elt F .bf16) (G : S512x1024.Idx → Elt F .bf16)
    (hp₁ : dmaPay X c qs.val = vwB c a n q fs) (hp₂ : dmaPay X p qd.val = vwB p a' n fullShare G)
    (hG : ∀ i : S512x1024.Idx, ∀ hi : i ∈ rows 512 a' n, fs (ix2 ⟨a + ((i 0).val - a'), by have := mem_rows.mp hi; omega⟩ (i 1)) = G i)
    (l : List Flow) :
    iprop(ctx X K ∗ vwB c a n q fs ∗ (∃ fd, vwB p a' n fullShare fd) ∗ run c (⟨p, qs, qd, N⟩ :: l))
      ⊢ iprop(((cred (tallyAt (dmaC c qs) () N) ∗ run c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (vwM.slice (Rect.unit (s := S512x1024) off ![n, 1024] inb) hl)
              (.remote (Dev.tc pd : Thread nD τ) (vwM.slice (Rect.unit (s := S512x1024) off' ![n, 1024] inb') hl') (.dma qs) hsc) (.dma qd) hsrc hdst hsem) k) Q) := by
  iintro ⟨#Hc, Hs, ⟨%fd, Hd⟩, Hr⟩ Hk
  ihave Hs := (Entails.of_eq (vw_slice c a n h0 inb (hl := hl) q fs).symm) $$ Hs
  ihave Hd := (Entails.of_eq (vw_slice p a' n h0' inb' (hl := hl') fullShare fd).symm) $$ Hd
  subst hpd
  iapply (send_step X K c pd pd rfl qs qd N hN hu hc hu' hc' fs fd
    (by rw [hp₁]; exact Entails.of_eq (vw_slice c a n h0 inb (hl := hl) q fs))
    (by
      rw [hp₂]
      refine (Entails.of_eq (vw_slice pd a' n h0' inb' (hl := hl') fullShare _)).trans ?_
      unfold vwB
      exact Entails.of_eq (pointsTo_congr fun i hi => (land_vw_vw a a' n h0 h0' inb inb' ha fs fd i hi).trans (hG i hi)))
    l) $$ [Hs Hd Hr]
  · isplitr; · iexact Hc
    isplitl [Hs]; · iexact Hs
    isplitl [Hd]; · iexact Hd
    iexact Hr
  iexact Hk

theorem send_ag_ag (c p pd : Dev nD) (hpd : pd = p) (qs qd : DmaSem sig) (N a a' n : ℕ) {off off' : Fin 2 → ℕ}
    (h0 : off = ![a, 0]) (h0' : off' = ![a', 0])
    {inb : ∀ i, off i + (![n, 1024] : Fin 2 → ℕ) i ≤ S1024x1024.size i} {inb' : ∀ i, off' i + (![n, 1024] : Fin 2 → ℕ) i ≤ S1024x1024.size i} {hl hl'}
    (ha : a + n ≤ 1024)
    {hsc : (agM.slice (Rect.unit (s := S1024x1024) off' ![n, 1024] inb') hl').view.ref.isScScratch = false}
    {hsrc : (agM.slice (Rect.unit (s := S1024x1024) off ![n, 1024] inb) hl).view.WordExact}
    {hdst : (agM.slice (Rect.unit (s := S1024x1024) off' ![n, 1024] inb') hl').view.WordExact}
    {hsem : DmaTarget.Typed .vmem (.dma qd) (.remote (Dev.tc pd : Thread nD τ) (agM.slice (Rect.unit (s := S1024x1024) off' ![n, 1024] inb') hl') (.dma qs) hsc)}
    (hN : (agM.slice (Rect.unit (s := S1024x1024) off' ![n, 1024] inb') hl').view.amount (.dma qd) = N)
    (hu : used c.val qs.val = true) (hc : amt c.val qs.val = N) (hu' : used p.val qd.val = true) (hc' : amt p.val qd.val = N)
    {α : Type} {Q : α → sProp 𝕄} {k : PUnit → Prog (TpuEff nD τ sig (Elt F) Λ₀ .tc) α} (q : PosShare TreeShare)
    (fs : S1024x1024.Idx → Elt F .bf16) (G : S1024x1024.Idx → Elt F .bf16)
    (hp₁ : dmaPay X c qs.val = agB c a n q fs) (hp₂ : dmaPay X p qd.val = agB p a' n fullShare G)
    (hG : ∀ i : S1024x1024.Idx, ∀ hi : i ∈ rows 1024 a' n, fs (ix2 ⟨a + ((i 0).val - a'), by have := mem_rows.mp hi; omega⟩ (i 1)) = G i)
    (l : List Flow) :
    iprop(ctx X K ∗ agB c a n q fs ∗ (∃ fd, agB p a' n fullShare fd) ∗ run c (⟨p, qs, qd, N⟩ :: l))
      ⊢ iprop(((cred (tallyAt (dmaC c qs) () N) ∗ run c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (agM.slice (Rect.unit (s := S1024x1024) off ![n, 1024] inb) hl)
              (.remote (Dev.tc pd : Thread nD τ) (agM.slice (Rect.unit (s := S1024x1024) off' ![n, 1024] inb') hl') (.dma qs) hsc) (.dma qd) hsrc hdst hsem) k) Q) := by
  iintro ⟨#Hc, Hs, ⟨%fd, Hd⟩, Hr⟩ Hk
  ihave Hs := (Entails.of_eq (ag_slice c a n h0 inb (hl := hl) q fs).symm) $$ Hs
  ihave Hd := (Entails.of_eq (ag_slice p a' n h0' inb' (hl := hl') fullShare fd).symm) $$ Hd
  subst hpd
  iapply (send_step X K c pd pd rfl qs qd N hN hu hc hu' hc' fs fd
    (by rw [hp₁]; exact Entails.of_eq (ag_slice c a n h0 inb (hl := hl) q fs))
    (by
      rw [hp₂]
      refine (Entails.of_eq (ag_slice pd a' n h0' inb' (hl := hl') fullShare _)).trans ?_
      unfold agB
      exact Entails.of_eq (pointsTo_congr fun i hi => (land_ag_ag a a' n h0 h0' inb inb' ha fs fd i hi).trans (hG i hi)))
    l) $$ [Hs Hd Hr]
  · isplitr; · iexact Hc
    isplitl [Hs]; · iexact Hs
    isplitl [Hd]; · iexact Hd
    iexact Hr
  iexact Hk

end Sends

end Cert.KernelIdeal.Win
-- ==== Proof.KI.Stage.lean ====
/- Staging: one head of a chunk of the shard loaded from the input block and stored beside the heads before it. -/
module

public import proofs.«01_k».proof.Proof.KI.Moves
public import Idealize.ShloMosaic.Lib.ValueLayout
public import Idealize.ShloMosaic.Lib.Pipeline.Value

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

abbrev kinM : Memref sig .tc .vmem S1x1024x8x128 .bf16 := Memref.whole cc0_stg2_0
abbrev vinM : Memref sig .tc .vmem S1x1024x8x128 .bf16 := Memref.whole cc0_stg3_0

/-- A shard with its eight heads laid side by side. -/
def flat (A : S1x1024x8x128.Idx → Elt F .bf16) : S1024x1024.Idx → Elt F .bf16 := fun i =>
  A (ix4 (0 : Fin 1) (i 0) (⟨(i 1).val / 128, by have : (i 1).val < 1024 := (i 1).isLt; show _ < 8; omega⟩ : Fin 8)
    (⟨(i 1).val % 128, Nat.mod_lt _ (by decide)⟩ : Fin 128))

def kinB (c : Dev nD) (A : S1x1024x8x128.Idx → Elt F .bf16) : sProp 𝕄 := kinM.view.loc (c : Thread nD τ) ↦[Finset.univ]{fullShare} A
def vinB (c : Dev nD) (A : S1x1024x8x128.Idx → Elt F .bf16) : sProp 𝕄 := vinM.view.loc (c : Thread nD τ) ↦[Finset.univ]{fullShare} A

/-- Rows `lo ..< lo + n` of the staging buffer, the first `h` heads in place. -/
def ksS (c : Dev nD) (A : S1x1024x8x128.Idx → Elt F .bf16) (lo n h : ℕ) : sProp 𝕄 :=
  iprop(∃ g, ⌜∀ i ∈ rows 1024 lo n, (i 1).val < 128 * h → g i = flat A i⌝ ∗ ksB c lo n fullShare g)
def vsS (c : Dev nD) (A : S1x1024x8x128.Idx → Elt F .bf16) (lo n h : ℕ) : sProp 𝕄 :=
  iprop(∃ g, ⌜∀ i ∈ rows 1024 lo n, (i 1).val < 128 * h → g i = flat A i⌝ ∗ vsB c lo n fullShare g)

section Pure
omit [FloatOps F] [Named F]

/-- A `[1, a, 1, b]` array cast to `[a, b]`. -/
theorem cast_head {α : Type} {a b : ℕ} (x : (⟨4, ![1, a, 1, b]⟩ : Shape).Idx → α)
    (h : (⟨4, ![1, a, 1, b]⟩ : Shape).ShapeCasts ⟨2, ![a, b]⟩) (h' : (⟨2, ![a, b]⟩ : Shape).ShapeCasts ⟨2, ![a, b]⟩) (j : (⟨2, ![a, b]⟩ : Shape).Idx) :
    shapeCast ⟨2, ![a, b]⟩ (shapeCast ⟨2, ![a, b]⟩ x h) h' j = x (ix4 (0 : Fin 1) (j 0) (0 : Fin 1) (j 1)) := by
  rw [shapeCast_self]
  exact shapeCast_apply x h _ _ (by
    rw [Shape.rowMajor_val_four, Shape.rowMajor_val_two]
    show ((0 * a + (j 0).val) * 1 + 0) * b + (j 1).val = (j 0).val * b + (j 1).val
    rw [Nat.zero_mul, Nat.zero_add, Nat.mul_one, Nat.add_zero])

/-- The head's columns among the rows. -/
theorem mem_head {lo n h : ℕ} {off : Fin 2 → ℕ} (h0 : off = ![lo, 128 * h])
    (inb : ∀ i, off i + (![n, 128] : Fin 2 → ℕ) i ≤ S1024x1024.size i) (i : S1024x1024.Idx) :
    i ∈ (Rect.unit (s := S1024x1024) off ![n, 128] inb).set ↔ i ∈ rows 1024 lo n ∧ 128 * h ≤ (i 1).val ∧ (i 1).val < 128 * h + 128 := by
  subst h0
  rw [Rect.mem_set_unit, mem_rows]
  constructor
  · intro H; exact ⟨H 0, H 1⟩
  · intro H x
    have hx : (x : Fin 2) = 0 ∨ (x : Fin 2) = 1 := by fin_cases x; exact Or.inl rfl; exact Or.inr rfl
    rcases hx with rfl | rfl
    · exact H.1
    · exact H.2

end Pure

section
omit [FloatOps F] [Named F]

theorem ks_head_sub (lo n h : ℕ) {off : Fin 2 → ℕ} (h0 : off = ![lo, 128 * h])
    (inb : ∀ i, off i + (![n, 128] : Fin 2 → ℕ) i ≤ S1024x1024.size i) :
    (ksM.access (Rect.unit (s := S1024x1024) off ![n, 128] inb)).set ⊆ rows 1024 lo n := by
  intro i hi
  have hi' : i ∈ (Rect.unit (s := S1024x1024) off ![n, 128] inb).set := by
    rw [← View.set_slice_whole cc0_scratch0 (Rect.unit (s := S1024x1024) off ![n, 128] inb)]; exact hi
  exact ((mem_head h0 inb i).mp hi').1

/-- What a head's store leaves in the rows. -/
theorem ks_head_store (A : S1x1024x8x128.Idx → Elt F .bf16) (lo n h : ℕ) {off : Fin 2 → ℕ} {off4 : Fin 4 → ℕ} (h0 : off = ![lo, 128 * h]) (h4 : off4 = ![0, lo, h, 0])
    (inb : ∀ i, off i + (![n, 128] : Fin 2 → ℕ) i ≤ S1024x1024.size i)
    (inb4 : ∀ i, off4 i + (![1, n, 1, 128] : Fin 4 → ℕ) i ≤ S1x1024x8x128.size i)
    (hc : (⟨4, ![1, n, 1, 128]⟩ : Shape).ShapeCasts ⟨2, ![n, 128]⟩) (hc' : (⟨2, ![n, 128]⟩ : Shape).ShapeCasts ⟨2, ![n, 128]⟩)
    (g : S1024x1024.Idx → Elt F .bf16) (hg : ∀ i ∈ rows 1024 lo n, (i 1).val < 128 * h → g i = flat A i) :
    ∀ i ∈ rows 1024 lo n, (i 1).val < 128 * (h + 1) →
      (ksM.access (Rect.unit (s := S1024x1024) off ![n, 128] inb)).write (Elt F) g
        (shapeCast ⟨2, ![n, 128]⟩ (shapeCast ⟨2, ![n, 128]⟩
          (kinM.view.readAt (Elt F) (Rect.unit (s := S1x1024x8x128) off4 ![1, n, 1, 128] inb4).toLoadRect A) hc) hc') Finset.univ i = flat A i := by
  intro i hi hcol
  by_cases hm : i ∈ (Rect.unit (s := S1024x1024) off ![n, 128] inb).set
  · have hb := ((mem_head h0 inb i).mp hm).2
    rw [← Rect.map_emb_univ, Finset.mem_map] at hm
    obtain ⟨j, -, rfl⟩ := hm
    refine (View.write_emb_of_mem (v := ksM.access (Rect.unit (s := S1024x1024) off ![n, 128] inb)) g _ (Finset.mem_univ j)).trans ?_
    refine (cast_head (a := n) (b := 128) (kinM.view.readAt (Elt F) (Rect.unit (s := S1x1024x8x128) off4 ![1, n, 1, 128] inb4).toLoadRect A) hc hc' j).trans ?_
    subst h0; subst h4
    refine congrArg A (funext fun x => ?_)
    have hj1 : (j 1).val < 128 := (j 1).isLt
    match x with
    | ⟨0, _⟩ => exact Fin.ext (show 0 + 1 * 0 = 0 from rfl)
    | ⟨1, _⟩ => exact Fin.ext (show lo + 1 * (j 0).val = lo + 1 * (j 0).val from rfl)
    | ⟨2, _⟩ => exact Fin.ext (show h + 1 * 0 = (128 * h + 1 * (j 1).val) / 128 by omega)
    | ⟨3, _⟩ => exact Fin.ext (show 0 + 1 * (j 1).val = (128 * h + 1 * (j 1).val) % 128 by omega)
  · have hlt : (i 1).val < 128 * h := by
      by_contra hn
      exact hm ((mem_head h0 inb i).mpr ⟨hi, by omega, by omega⟩)
    refine (View.write_of_not_mem (v := ksM.access (Rect.unit (s := S1024x1024) off ![n, 128] inb)) g _ Finset.univ ?_).trans (hg i hi hlt)
    intro hs
    exact hm (by
      rw [← View.set_slice_whole cc0_scratch0 (Rect.unit (s := S1024x1024) off ![n, 128] inb)]; exact hs)

theorem ksS_start (c : Dev nD) (A : S1x1024x8x128.Idx → Elt F .bf16) (lo n : ℕ) (g : S1024x1024.Idx → Elt F .bf16) :
    (ksB c lo n fullShare g : sProp 𝕄) ⊢ ksS c A lo n 0 := by
  unfold ksS
  iintro H
  iexists g
  isplitr; · ipureintro; intro i _ h; exact absurd h (Nat.not_lt_zero _)
  iexact H

theorem ksS_done (c : Dev nD) (A : S1x1024x8x128.Idx → Elt F .bf16) (lo n : ℕ) :
    (ksS c A lo n 8 : sProp 𝕄) ⊢ ksB c lo n fullShare (flat A) := by
  unfold ksS ksB
  iintro ⟨%g, %hg, H⟩
  iapply (Entails.of_eq (pointsTo_congr (g := flat A) fun i hi => hg i hi (by have : (i 1).val < 1024 := (i 1).isLt; omega)))
  iexact H

end

theorem load_kin {α : Type} {Q : α → sProp 𝕄} (c : Dev nD) (A : S1x1024x8x128.Idx → Elt F .bf16) {r : LoadRect S1x1024x8x128} {hl : kinM.view.LoadsAt r}
    {k : (r.shape.Idx → Elt F .bf16) → Prog (TpuEff nD τ sig (Elt F) Λ₀ .tc) α} :
    (kinB c A : sProp 𝕄) ⊢ iprop((kinB c A -∗ wp frame (wpE (defs₀ (F := F)) 𝒱₀ (c : Thread nD τ) none) Set.univ (k (kinM.view.readAt (Elt F) r A)) Q)
      -∗ wp frame (wpE (defs₀ (F := F)) 𝒱₀ (c : Thread nD τ) none) Set.univ (.op (.load kinM r hl) k) Q) := by
  unfold kinB
  exact wp_load 𝒱₀ (c : Thread nD τ) none Set.univ (m := kinM) (Finset.subset_univ _)

theorem load_ks {α : Type} {Q : α → sProp 𝕄} (c : Dev nD) (A : S1x1024x8x128.Idx → Elt F .bf16) (lo n h : ℕ) {off : Fin 2 → ℕ} {k1 : ℕ} (h0 : off = ![lo, 128 * k1])
    {inb : ∀ i, off i + (![n, 128] : Fin 2 → ℕ) i ≤ S1024x1024.size i}
    {hl : ksM.view.LoadsAt (Rect.unit (s := S1024x1024) off ![n, 128] inb).toLoadRect}
    {k : ((⟨2, ![n, 128]⟩ : Shape).Idx → Elt F .bf16) → Prog (TpuEff nD τ sig (Elt F) Λ₀ .tc) α} :
    (ksS c A lo n h : sProp 𝕄) ⊢ iprop((∀ v, ksS c A lo n h -∗ wp frame (wpE (defs₀ (F := F)) 𝒱₀ (c : Thread nD τ) none) Set.univ (k v) Q)
      -∗ wp frame (wpE (defs₀ (F := F)) 𝒱₀ (c : Thread nD τ) none) Set.univ
          (.op (.load ksM (Rect.unit (s := S1024x1024) off ![n, 128] inb).toLoadRect hl) k) Q) := by
  unfold ksS ksB
  iintro ⟨%g, %hg, H⟩ Hk
  iapply (wp_load_rect 𝒱₀ (c : Thread nD τ) none Set.univ (m := ksM) (r := Rect.unit (s := S1024x1024) off ![n, 128] inb) (ks_head_sub lo n k1 h0 inb)) $$ H
  iintro H
  iapply Hk
  iexists g
  isplitr; · ipureintro; exact hg
  iexact H

theorem store_ks {α : Type} {Q : α → sProp 𝕄} (c : Dev nD) (A : S1x1024x8x128.Idx → Elt F .bf16) (lo n h : ℕ) {off : Fin 2 → ℕ} {off4 : Fin 4 → ℕ} (h0 : off = ![lo, 128 * h]) (h4 : off4 = ![0, lo, h, 0])
    {inb : ∀ i, off i + (![n, 128] : Fin 2 → ℕ) i ≤ S1024x1024.size i}
    {inb4 : ∀ i, off4 i + (![1, n, 1, 128] : Fin 4 → ℕ) i ≤ S1x1024x8x128.size i}
    {hc : (⟨4, ![1, n, 1, 128]⟩ : Shape).ShapeCasts ⟨2, ![n, 128]⟩} {hc' : (⟨2, ![n, 128]⟩ : Shape).ShapeCasts ⟨2, ![n, 128]⟩}
    {w : (⟨2, ![n, 128]⟩ : Shape).Idx → Elt F .bf16}
    (hw : w = shapeCast ⟨2, ![n, 128]⟩ (shapeCast ⟨2, ![n, 128]⟩
          (kinM.view.readAt (Elt F) (Rect.unit (s := S1x1024x8x128) off4 ![1, n, 1, 128] inb4).toLoadRect A) hc) hc')
    {hs hx} {k : PUnit → Prog (TpuEff nD τ sig (Elt F) Λ₀ .tc) α} :
    (ksS c A lo n h : sProp 𝕄) ⊢ iprop((ksS c A lo n (h + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.store ksM (Rect.unit (s := S1024x1024) off ![n, 128] inb) w Finset.univ hs hx) k) Q) := by
  subst hw
  unfold ksS ksB
  iintro ⟨%g, %hg, H⟩ Hk
  iapply (wp_store 𝒱₀ (c : Thread nD τ) none Set.univ (m := ksM) (r := Rect.unit (s := S1024x1024) off ![n, 128] inb) (Mk := Finset.univ)
    (ks_head_sub lo n h h0 inb)) $$ H
  iintro H
  iapply Hk
  iexists _
  isplitr; · ipureintro; exact ks_head_store A lo n h h0 h4 inb inb4 hc hc' g hg
  iexact H

/-- One head staged. -/
theorem stage_ks {α : Type} {Q : α → sProp 𝕄} (c : Dev nD) (A : S1x1024x8x128.Idx → Elt F .bf16) (lo n h : ℕ) {off : Fin 2 → ℕ} {off4 : Fin 4 → ℕ} (h0 : off = ![lo, 128 * h]) (h4 : off4 = ![0, lo, h, 0])
    {inb : ∀ i, off i + (![n, 128] : Fin 2 → ℕ) i ≤ S1024x1024.size i}
    {inb4 : ∀ i, off4 i + (![1, n, 1, 128] : Fin 4 → ℕ) i ≤ S1x1024x8x128.size i}
    (hc : (⟨4, ![1, n, 1, 128]⟩ : Shape).ShapeCasts ⟨2, ![n, 128]⟩) (hc' : (⟨2, ![n, 128]⟩ : Shape).ShapeCasts ⟨2, ![n, 128]⟩)
    {pay : ((⟨4, ![1, n, 1, 128]⟩ : Shape).Idx → Elt F .bf16) → (⟨2, ![n, 128]⟩ : Shape).Idx → Elt F .bf16}
    (hw : ∀ v, pay v = shapeCast ⟨2, ![n, 128]⟩ (shapeCast ⟨2, ![n, 128]⟩ v hc) hc')
    {hl : kinM.view.LoadsAt (Rect.unit (s := S1x1024x8x128) off4 ![1, n, 1, 128] inb4).toLoadRect}
    {hl' : ksM.view.LoadsAt (Rect.unit (s := S1024x1024) off ![n, 128] inb).toLoadRect}
    {hs hx} {k : PUnit → Prog (TpuEff nD τ sig (Elt F) Λ₀ .tc) α} :
    iprop(kinB c A ∗ ksS c A lo n h) ⊢ iprop((((kinB c A : sProp 𝕄) ∗ ksS c A lo n (h + 1)) -∗ wp frame (wpE (defs₀ (F := F)) 𝒱₀ (c : Thread nD τ) none) Set.univ (k ⟨⟩) Q)
      -∗ wp frame (wpE (defs₀ (F := F)) 𝒱₀ (c : Thread nD τ) none) Set.univ
          (.op (.load kinM (Rect.unit (s := S1x1024x8x128) off4 ![1, n, 1, 128] inb4).toLoadRect hl) fun v =>
            .op (.load ksM (Rect.unit (s := S1024x1024) off ![n, 128] inb).toLoadRect hl') fun _ =>
              .op (.store ksM (Rect.unit (s := S1024x1024) off ![n, 128] inb) (pay v) Finset.univ hs hx) k) Q) := by
  iintro ⟨HA, H⟩ Hk
  iapply (load_kin c A) $$ HA; iintro HA
  iapply (load_ks c A lo n h h0) $$ H; iintro %v H
  iapply (store_ks c A lo n h h0 h4 (hw _)) $$ H; iintro H
  iapply Hk
  isplitl [HA] <;> iassumption

section
omit [FloatOps F] [Named F]

theorem vs_head_sub (lo n h : ℕ) {off : Fin 2 → ℕ} (h0 : off = ![lo, 128 * h])
    (inb : ∀ i, off i + (![n, 128] : Fin 2 → ℕ) i ≤ S1024x1024.size i) :
    (vsM.access (Rect.unit (s := S1024x1024) off ![n, 128] inb)).set ⊆ rows 1024 lo n := by
  intro i hi
  have hi' : i ∈ (Rect.unit (s := S1024x1024) off ![n, 128] inb).set := by
    rw [← View.set_slice_whole cc0_scratch1 (Rect.unit (s := S1024x1024) off ![n, 128] inb)]; exact hi
  exact ((mem_head h0 inb i).mp hi').1

/-- What a head's store leaves in the rows. -/
theorem vs_head_store (A : S1x1024x8x128.Idx → Elt F .bf16) (lo n h : ℕ) {off : Fin 2 → ℕ} {off4 : Fin 4 → ℕ} (h0 : off = ![lo, 128 * h]) (h4 : off4 = ![0, lo, h, 0])
    (inb : ∀ i, off i + (![n, 128] : Fin 2 → ℕ) i ≤ S1024x1024.size i)
    (inb4 : ∀ i, off4 i + (![1, n, 1, 128] : Fin 4 → ℕ) i ≤ S1x1024x8x128.size i)
    (hc : (⟨4, ![1, n, 1, 128]⟩ : Shape).ShapeCasts ⟨2, ![n, 128]⟩) (hc' : (⟨2, ![n, 128]⟩ : Shape).ShapeCasts ⟨2, ![n, 128]⟩)
    (g : S1024x1024.Idx → Elt F .bf16) (hg : ∀ i ∈ rows 1024 lo n, (i 1).val < 128 * h → g i = flat A i) :
    ∀ i ∈ rows 1024 lo n, (i 1).val < 128 * (h + 1) →
      (vsM.access (Rect.unit (s := S1024x1024) off ![n, 128] inb)).write (Elt F) g
        (shapeCast ⟨2, ![n, 128]⟩ (shapeCast ⟨2, ![n, 128]⟩
          (vinM.view.readAt (Elt F) (Rect.unit (s := S1x1024x8x128) off4 ![1, n, 1, 128] inb4).toLoadRect A) hc) hc') Finset.univ i = flat A i := by
  intro i hi hcol
  by_cases hm : i ∈ (Rect.unit (s := S1024x1024) off ![n, 128] inb).set
  · have hb := ((mem_head h0 inb i).mp hm).2
    rw [← Rect.map_emb_univ, Finset.mem_map] at hm
    obtain ⟨j, -, rfl⟩ := hm
    refine (View.write_emb_of_mem (v := vsM.access (Rect.unit (s := S1024x1024) off ![n, 128] inb)) g _ (Finset.mem_univ j)).trans ?_
    refine (cast_head (a := n) (b := 128) (vinM.view.readAt (Elt F) (Rect.unit (s := S1x1024x8x128) off4 ![1, n, 1, 128] inb4).toLoadRect A) hc hc' j).trans ?_
    subst h0; subst h4
    refine congrArg A (funext fun x => ?_)
    have hj1 : (j 1).val < 128 := (j 1).isLt
    match x with
    | ⟨0, _⟩ => exact Fin.ext (show 0 + 1 * 0 = 0 from rfl)
    | ⟨1, _⟩ => exact Fin.ext (show lo + 1 * (j 0).val = lo + 1 * (j 0).val from rfl)
    | ⟨2, _⟩ => exact Fin.ext (show h + 1 * 0 = (128 * h + 1 * (j 1).val) / 128 by omega)
    | ⟨3, _⟩ => exact Fin.ext (show 0 + 1 * (j 1).val = (128 * h + 1 * (j 1).val) % 128 by omega)
  · have hlt : (i 1).val < 128 * h := by
      by_contra hn
      exact hm ((mem_head h0 inb i).mpr ⟨hi, by omega, by omega⟩)
    refine (View.write_of_not_mem (v := vsM.access (Rect.unit (s := S1024x1024) off ![n, 128] inb)) g _ Finset.univ ?_).trans (hg i hi hlt)
    intro hs
    exact hm (by
      rw [← View.set_slice_whole cc0_scratch1 (Rect.unit (s := S1024x1024) off ![n, 128] inb)]; exact hs)

theorem vsS_start (c : Dev nD) (A : S1x1024x8x128.Idx → Elt F .bf16) (lo n : ℕ) (g : S1024x1024.Idx → Elt F .bf16) :
    (vsB c lo n fullShare g : sProp 𝕄) ⊢ vsS c A lo n 0 := by
  unfold vsS
  iintro H
  iexists g
  isplitr; · ipureintro; intro i _ h; exact absurd h (Nat.not_lt_zero _)
  iexact H

theorem vsS_done (c : Dev nD) (A : S1x1024x8x128.Idx → Elt F .bf16) (lo n : ℕ) :
    (vsS c A lo n 8 : sProp 𝕄) ⊢ vsB c lo n fullShare (flat A) := by
  unfold vsS vsB
  iintro ⟨%g, %hg, H⟩
  iapply (Entails.of_eq (pointsTo_congr (g := flat A) fun i hi => hg i hi (by have : (i 1).val < 1024 := (i 1).isLt; omega)))
  iexact H

end

theorem load_vin {α : Type} {Q : α → sProp 𝕄} (c : Dev nD) (A : S1x1024x8x128.Idx → Elt F .bf16) {r : LoadRect S1x1024x8x128} {hl : vinM.view.LoadsAt r}
    {k : (r.shape.Idx → Elt F .bf16) → Prog (TpuEff nD τ sig (Elt F) Λ₀ .tc) α} :
    (vinB c A : sProp 𝕄) ⊢ iprop((vinB c A -∗ wp frame (wpE (defs₀ (F := F)) 𝒱₀ (c : Thread nD τ) none) Set.univ (k (vinM.view.readAt (Elt F) r A)) Q)
      -∗ wp frame (wpE (defs₀ (F := F)) 𝒱₀ (c : Thread nD τ) none) Set.univ (.op (.load vinM r hl) k) Q) := by
  unfold vinB
  exact wp_load 𝒱₀ (c : Thread nD τ) none Set.univ (m := vinM) (Finset.subset_univ _)

theorem load_vs {α : Type} {Q : α → sProp 𝕄} (c : Dev nD) (A : S1x1024x8x128.Idx → Elt F .bf16) (lo n h : ℕ) {off : Fin 2 → ℕ} {k1 : ℕ} (h0 : off = ![lo, 128 * k1])
    {inb : ∀ i, off i + (![n, 128] : Fin 2 → ℕ) i ≤ S1024x1024.size i}
    {hl : vsM.view.LoadsAt (Rect.unit (s := S1024x1024) off ![n, 128] inb).toLoadRect}
    {k : ((⟨2, ![n, 128]⟩ : Shape).Idx → Elt F .bf16) → Prog (TpuEff nD τ sig (Elt F) Λ₀ .tc) α} :
    (vsS c A lo n h : sProp 𝕄) ⊢ iprop((∀ v, vsS c A lo n h -∗ wp frame (wpE (defs₀ (F := F)) 𝒱₀ (c : Thread nD τ) none) Set.univ (k v) Q)
      -∗ wp frame (wpE (defs₀ (F := F)) 𝒱₀ (c : Thread nD τ) none) Set.univ
          (.op (.load vsM (Rect.unit (s := S1024x1024) off ![n, 128] inb).toLoadRect hl) k) Q) := by
  unfold vsS vsB
  iintro ⟨%g, %hg, H⟩ Hk
  iapply (wp_load_rect 𝒱₀ (c : Thread nD τ) none Set.univ (m := vsM) (r := Rect.unit (s := S1024x1024) off ![n, 128] inb) (vs_head_sub lo n k1 h0 inb)) $$ H
  iintro H
  iapply Hk
  iexists g
  isplitr; · ipureintro; exact hg
  iexact H

theorem store_vs {α : Type} {Q : α → sProp 𝕄} (c : Dev nD) (A : S1x1024x8x128.Idx → Elt F .bf16) (lo n h : ℕ) {off : Fin 2 → ℕ} {off4 : Fin 4 → ℕ} (h0 : off = ![lo, 128 * h]) (h4 : off4 = ![0, lo, h, 0])
    {inb : ∀ i, off i + (![n, 128] : Fin 2 → ℕ) i ≤ S1024x1024.size i}
    {inb4 : ∀ i, off4 i + (![1, n, 1, 128] : Fin 4 → ℕ) i ≤ S1x1024x8x128.size i}
    {hc : (⟨4, ![1, n, 1, 128]⟩ : Shape).ShapeCasts ⟨2, ![n, 128]⟩} {hc' : (⟨2, ![n, 128]⟩ : Shape).ShapeCasts ⟨2, ![n, 128]⟩}
    {w : (⟨2, ![n, 128]⟩ : Shape).Idx → Elt F .bf16}
    (hw : w = shapeCast ⟨2, ![n, 128]⟩ (shapeCast ⟨2, ![n, 128]⟩
          (vinM.view.readAt (Elt F) (Rect.unit (s := S1x1024x8x128) off4 ![1, n, 1, 128] inb4).toLoadRect A) hc) hc')
    {hs hx} {k : PUnit → Prog (TpuEff nD τ sig (Elt F) Λ₀ .tc) α} :
    (vsS c A lo n h : sProp 𝕄) ⊢ iprop((vsS c A lo n (h + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.store vsM (Rect.unit (s := S1024x1024) off ![n, 128] inb) w Finset.univ hs hx) k) Q) := by
  subst hw
  unfold vsS vsB
  iintro ⟨%g, %hg, H⟩ Hk
  iapply (wp_store 𝒱₀ (c : Thread nD τ) none Set.univ (m := vsM) (r := Rect.unit (s := S1024x1024) off ![n, 128] inb) (Mk := Finset.univ)
    (vs_head_sub lo n h h0 inb)) $$ H
  iintro H
  iapply Hk
  iexists _
  isplitr; · ipureintro; exact vs_head_store A lo n h h0 h4 inb inb4 hc hc' g hg
  iexact H

/-- One head staged. -/
theorem stage_vs {α : Type} {Q : α → sProp 𝕄} (c : Dev nD) (A : S1x1024x8x128.Idx → Elt F .bf16) (lo n h : ℕ) {off : Fin 2 → ℕ} {off4 : Fin 4 → ℕ} (h0 : off = ![lo, 128 * h]) (h4 : off4 = ![0, lo, h, 0])
    {inb : ∀ i, off i + (![n, 128] : Fin 2 → ℕ) i ≤ S1024x1024.size i}
    {inb4 : ∀ i, off4 i + (![1, n, 1, 128] : Fin 4 → ℕ) i ≤ S1x1024x8x128.size i}
    (hc : (⟨4, ![1, n, 1, 128]⟩ : Shape).ShapeCasts ⟨2, ![n, 128]⟩) (hc' : (⟨2, ![n, 128]⟩ : Shape).ShapeCasts ⟨2, ![n, 128]⟩)
    {pay : ((⟨4, ![1, n, 1, 128]⟩ : Shape).Idx → Elt F .bf16) → (⟨2, ![n, 128]⟩ : Shape).Idx → Elt F .bf16}
    (hw : ∀ v, pay v = shapeCast ⟨2, ![n, 128]⟩ (shapeCast ⟨2, ![n, 128]⟩ v hc) hc')
    {hl : vinM.view.LoadsAt (Rect.unit (s := S1x1024x8x128) off4 ![1, n, 1, 128] inb4).toLoadRect}
    {hl' : vsM.view.LoadsAt (Rect.unit (s := S1024x1024) off ![n, 128] inb).toLoadRect}
    {hs hx} {k : PUnit → Prog (TpuEff nD τ sig (Elt F) Λ₀ .tc) α} :
    iprop(vinB c A ∗ vsS c A lo n h) ⊢ iprop((((vinB c A : sProp 𝕄) ∗ vsS c A lo n (h + 1)) -∗ wp frame (wpE (defs₀ (F := F)) 𝒱₀ (c : Thread nD τ) none) Set.univ (k ⟨⟩) Q)
      -∗ wp frame (wpE (defs₀ (F := F)) 𝒱₀ (c : Thread nD τ) none) Set.univ
          (.op (.load vinM (Rect.unit (s := S1x1024x8x128) off4 ![1, n, 1, 128] inb4).toLoadRect hl) fun v =>
            .op (.load vsM (Rect.unit (s := S1024x1024) off ![n, 128] inb).toLoadRect hl') fun _ =>
              .op (.store vsM (Rect.unit (s := S1024x1024) off ![n, 128] inb) (pay v) Finset.univ hs hx) k) Q) := by
  iintro ⟨HA, H⟩ Hk
  iapply (load_vin c A) $$ HA; iintro HA
  iapply (load_vs c A lo n h h0) $$ H; iintro %v H
  iapply (store_vs c A lo n h h0 h4 (hw _)) $$ H; iintro H
  iapply Hk
  isplitl [HA] <;> iassumption

end Cert.KernelIdeal.Win
-- ==== Proof.KI.Window.lean ====
/- Which rows of the keys and values the rows of a window are. -/
module

public import proofs.«01_k».proof.Proof.KI.Moves
public import proofs.«01_k».proof.Proof.KI.Stage

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

/-! ## Which rows of the keys a window's rows are -/

omit [FloatOps F] [Named F] in
theorem win_k (X : Cont F) (d p : Dev nD) (a a' n : ℕ) (hd : d.val ≤ 1) (ha : a + n ≤ 1024) (h : wst p + a' = 1024 * d.val + a) :
    ∀ i : S512x1024.Idx, ∀ hi : i ∈ rows 512 a' n,
      X.k d (ix2 ⟨a + ((i 0).val - a'), by have := mem_rows.mp hi; omega⟩ (i 1)) = X.kw p i := by
  intro i hi
  have hr := mem_rows.mp hi
  unfold Cont.kw winOf rowAt
  have e : wst p + (i 0).val = 1024 * d.val + (a + ((i 0).val - a')) := by omega
  have e0 : (if wst p + (i 0).val < 1024 then (0 : Dev nD) else 1) = d := by
    have : d = 0 ∨ d = 1 := by
      rcases d with ⟨d, hd'⟩; have : d ≤ 1 := hd
      rcases Nat.le_one_iff_eq_zero_or_eq_one.mp this with rfl | rfl
      · exact Or.inl rfl
      · exact Or.inr rfl
    rcases this with rfl | rfl
    · rw [if_pos]; rw [e]; have : ((0 : Dev nD) : Fin 4).val = 0 := rfl; omega
    · rw [if_neg]; rw [e]; have : ((1 : Dev nD) : Fin 4).val = 1 := rfl; omega
  rw [e0]
  congr 2
  exact Fin.ext (by show a + ((i 0).val - a') = (wst p + (i 0).val) % 1024; omega)

omit [FloatOps F] [Named F] in
theorem fwd_k (X : Cont F) (d p : Dev nD) (a a' n : ℕ) (ha : a + n ≤ 512) (h : wst p + a' = wst d + a) :
    ∀ i : S512x1024.Idx, ∀ hi : i ∈ rows 512 a' n,
      X.kw d (ix2 ⟨a + ((i 0).val - a'), by have := mem_rows.mp hi; omega⟩ (i 1)) = X.kw p i := by
  intro i hi
  have hr := mem_rows.mp hi
  unfold Cont.kw winOf
  have e : wst d + (a + ((i 0).val - a')) = wst p + (i 0).val := by omega
  show rowAt X.k (wst d + (a + ((i 0).val - a'))) (i 1) = rowAt X.k (wst p + (i 0).val) (i 1)
  rw [e]

omit [FloatOps F] [Named F] in
theorem win_v (X : Cont F) (d p : Dev nD) (a a' n : ℕ) (hd : d.val ≤ 1) (ha : a + n ≤ 1024) (h : wst p + a' = 1024 * d.val + a) :
    ∀ i : S512x1024.Idx, ∀ hi : i ∈ rows 512 a' n,
      X.v d (ix2 ⟨a + ((i 0).val - a'), by have := mem_rows.mp hi; omega⟩ (i 1)) = X.vw p i := by
  intro i hi
  have hr := mem_rows.mp hi
  unfold Cont.vw winOf rowAt
  have e : wst p + (i 0).val = 1024 * d.val + (a + ((i 0).val - a')) := by omega
  have e0 : (if wst p + (i 0).val < 1024 then (0 : Dev nD) else 1) = d := by
    have : d = 0 ∨ d = 1 := by
      rcases d with ⟨d, hd'⟩; have : d ≤ 1 := hd
      rcases Nat.le_one_iff_eq_zero_or_eq_one.mp this with rfl | rfl
      · exact Or.inl rfl
      · exact Or.inr rfl
    rcases this with rfl | rfl
    · rw [if_pos]; rw [e]; have : ((0 : Dev nD) : Fin 4).val = 0 := rfl; omega
    · rw [if_neg]; rw [e]; have : ((1 : Dev nD) : Fin 4).val = 1 := rfl; omega
  rw [e0]
  congr 2
  exact Fin.ext (by show a + ((i 0).val - a') = (wst p + (i 0).val) % 1024; omega)

omit [FloatOps F] [Named F] in
theorem fwd_v (X : Cont F) (d p : Dev nD) (a a' n : ℕ) (ha : a + n ≤ 512) (h : wst p + a' = wst d + a) :
    ∀ i : S512x1024.Idx, ∀ hi : i ∈ rows 512 a' n,
      X.vw d (ix2 ⟨a + ((i 0).val - a'), by have := mem_rows.mp hi; omega⟩ (i 1)) = X.vw p i := by
  intro i hi
  have hr := mem_rows.mp hi
  unfold Cont.vw winOf
  have e : wst d + (a + ((i 0).val - a')) = wst p + (i 0).val := by omega
  show rowAt X.v (wst d + (a + ((i 0).val - a'))) (i 1) = rowAt X.v (wst p + (i 0).val) (i 1)
  rw [e]

end Cert.KernelIdeal.Win
-- ==== Proof.KI.Loads.lean ====
/- Loads and stores of whole buffers. -/
module

public import proofs.«01_k».proof.Proof.KI.Window

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

abbrev xinM : Memref sig .tc .vmem S1x1024x1024 .bf16 := Memref.whole cc0_stg0_0
abbrev wqM : Memref sig .tc .vmem S1024x1024 .bf16 := Memref.whole cc0_stg1_0
abbrev woM : Memref sig .tc .vmem S1024x1024 .bf16 := Memref.whole cc0_stg4_0
abbrev outM : Memref sig .tc .vmem S1x1024x1024 .f32 := Memref.whole cc0_stg5_0

def xB (c : Dev nD) (f : S1x1024x1024.Idx → Elt F .bf16) : sProp 𝕄 := xinM.view.loc (c : Thread nD τ) ↦[Finset.univ]{fullShare} f
def wqB (c : Dev nD) (f : S1024x1024.Idx → Elt F .bf16) : sProp 𝕄 := wqM.view.loc (c : Thread nD τ) ↦[Finset.univ]{fullShare} f
def woB (c : Dev nD) (f : S1024x1024.Idx → Elt F .bf16) : sProp 𝕄 := woM.view.loc (c : Thread nD τ) ↦[Finset.univ]{fullShare} f
def outB (c : Dev nD) (f : S1x1024x1024.Idx → Elt F .f32) : sProp 𝕄 := outM.view.loc (c : Thread nD τ) ↦[Finset.univ]{fullShare} f

omit [FloatOps F] [Named F] in
theorem z2 : (![0, 0] : Fin 2 → ℕ) = fun _ => 0 := by funext i; fin_cases i <;> rfl
omit [FloatOps F] [Named F] in
theorem z3 : (![0, 0, 0] : Fin 3 → ℕ) = fun _ => 0 := by funext i; fin_cases i <;> rfl

theorem load_kw {α : Type} {Q : α → sProp 𝕄} (c : Dev nD) (q : PosShare TreeShare) (f : S512x1024.Idx → Elt F .bf16)
    {inb : ∀ i, (![0, 0] : Fin _ → ℕ) i + S512x1024.size i ≤ S512x1024.size i}
    {hl : kwM.view.LoadsAt (Rect.unit (s := S512x1024) ![0, 0] S512x1024.size inb).toLoadRect}
    {k : (S512x1024.Idx → Elt F .bf16) → Prog (TpuEff nD τ sig (Elt F) Λ₀ .tc) α} :
    (kwB c 0 512 q f : sProp 𝕄) ⊢ iprop((kwB c 0 512 q f -∗ wp frame (wpE (defs₀ (F := F)) 𝒱₀ (c : Thread nD τ) none) Set.univ (k f) Q)
      -∗ wp frame (wpE (defs₀ (F := F)) 𝒱₀ (c : Thread nD τ) none) Set.univ (.op (.load kwM (Rect.unit (s := S512x1024) ![0, 0] S512x1024.size inb).toLoadRect hl) k) Q) := by
  unfold kwB
  iintro H Hk
  iapply (wp_load_rect 𝒱₀ (c : Thread nD τ) none Set.univ (m := kwM) (r := Rect.unit (s := S512x1024) ![0, 0] S512x1024.size inb) (by rw [rows_all]; exact Finset.subset_univ _)) $$ H
  iintro H
  ihave Hk := (Entails.of_eq (congrArg (fun g => iprop((kwM.view.loc (c : Thread nD τ) ↦[rows 512 0 512]{q} f) -∗ wp frame (wpE (defs₀ (F := F)) 𝒱₀ (c : Thread nD τ) none) Set.univ (k g) Q)) (Memref.readAt_unit_zero (Elt F) cc0_scratch2 z2 inb f).symm)) $$ Hk
  iapply Hk; iexact H

theorem load0_ks {α : Type} {Q : α → sProp 𝕄} (c : Dev nD) (q : PosShare TreeShare) (f : S1024x1024.Idx → Elt F .bf16)
    {inb : ∀ i, (![0, 0] : Fin _ → ℕ) i + S512x1024.size i ≤ S1024x1024.size i}
    {hl : ksM.view.LoadsAt (Rect.unit (s := S1024x1024) ![0, 0] S512x1024.size inb).toLoadRect}
    {k : (S512x1024.Idx → Elt F .bf16) → Prog (TpuEff nD τ sig (Elt F) Λ₀ .tc) α} :
    (ksB c 0 512 q f : sProp 𝕄) ⊢ iprop((ksB c 0 512 q f -∗ wp frame (wpE (defs₀ (F := F)) 𝒱₀ (c : Thread nD τ) none) Set.univ (k (ksM.view.readAt (Elt F) (Rect.unit (s := S1024x1024) ![0, 0] S512x1024.size inb).toLoadRect f)) Q)
      -∗ wp frame (wpE (defs₀ (F := F)) 𝒱₀ (c : Thread nD τ) none) Set.univ (.op (.load ksM (Rect.unit (s := S1024x1024) ![0, 0] S512x1024.size inb).toLoadRect hl) k) Q) := by
  unfold ksB
  iintro H Hk
  iapply (wp_load_rect 𝒱₀ (c : Thread nD τ) none Set.univ (m := ksM) (r := Rect.unit (s := S1024x1024) ![0, 0] S512x1024.size inb) (by intro i hi; rw [← set_unit_rows 1024 0 512 _ _ rfl rfl inb, ← View.set_slice_whole cc0_scratch0 (Rect.unit (s := S1024x1024) ![0, 0] S512x1024.size inb)]; exact hi)) $$ H
  iintro H
  iapply Hk; iexact H

omit [FloatOps F] [Named F] in
theorem kwB_whole (c : Dev nD) (q : PosShare TreeShare) (f : S512x1024.Idx → Elt F .bf16) :
    (kwB c 0 512 q f : sProp 𝕄) = (kwM.view.loc (c : Thread nD τ) ↦[Finset.univ]{q} f) := by unfold kwB; rw [rows_all]

theorem store_kw {α : Type} {Q : α → sProp 𝕄} (c : Dev nD) (f w : S512x1024.Idx → Elt F .bf16)
    {inb : ∀ i, (![0, 0] : Fin _ → ℕ) i + S512x1024.size i ≤ S512x1024.size i}
    {hs hx} {k : PUnit → Prog (TpuEff nD τ sig (Elt F) Λ₀ .tc) α} :
    (kwB c 0 512 fullShare f : sProp 𝕄) ⊢ iprop((kwB c 0 512 fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store kwM (Rect.unit (s := S512x1024) ![0, 0] S512x1024.size inb) w Finset.univ hs hx) k) Q) := by
  rw [kwB_whole, kwB_whole]
  iintro H Hk
  iapply (wp_store 𝒱₀ (c : Thread nD τ) none Set.univ (m := kwM) (r := Rect.unit (s := S512x1024) ![0, 0] S512x1024.size inb) (Mk := Finset.univ) (Finset.subset_univ _)) $$ H
  iintro H
  iapply Hk
  ihave H := (Entails.of_eq (congrArg (fun g => (kwM.view.loc (c : Thread nD τ) ↦[Finset.univ]{fullShare} g : sProp 𝕄)) (Memref.write_access_unit_zero_univ (Elt F) cc0_scratch2 z2 inb f w))) $$ H
  iexact H

theorem load_vw {α : Type} {Q : α → sProp 𝕄} (c : Dev nD) (q : PosShare TreeShare) (f : S512x1024.Idx → Elt F .bf16)
    {inb : ∀ i, (![0, 0] : Fin _ → ℕ) i + S512x1024.size i ≤ S512x1024.size i}
    {hl : vwM.view.LoadsAt (Rect.unit (s := S512x1024) ![0, 0] S512x1024.size inb).toLoadRect}
    {k : (S512x1024.Idx → Elt F .bf16) → Prog (TpuEff nD τ sig (Elt F) Λ₀ .tc) α} :
    (vwB c 0 512 q f : sProp 𝕄) ⊢ iprop((vwB c 0 512 q f -∗ wp frame (wpE (defs₀ (F := F)) 𝒱₀ (c : Thread nD τ) none) Set.univ (k f) Q)
      -∗ wp frame (wpE (defs₀ (F := F)) 𝒱₀ (c : Thread nD τ) none) Set.univ (.op (.load vwM (Rect.unit (s := S512x1024) ![0, 0] S512x1024.size inb).toLoadRect hl) k) Q) := by
  unfold vwB
  iintro H Hk
  iapply (wp_load_rect 𝒱₀ (c : Thread nD τ) none Set.univ (m := vwM) (r := Rect.unit (s := S512x1024) ![0, 0] S512x1024.size inb) (by rw [rows_all]; exact Finset.subset_univ _)) $$ H
  iintro H
  ihave Hk := (Entails.of_eq (congrArg (fun g => iprop((vwM.view.loc (c : Thread nD τ) ↦[rows 512 0 512]{q} f) -∗ wp frame (wpE (defs₀ (F := F)) 𝒱₀ (c : Thread nD τ) none) Set.univ (k g) Q)) (Memref.readAt_unit_zero (Elt F) cc0_scratch3 z2 inb f).symm)) $$ Hk
  iapply Hk; iexact H

theorem load0_vs {α : Type} {Q : α → sProp 𝕄} (c : Dev nD) (q : PosShare TreeShare) (f : S1024x1024.Idx → Elt F .bf16)
    {inb : ∀ i, (![0, 0] : Fin _ → ℕ) i + S512x1024.size i ≤ S1024x1024.size i}
    {hl : vsM.view.LoadsAt (Rect.unit (s := S1024x1024) ![0, 0] S512x1024.size inb).toLoadRect}
    {k : (S512x1024.Idx → Elt F .bf16) → Prog (TpuEff nD τ sig (Elt F) Λ₀ .tc) α} :
    (vsB c 0 512 q f : sProp 𝕄) ⊢ iprop((vsB c 0 512 q f -∗ wp frame (wpE (defs₀ (F := F)) 𝒱₀ (c : Thread nD τ) none) Set.univ (k (vsM.view.readAt (Elt F) (Rect.unit (s := S1024x1024) ![0, 0] S512x1024.size inb).toLoadRect f)) Q)
      -∗ wp frame (wpE (defs₀ (F := F)) 𝒱₀ (c : Thread nD τ) none) Set.univ (.op (.load vsM (Rect.unit (s := S1024x1024) ![0, 0] S512x1024.size inb).toLoadRect hl) k) Q) := by
  unfold vsB
  iintro H Hk
  iapply (wp_load_rect 𝒱₀ (c : Thread nD τ) none Set.univ (m := vsM) (r := Rect.unit (s := S1024x1024) ![0, 0] S512x1024.size inb) (by intro i hi; rw [← set_unit_rows 1024 0 512 _ _ rfl rfl inb, ← View.set_slice_whole cc0_scratch1 (Rect.unit (s := S1024x1024) ![0, 0] S512x1024.size inb)]; exact hi)) $$ H
  iintro H
  iapply Hk; iexact H

omit [FloatOps F] [Named F] in
theorem vwB_whole (c : Dev nD) (q : PosShare TreeShare) (f : S512x1024.Idx → Elt F .bf16) :
    (vwB c 0 512 q f : sProp 𝕄) = (vwM.view.loc (c : Thread nD τ) ↦[Finset.univ]{q} f) := by unfold vwB; rw [rows_all]

theorem store_vw {α : Type} {Q : α → sProp 𝕄} (c : Dev nD) (f w : S512x1024.Idx → Elt F .bf16)
    {inb : ∀ i, (![0, 0] : Fin _ → ℕ) i + S512x1024.size i ≤ S512x1024.size i}
    {hs hx} {k : PUnit → Prog (TpuEff nD τ sig (Elt F) Λ₀ .tc) α} :
    (vwB c 0 512 fullShare f : sProp 𝕄) ⊢ iprop((vwB c 0 512 fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store vwM (Rect.unit (s := S512x1024) ![0, 0] S512x1024.size inb) w Finset.univ hs hx) k) Q) := by
  rw [vwB_whole, vwB_whole]
  iintro H Hk
  iapply (wp_store 𝒱₀ (c : Thread nD τ) none Set.univ (m := vwM) (r := Rect.unit (s := S512x1024) ![0, 0] S512x1024.size inb) (Mk := Finset.univ) (Finset.subset_univ _)) $$ H
  iintro H
  iapply Hk
  ihave H := (Entails.of_eq (congrArg (fun g => (vwM.view.loc (c : Thread nD τ) ↦[Finset.univ]{fullShare} g : sProp 𝕄)) (Memref.write_access_unit_zero_univ (Elt F) cc0_scratch3 z2 inb f w))) $$ H
  iexact H

theorem load_wq {α : Type} {Q : α → sProp 𝕄} (c : Dev nD) (f : S1024x1024.Idx → Elt F .bf16)
    {inb : ∀ i, (![0, 0] : Fin _ → ℕ) i + S1024x1024.size i ≤ S1024x1024.size i}
    {hl : wqM.view.LoadsAt (Rect.unit (s := S1024x1024) ![0, 0] S1024x1024.size inb).toLoadRect}
    {k : (S1024x1024.Idx → Elt F .bf16) → Prog (TpuEff nD τ sig (Elt F) Λ₀ .tc) α} :
    (wqB c f : sProp 𝕄) ⊢ iprop((wqB c f -∗ wp frame (wpE (defs₀ (F := F)) 𝒱₀ (c : Thread nD τ) none) Set.univ (k f) Q)
      -∗ wp frame (wpE (defs₀ (F := F)) 𝒱₀ (c : Thread nD τ) none) Set.univ (.op (.load wqM (Rect.unit (s := S1024x1024) ![0, 0] S1024x1024.size inb).toLoadRect hl) k) Q) := by
  unfold wqB
  iintro H Hk
  iapply (wp_load_rect 𝒱₀ (c : Thread nD τ) none Set.univ (m := wqM) (r := Rect.unit (s := S1024x1024) ![0, 0] S1024x1024.size inb) (Finset.subset_univ _)) $$ H
  iintro H
  ihave Hk := (Entails.of_eq (congrArg (fun g => iprop((wqM.view.loc (c : Thread nD τ) ↦[Finset.univ]{fullShare} f) -∗ wp frame (wpE (defs₀ (F := F)) 𝒱₀ (c : Thread nD τ) none) Set.univ (k g) Q)) (Memref.readAt_unit_zero (Elt F) cc0_stg1_0 z2 inb f).symm)) $$ Hk
  iapply Hk; iexact H

theorem load_wo {α : Type} {Q : α → sProp 𝕄} (c : Dev nD) (f : S1024x1024.Idx → Elt F .bf16)
    {inb : ∀ i, (![0, 0] : Fin _ → ℕ) i + S1024x1024.size i ≤ S1024x1024.size i}
    {hl : woM.view.LoadsAt (Rect.unit (s := S1024x1024) ![0, 0] S1024x1024.size inb).toLoadRect}
    {k : (S1024x1024.Idx → Elt F .bf16) → Prog (TpuEff nD τ sig (Elt F) Λ₀ .tc) α} :
    (woB c f : sProp 𝕄) ⊢ iprop((woB c f -∗ wp frame (wpE (defs₀ (F := F)) 𝒱₀ (c : Thread nD τ) none) Set.univ (k f) Q)
      -∗ wp frame (wpE (defs₀ (F := F)) 𝒱₀ (c : Thread nD τ) none) Set.univ (.op (.load woM (Rect.unit (s := S1024x1024) ![0, 0] S1024x1024.size inb).toLoadRect hl) k) Q) := by
  unfold woB
  iintro H Hk
  iapply (wp_load_rect 𝒱₀ (c : Thread nD τ) none Set.univ (m := woM) (r := Rect.unit (s := S1024x1024) ![0, 0] S1024x1024.size inb) (Finset.subset_univ _)) $$ H
  iintro H
  ihave Hk := (Entails.of_eq (congrArg (fun g => iprop((woM.view.loc (c : Thread nD τ) ↦[Finset.univ]{fullShare} f) -∗ wp frame (wpE (defs₀ (F := F)) 𝒱₀ (c : Thread nD τ) none) Set.univ (k g) Q)) (Memref.readAt_unit_zero (Elt F) cc0_stg4_0 z2 inb f).symm)) $$ Hk
  iapply Hk; iexact H

theorem load_ag {α : Type} {Q : α → sProp 𝕄} (c : Dev nD) (q : PosShare TreeShare) (f : S1024x1024.Idx → Elt F .bf16)
    {inb : ∀ i, (![0, 0] : Fin _ → ℕ) i + S1024x1024.size i ≤ S1024x1024.size i}
    {hl : agM.view.LoadsAt (Rect.unit (s := S1024x1024) ![0, 0] S1024x1024.size inb).toLoadRect}
    {k : (S1024x1024.Idx → Elt F .bf16) → Prog (TpuEff nD τ sig (Elt F) Λ₀ .tc) α} :
    (agB c 0 1024 q f : sProp 𝕄) ⊢ iprop((agB c 0 1024 q f -∗ wp frame (wpE (defs₀ (F := F)) 𝒱₀ (c : Thread nD τ) none) Set.univ (k f) Q)
      -∗ wp frame (wpE (defs₀ (F := F)) 𝒱₀ (c : Thread nD τ) none) Set.univ (.op (.load agM (Rect.unit (s := S1024x1024) ![0, 0] S1024x1024.size inb).toLoadRect hl) k) Q) := by
  unfold agB
  iintro H Hk
  iapply (wp_load_rect 𝒱₀ (c : Thread nD τ) none Set.univ (m := agM) (r := Rect.unit (s := S1024x1024) ![0, 0] S1024x1024.size inb) (by rw [rows_all]; exact Finset.subset_univ _)) $$ H
  iintro H
  ihave Hk := (Entails.of_eq (congrArg (fun g => iprop((agM.view.loc (c : Thread nD τ) ↦[rows 1024 0 1024]{q} f) -∗ wp frame (wpE (defs₀ (F := F)) 𝒱₀ (c : Thread nD τ) none) Set.univ (k g) Q)) (Memref.readAt_unit_zero (Elt F) cc0_scratch4 z2 inb f).symm)) $$ Hk
  iapply Hk; iexact H

theorem load_out {α : Type} {Q : α → sProp 𝕄} (c : Dev nD) (f : S1x1024x1024.Idx → Elt F .f32)
    {inb : ∀ i, (![0, 0, 0] : Fin _ → ℕ) i + S1x1024x1024.size i ≤ S1x1024x1024.size i}
    {hl : outM.view.LoadsAt (Rect.unit (s := S1x1024x1024) ![0, 0, 0] S1x1024x1024.size inb).toLoadRect}
    {k : (S1x1024x1024.Idx → Elt F .f32) → Prog (TpuEff nD τ sig (Elt F) Λ₀ .tc) α} :
    (outB c f : sProp 𝕄) ⊢ iprop((outB c f -∗ wp frame (wpE (defs₀ (F := F)) 𝒱₀ (c : Thread nD τ) none) Set.univ (k f) Q)
      -∗ wp frame (wpE (defs₀ (F := F)) 𝒱₀ (c : Thread nD τ) none) Set.univ (.op (.load outM (Rect.unit (s := S1x1024x1024) ![0, 0, 0] S1x1024x1024.size inb).toLoadRect hl) k) Q) := by
  unfold outB
  iintro H Hk
  iapply (wp_load_rect 𝒱₀ (c : Thread nD τ) none Set.univ (m := outM) (r := Rect.unit (s := S1x1024x1024) ![0, 0, 0] S1x1024x1024.size inb) (Finset.subset_univ _)) $$ H
  iintro H
  ihave Hk := (Entails.of_eq (congrArg (fun g => iprop((outM.view.loc (c : Thread nD τ) ↦[Finset.univ]{fullShare} f) -∗ wp frame (wpE (defs₀ (F := F)) 𝒱₀ (c : Thread nD τ) none) Set.univ (k g) Q)) (Memref.readAt_unit_zero (Elt F) cc0_stg5_0 z3 inb f).symm)) $$ Hk
  iapply Hk; iexact H

theorem store_out {α : Type} {Q : α → sProp 𝕄} (c : Dev nD) (f w : S1x1024x1024.Idx → Elt F .f32)
    {inb : ∀ i, (![0, 0, 0] : Fin _ → ℕ) i + S1x1024x1024.size i ≤ S1x1024x1024.size i}
    {hs hx} {k : PUnit → Prog (TpuEff nD τ sig (Elt F) Λ₀ .tc) α} :
    (outB c f : sProp 𝕄) ⊢ iprop((outB c w -∗ wp frame (wpE (defs₀ (F := F)) 𝒱₀ (c : Thread nD τ) none) Set.univ (k ⟨⟩) Q)
      -∗ wp frame (wpE (defs₀ (F := F)) 𝒱₀ (c : Thread nD τ) none) Set.univ (.op (.store outM (Rect.unit (s := S1x1024x1024) ![0, 0, 0] S1x1024x1024.size inb) w Finset.univ hs hx) k) Q) := by
  unfold outB
  iintro H Hk
  iapply (wp_store 𝒱₀ (c : Thread nD τ) none Set.univ (m := outM) (r := Rect.unit (s := S1x1024x1024) ![0, 0, 0] S1x1024x1024.size inb) (Mk := Finset.univ) (Finset.subset_univ _)) $$ H
  iintro H
  iapply Hk
  ihave H := (Entails.of_eq (congrArg (fun g => (outM.view.loc (c : Thread nD τ) ↦[Finset.univ]{fullShare} g : sProp 𝕄)) (Memref.write_access_unit_zero_univ (Elt F) cc0_stg5_0 z3 inb f w))) $$ H
  iexact H

theorem load_x {α : Type} {Q : α → sProp 𝕄} (c : Dev nD) (f : S1x1024x1024.Idx → Elt F .bf16) {r : LoadRect S1x1024x1024} {hl : xinM.view.LoadsAt r}
    {k : (r.shape.Idx → Elt F .bf16) → Prog (TpuEff nD τ sig (Elt F) Λ₀ .tc) α} :
    (xB c f : sProp 𝕄) ⊢ iprop((xB c f -∗ wp frame (wpE (defs₀ (F := F)) 𝒱₀ (c : Thread nD τ) none) Set.univ (k (xinM.view.readAt (Elt F) r f)) Q)
      -∗ wp frame (wpE (defs₀ (F := F)) 𝒱₀ (c : Thread nD τ) none) Set.univ (.op (.load xinM r hl) k) Q) := by
  unfold xB
  exact wp_load 𝒱₀ (c : Thread nD τ) none Set.univ (m := xinM) (Finset.subset_univ _)

/-! ## Device 0's own windows are the first rows of its shard -/

theorem own_k (X : Cont F) {inb} (hc : S512x1024.ShapeCasts S512x1024) :
    k0_pay99 (ksM.view.readAt (Elt F) (Rect.unit (s := S1024x1024) ![0, 0] S512x1024.size inb).toLoadRect (X.k 0)) = X.kw 0 := by
  show shapeCast S512x1024 _ hc = _
  refine (shapeCast_self (s := S512x1024) _ hc).trans ?_
  funext i
  have h := win_k X 0 0 0 0 512 (by decide) (by decide) (by decide) i (mem_rows.mpr ⟨Nat.zero_le _, by have : (i 0).val < 512 := (i 0).isLt; omega⟩)
  rw [← h]
  show X.k 0 _ = X.k 0 _
  congr 1
  funext a
  refine Fin.ext ?_
  fin_cases a
  · show 0 + 1 * (i 0).val = 0 + ((i 0).val - 0); omega
  · show 0 + 1 * (i 1).val = (i 1).val; omega

theorem own_v (X : Cont F) {inb} (hc : S512x1024.ShapeCasts S512x1024) :
    k0_pay100 (vsM.view.readAt (Elt F) (Rect.unit (s := S1024x1024) ![0, 0] S512x1024.size inb).toLoadRect (X.v 0)) = X.vw 0 := by
  show shapeCast S512x1024 _ hc = _
  refine (shapeCast_self (s := S512x1024) _ hc).trans ?_
  funext i
  have h := win_v X 0 0 0 0 512 (by decide) (by decide) (by decide) i (mem_rows.mpr ⟨Nat.zero_le _, by have : (i 0).val < 512 := (i 0).isLt; omega⟩)
  rw [← h]
  show X.v 0 _ = X.v 0 _
  congr 1
  funext a
  refine Fin.ext ?_
  fin_cases a
  · show 0 + 1 * (i 0).val = 0 + ((i 0).val - 0); omega
  · show 0 + 1 * (i 1).val = (i 1).val; omega

end Cert.KernelIdeal.Win
-- ==== Proof.KI.Waits.lean ====
/- Waits for a band of a scratch buffer, and what a device holds before and after the exchange of keys and values. -/
module

public import proofs.«01_k».proof.Proof.KI.Loads

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (X : Cont F) (K : Dev nD × Fin 27 → ℕ)

/-! ## Waits for a band of a scratch buffer -/

theorem wait_ks {α : Type} {Q : α → sProp 𝕄} (c : Dev nD) (q : DmaSem sig) (N n : ℕ) (off : Fin 2 → ℕ)
    {inb : ∀ i, off i + (![n, 1024] : Fin 2 → ℕ) i ≤ S1024x1024.size i} {hsl}
    {sp' : Space} {s' : Shape} {e' : EltTy} {src : Memref sig .tc sp' s' e'} {hsrc : src.view.WordExact}
    {hdst : (ksM.slice (Rect.unit (s := S1024x1024) off ![n, 1024] inb) hsl).view.WordExact}
    {k : PUnit → Prog (TpuEff nD τ sig (Elt F) Λ₀ .tc) α}
    (hN : (ksM.slice (Rect.unit (s := S1024x1024) off ![n, 1024] inb) hsl).view.dmaCredit = N)
    (hu : used c.val q.val = true) (ha : amt c.val q.val = N)
    (l : List Flow) (hl : ∀ e ∈ l, lvq c.val q.val < lvq e.p.val e.qd.val) (S : Finset (Fin 27)) (hS : kq q ∉ S)
    (P : sProp 𝕄) (hP : dmaPay X c q.val = P) :
    iprop(ctx X K ∗ cred (tallyAt (dmaC c q) () N) ∗ run c l ∗ cells (F := F) c S)
      ⊢ iprop(((run c l ∗ cells (F := F) c (insert (kq q) S) ∗ P)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src (ksM.slice (Rect.unit (s := S1024x1024) off ![n, 1024] inb) hsl) hsrc hdst) k) Q) := by
  subst hP
  exact wait_step X K c q N hN hu ha l hl S hS

theorem wait_vs {α : Type} {Q : α → sProp 𝕄} (c : Dev nD) (q : DmaSem sig) (N n : ℕ) (off : Fin 2 → ℕ)
    {inb : ∀ i, off i + (![n, 1024] : Fin 2 → ℕ) i ≤ S1024x1024.size i} {hsl}
    {sp' : Space} {s' : Shape} {e' : EltTy} {src : Memref sig .tc sp' s' e'} {hsrc : src.view.WordExact}
    {hdst : (vsM.slice (Rect.unit (s := S1024x1024) off ![n, 1024] inb) hsl).view.WordExact}
    {k : PUnit → Prog (TpuEff nD τ sig (Elt F) Λ₀ .tc) α}
    (hN : (vsM.slice (Rect.unit (s := S1024x1024) off ![n, 1024] inb) hsl).view.dmaCredit = N)
    (hu : used c.val q.val = true) (ha : amt c.val q.val = N)
    (l : List Flow) (hl : ∀ e ∈ l, lvq c.val q.val < lvq e.p.val e.qd.val) (S : Finset (Fin 27)) (hS : kq q ∉ S)
    (P : sProp 𝕄) (hP : dmaPay X c q.val = P) :
    iprop(ctx X K ∗ cred (tallyAt (dmaC c q) () N) ∗ run c l ∗ cells (F := F) c S)
      ⊢ iprop(((run c l ∗ cells (F := F) c (insert (kq q) S) ∗ P)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src (vsM.slice (Rect.unit (s := S1024x1024) off ![n, 1024] inb) hsl) hsrc hdst) k) Q) := by
  subst hP
  exact wait_step X K c q N hN hu ha l hl S hS

theorem wait_kw {α : Type} {Q : α → sProp 𝕄} (c : Dev nD) (q : DmaSem sig) (N n : ℕ) (off : Fin 2 → ℕ)
    {inb : ∀ i, off i + (![n, 1024] : Fin 2 → ℕ) i ≤ S512x1024.size i} {hsl}
    {sp' : Space} {s' : Shape} {e' : EltTy} {src : Memref sig .tc sp' s' e'} {hsrc : src.view.WordExact}
    {hdst : (kwM.slice (Rect.unit (s := S512x1024) off ![n, 1024] inb) hsl).view.WordExact}
    {k : PUnit → Prog (TpuEff nD τ sig (Elt F) Λ₀ .tc) α}
    (hN : (kwM.slice (Rect.unit (s := S512x1024) off ![n, 1024] inb) hsl).view.dmaCredit = N)
    (hu : used c.val q.val = true) (ha : amt c.val q.val = N)
    (l : List Flow) (hl : ∀ e ∈ l, lvq c.val q.val < lvq e.p.val e.qd.val) (S : Finset (Fin 27)) (hS : kq q ∉ S)
    (P : sProp 𝕄) (hP : dmaPay X c q.val = P) :
    iprop(ctx X K ∗ cred (tallyAt (dmaC c q) () N) ∗ run c l ∗ cells (F := F) c S)
      ⊢ iprop(((run c l ∗ cells (F := F) c (insert (kq q) S) ∗ P)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src (kwM.slice (Rect.unit (s := S512x1024) off ![n, 1024] inb) hsl) hsrc hdst) k) Q) := by
  subst hP
  exact wait_step X K c q N hN hu ha l hl S hS

theorem wait_vw {α : Type} {Q : α → sProp 𝕄} (c : Dev nD) (q : DmaSem sig) (N n : ℕ) (off : Fin 2 → ℕ)
    {inb : ∀ i, off i + (![n, 1024] : Fin 2 → ℕ) i ≤ S512x1024.size i} {hsl}
    {sp' : Space} {s' : Shape} {e' : EltTy} {src : Memref sig .tc sp' s' e'} {hsrc : src.view.WordExact}
    {hdst : (vwM.slice (Rect.unit (s := S512x1024) off ![n, 1024] inb) hsl).view.WordExact}
    {k : PUnit → Prog (TpuEff nD τ sig (Elt F) Λ₀ .tc) α}
    (hN : (vwM.slice (Rect.unit (s := S512x1024) off ![n, 1024] inb) hsl).view.dmaCredit = N)
    (hu : used c.val q.val = true) (ha : amt c.val q.val = N)
    (l : List Flow) (hl : ∀ e ∈ l, lvq c.val q.val < lvq e.p.val e.qd.val) (S : Finset (Fin 27)) (hS : kq q ∉ S)
    (P : sProp 𝕄) (hP : dmaPay X c q.val = P) :
    iprop(ctx X K ∗ cred (tallyAt (dmaC c q) () N) ∗ run c l ∗ cells (F := F) c S)
      ⊢ iprop(((run c l ∗ cells (F := F) c (insert (kq q) S) ∗ P)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src (vwM.slice (Rect.unit (s := S512x1024) off ![n, 1024] inb) hsl) hsrc hdst) k) Q) := by
  subst hP
  exact wait_step X K c q N hN hu ha l hl S hS

theorem wait_ag {α : Type} {Q : α → sProp 𝕄} (c : Dev nD) (q : DmaSem sig) (N n : ℕ) (off : Fin 2 → ℕ)
    {inb : ∀ i, off i + (![n, 1024] : Fin 2 → ℕ) i ≤ S1024x1024.size i} {hsl}
    {sp' : Space} {s' : Shape} {e' : EltTy} {src : Memref sig .tc sp' s' e'} {hsrc : src.view.WordExact}
    {hdst : (agM.slice (Rect.unit (s := S1024x1024) off ![n, 1024] inb) hsl).view.WordExact}
    {k : PUnit → Prog (TpuEff nD τ sig (Elt F) Λ₀ .tc) α}
    (hN : (agM.slice (Rect.unit (s := S1024x1024) off ![n, 1024] inb) hsl).view.dmaCredit = N)
    (hu : used c.val q.val = true) (ha : amt c.val q.val = N)
    (l : List Flow) (hl : ∀ e ∈ l, lvq c.val q.val < lvq e.p.val e.qd.val) (S : Finset (Fin 27)) (hS : kq q ∉ S)
    (P : sProp 𝕄) (hP : dmaPay X c q.val = P) :
    iprop(ctx X K ∗ cred (tallyAt (dmaC c q) () N) ∗ run c l ∗ cells (F := F) c S)
      ⊢ iprop(((run c l ∗ cells (F := F) c (insert (kq q) S) ∗ P)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src (agM.slice (Rect.unit (s := S1024x1024) off ![n, 1024] inb) hsl) hsrc hdst) k) Q) := by
  subst hP
  exact wait_step X K c q N hN hu ha l hl S hS

/-! ## The state before and after the exchange of keys and values -/

/-- The device's number as the body reads it. -/
abbrev V2 (c : Dev nD) : BitVec 32 := Scalar.remsi (Scalar.divsi (Dev.word c) 1#32) 4#32

/-- The windows of its peers that device `c` writes. -/
def peers (c : Dev nD) : sProp 𝕄 := iprop(kvWin (nx c 1) c ∗ kvWin (nx c 2) c ∗ kvWin (nx c 3) c)

/-- What device `c` keeps of its own windows: all of them where no peer writes any. -/
def keep (c : Dev nD) : sProp 𝕄 :=
  match c.val with
  | 0 => iprop((∃ f, kwB c 0 512 fullShare f) ∗ (∃ f, vwB c 0 512 fullShare f))
  | _ => iprop(emp)

/-- The credit for the bands of keys and values that will arrive. -/
def kvCreds (c : Dev nD) : sProp 𝕄 :=
  match c.val with
  | 0 => iprop(emp)
  | 3 => iprop(cred (tallyAt (dmaC c 18) () N256) ∗ cred (tallyAt (dmaC c 19) () N256) ∗ cred (tallyAt (dmaC c 20) () N128)
      ∗ cred (tallyAt (dmaC c 21) () N128) ∗ cred (tallyAt (dmaC c 22) () N128) ∗ cred (tallyAt (dmaC c 23) () N128))
  | _ => iprop(cred (tallyAt (dmaC c 18) () N256) ∗ cred (tallyAt (dmaC c 19) () N256) ∗ cred (tallyAt (dmaC c 20) () N256)
      ∗ cred (tallyAt (dmaC c 21) () N256))

/-- The cells a device is done with once its windows are filled. -/
def doneF (c : Dev nD) : Finset (Fin 27) :=
  match c.val with
  | 0 => {0}
  | 3 => insert (kq 23) (insert (kq 22) (insert (kq 21) (insert (kq 20) (insert (kq 19) (insert (kq 18) {0})))))
  | _ => insert (kq 21) (insert (kq 20) (insert (kq 19) (insert (kq 18) {0})))

/-- What a device holds besides its windows once they are filled: its staged keys and values, less the shares that are
lent to copies in flight, and the credit to take these back. -/
def rest (c : Dev nD) : sProp 𝕄 :=
  match c.val with
  | 0 => iprop(ksB c 0 128 qL (X.k c) ∗ ksB c 0 512 qR (X.k c) ∗ ksB c 512 128 qR (X.k c) ∗ ksB c 640 256 qR (X.k c) ∗ ksB c 896 128 qR (X.k c)
      ∗ vsB c 0 128 qL (X.v c) ∗ vsB c 0 512 qR (X.v c) ∗ vsB c 512 128 qR (X.v c) ∗ vsB c 640 256 qR (X.v c) ∗ vsB c 896 128 qR (X.v c)
      ∗ cred (tallyAt (dmaC c 6) () N256) ∗ cred (tallyAt (dmaC c 7) () N256) ∗ cred (tallyAt (dmaC c 8) () N256) ∗ cred (tallyAt (dmaC c 9) () N256)
      ∗ cred (tallyAt (dmaC c 10) () N256) ∗ cred (tallyAt (dmaC c 11) () N256) ∗ cred (tallyAt (dmaC c 12) () N128) ∗ cred (tallyAt (dmaC c 13) () N128)
      ∗ kwB c 0 512 qL (X.kw c) ∗ vwB c 0 512 qL (X.vw c))
  | 1 => iprop(ksB c 0 128 qR (X.k c) ∗ (∃ f, ksB c 128 896 fullShare f) ∗ vsB c 0 128 qR (X.v c) ∗ (∃ f, vsB c 128 896 fullShare f)
      ∗ cred (tallyAt (dmaC c 14) () N128) ∗ cred (tallyAt (dmaC c 15) () N128) ∗ cred (tallyAt (dmaC c 16) () N256) ∗ cred (tallyAt (dmaC c 17) () N256)
      ∗ kwB c 0 256 qL (X.kw c) ∗ vwB c 0 256 qL (X.vw c))
  | 2 => iprop((∃ f, ksB c 0 1024 fullShare f) ∗ (∃ f, vsB c 0 1024 fullShare f) ∗ kwB c 0 512 qL (X.kw c) ∗ vwB c 0 512 qL (X.vw c))
  | _ => iprop((∃ f, ksB c 0 1024 fullShare f) ∗ (∃ f, vsB c 0 1024 fullShare f)
      ∗ cred (tallyAt (dmaC c 14) () N256) ∗ cred (tallyAt (dmaC c 15) () N256)
      ∗ kwB c 256 256 qL (X.kw c) ∗ vwB c 256 256 qL (X.vw c))

omit [FloatOps F] [Named F] in
theorem keep_0 : (keep 0 : sProp 𝕄) = iprop((∃ f, kwB 0 0 512 fullShare f) ∗ (∃ f, vwB 0 0 512 fullShare f)) := rfl

omit [FloatOps F] [Named F] in
theorem peers_0 : (peers 0 : sProp 𝕄) = iprop(((∃ f, kwB 1 256 256 fullShare f) ∗ (∃ f, vwB 1 256 256 fullShare f)
      ∗ (∃ f, kwB 1 0 256 fullShare f) ∗ (∃ f, vwB 1 0 256 fullShare f)) ∗ emp ∗ ((∃ f, kwB 3 0 256 fullShare f) ∗ (∃ f, vwB 3 0 256 fullShare f)
      ∗ (∃ f, kwB 3 256 128 fullShare f) ∗ (∃ f, vwB 3 256 128 fullShare f))) := rfl

omit [FloatOps F] [Named F] in
theorem peers_1 : (peers 1 : sProp 𝕄) = iprop(((∃ f, kwB 2 0 256 fullShare f) ∗ (∃ f, vwB 2 0 256 fullShare f))
      ∗ ((∃ f, kwB 3 384 128 fullShare f) ∗ (∃ f, vwB 3 384 128 fullShare f)) ∗ emp) := rfl

omit [FloatOps F] [Named F] in
theorem kvCreds_1 : (kvCreds 1 : sProp 𝕄) = iprop(cred (tallyAt (dmaC 1 18) () N256) ∗ cred (tallyAt (dmaC 1 19) () N256)
      ∗ cred (tallyAt (dmaC 1 20) () N256) ∗ cred (tallyAt (dmaC 1 21) () N256)) := rfl

omit [FloatOps F] [Named F] in
theorem kvCreds_2 : (kvCreds 2 : sProp 𝕄) = iprop(cred (tallyAt (dmaC 2 18) () N256) ∗ cred (tallyAt (dmaC 2 19) () N256)
      ∗ cred (tallyAt (dmaC 2 20) () N256) ∗ cred (tallyAt (dmaC 2 21) () N256)) := rfl

omit [FloatOps F] [Named F] in
theorem peers_3 : (peers 3 : sProp 𝕄) = iprop(emp ∗ emp ∗ (∃ f, kwB 2 256 256 fullShare f) ∗ (∃ f, vwB 2 256 256 fullShare f)) := rfl

omit [FloatOps F] [Named F] in
theorem kvCreds_3 : (kvCreds 3 : sProp 𝕄) = iprop(cred (tallyAt (dmaC 3 18) () N256) ∗ cred (tallyAt (dmaC 3 19) () N256) ∗ cred (tallyAt (dmaC 3 20) () N128)
      ∗ cred (tallyAt (dmaC 3 21) () N128) ∗ cred (tallyAt (dmaC 3 22) () N128) ∗ cred (tallyAt (dmaC 3 23) () N128)) := rfl

theorem rest_0 : (rest X 0 : sProp 𝕄) = iprop(ksB 0 0 128 qL (X.k 0) ∗ ksB 0 0 512 qR (X.k 0) ∗ ksB 0 512 128 qR (X.k 0) ∗ ksB 0 640 256 qR (X.k 0) ∗ ksB 0 896 128 qR (X.k 0)
      ∗ vsB 0 0 128 qL (X.v 0) ∗ vsB 0 0 512 qR (X.v 0) ∗ vsB 0 512 128 qR (X.v 0) ∗ vsB 0 640 256 qR (X.v 0) ∗ vsB 0 896 128 qR (X.v 0)
      ∗ cred (tallyAt (dmaC 0 6) () N256) ∗ cred (tallyAt (dmaC 0 7) () N256) ∗ cred (tallyAt (dmaC 0 8) () N256) ∗ cred (tallyAt (dmaC 0 9) () N256)
      ∗ cred (tallyAt (dmaC 0 10) () N256) ∗ cred (tallyAt (dmaC 0 11) () N256) ∗ cred (tallyAt (dmaC 0 12) () N128) ∗ cred (tallyAt (dmaC 0 13) () N128)
      ∗ kwB 0 0 512 qL (X.kw 0) ∗ vwB 0 0 512 qL (X.vw 0)) := rfl

theorem rest_1 : (rest X 1 : sProp 𝕄) = iprop(ksB 1 0 128 qR (X.k 1) ∗ (∃ f, ksB 1 128 896 fullShare f) ∗ vsB 1 0 128 qR (X.v 1) ∗ (∃ f, vsB 1 128 896 fullShare f)
      ∗ cred (tallyAt (dmaC 1 14) () N128) ∗ cred (tallyAt (dmaC 1 15) () N128) ∗ cred (tallyAt (dmaC 1 16) () N256) ∗ cred (tallyAt (dmaC 1 17) () N256)
      ∗ kwB 1 0 256 qL (X.kw 1) ∗ vwB 1 0 256 qL (X.vw 1)) := rfl

theorem rest_2 : (rest X 2 : sProp 𝕄) = iprop((∃ f, ksB 2 0 1024 fullShare f) ∗ (∃ f, vsB 2 0 1024 fullShare f) ∗ kwB 2 0 512 qL (X.kw 2) ∗ vwB 2 0 512 qL (X.vw 2)) := rfl

theorem rest_3 : (rest X 3 : sProp 𝕄) = iprop((∃ f, ksB 3 0 1024 fullShare f) ∗ (∃ f, vsB 3 0 1024 fullShare f)
      ∗ cred (tallyAt (dmaC 3 14) () N256) ∗ cred (tallyAt (dmaC 3 15) () N256)
      ∗ kwB 3 256 256 qL (X.kw 3) ∗ vwB 3 256 256 qL (X.vw 3)) := rfl

theorem doneF_0 : doneF 0 = {0} := rfl

theorem doneF_1 : doneF 1 = insert (kq 21) (insert (kq 20) (insert (kq 19) (insert (kq 18) {0}))) := rfl

theorem doneF_2 : doneF 2 = insert (kq 21) (insert (kq 20) (insert (kq 19) (insert (kq 18) {0}))) := rfl

theorem doneF_3 : doneF 3 = insert (kq 23) (insert (kq 22) (insert (kq 21) (insert (kq 20) (insert (kq 19) (insert (kq 18) {0}))))) := rfl

end Cert.KernelIdeal.Win
-- ==== Proof.KI.Middle.lean ====
/- The middle of the body, the same on every device: the rows it computes, their gathering, and the result. -/
module

public import proofs.«01_k».proof.Proof.KI.Waits

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (X : Cont F) (K : Dev nD × Fin 27 → ℕ)

/-! ## The gathered buffer, by the rows each device computes -/

section Bands
omit [FloatOps F] [Named F]

theorem ag_four (c : Dev nD) (q : PosShare TreeShare) (f : S1024x1024.Idx → Elt F .bf16) :
    (agB c 0 1024 q f : sProp 𝕄) ⊣⊢ iprop(agB c 0 256 q f ∗ agB c 256 256 q f ∗ agB c 512 256 q f ∗ agB c 768 256 q f) := by
  constructor
  · iintro H
    ihave H := (agB_add c 0 256 768 q f).1 $$ H
    icases H with ⟨H0, H⟩
    ihave H := (agB_add c 256 256 512 q f).1 $$ H
    icases H with ⟨H1, H⟩
    ihave H := (agB_add c 512 256 256 q f).1 $$ H
    icases H with ⟨H2, H3⟩
    iframe
  · iintro ⟨H0, H1, H2, H3⟩
    ihave H := (agB_add c 512 256 256 q f).2 $$ [H2 H3]
    · iframe
    ihave H := (agB_add c 256 256 512 q f).2 $$ [H1 H]
    · iframe
    ihave H := (agB_add c 0 256 768 q f).2 $$ [H0 H]
    · iframe
    iexact H

/-- The whole buffer: the device's own rows, and those of the peers one, two and three places on. -/
theorem ag_all (c d : Dev nD) (q : PosShare TreeShare) (f : S1024x1024.Idx → Elt F .bf16) :
    (agB d 0 1024 q f : sProp 𝕄) ⊣⊢ iprop(agB d (256 * c.val) 256 q f ∗ agB d (256 * ((c.val + 1) % 4)) 256 q f
      ∗ agB d (256 * ((c.val + 2) % 4)) 256 q f ∗ agB d (256 * ((c.val + 3) % 4)) 256 q f) := by
  have h : c.val = 0 ∨ c.val = 1 ∨ c.val = 2 ∨ c.val = 3 := by have h4 : c.val < 4 := c.isLt; omega
  rcases h with h | h | h | h
  · rw [show 256 * c.val = 0 by omega, show 256 * ((c.val + 1) % 4) = 256 by omega, show 256 * ((c.val + 2) % 4) = 512 by omega, show 256 * ((c.val + 3) % 4) = 768 by omega]
    constructor
    · iintro H
      ihave H := (ag_four d q f).1 $$ H
      icases H with ⟨H0, H1, H2, H3⟩
      iframe
    · iintro ⟨H0, H1, H2, H3⟩
      iapply (ag_four d q f).2
      iframe
  · rw [show 256 * c.val = 256 by omega, show 256 * ((c.val + 1) % 4) = 512 by omega, show 256 * ((c.val + 2) % 4) = 768 by omega, show 256 * ((c.val + 3) % 4) = 0 by omega]
    constructor
    · iintro H
      ihave H := (ag_four d q f).1 $$ H
      icases H with ⟨H0, H1, H2, H3⟩
      iframe
    · iintro ⟨H1, H2, H3, H0⟩
      iapply (ag_four d q f).2
      iframe
  · rw [show 256 * c.val = 512 by omega, show 256 * ((c.val + 1) % 4) = 768 by omega, show 256 * ((c.val + 2) % 4) = 0 by omega, show 256 * ((c.val + 3) % 4) = 256 by omega]
    constructor
    · iintro H
      ihave H := (ag_four d q f).1 $$ H
      icases H with ⟨H0, H1, H2, H3⟩
      iframe
    · iintro ⟨H2, H3, H0, H1⟩
      iapply (ag_four d q f).2
      iframe
  · rw [show 256 * c.val = 768 by omega, show 256 * ((c.val + 1) % 4) = 0 by omega, show 256 * ((c.val + 2) % 4) = 256 by omega, show 256 * ((c.val + 3) % 4) = 512 by omega]
    constructor
    · iintro H
      ihave H := (ag_four d q f).1 $$ H
      icases H with ⟨H0, H1, H2, H3⟩
      iframe
    · iintro ⟨H3, H0, H1, H2⟩
      iapply (ag_four d q f).2
      iframe

theorem ag_quarters (c : Dev nD) (a n : ℕ) (f : S1024x1024.Idx → Elt F .bf16) :
    (agB c a n fullShare f : sProp 𝕄) ⊣⊢ iprop(agB c a n q1 f ∗ agB c a n q2 f ∗ agB c a n q3 f ∗ agB c a n q4 f) := by
  constructor
  · iintro H
    ihave H := (agB_half c a n fullShare f).1 $$ H
    icases H with ⟨H1, H2⟩
    ihave H1 := (agB_half c a n fullShare.left f).1 $$ H1
    ihave H2 := (agB_half c a n fullShare.right f).1 $$ H2
    icases H1 with ⟨H1, H3⟩
    icases H2 with ⟨H2, H4⟩
    iframe
  · iintro ⟨H1, H3, H2, H4⟩
    ihave H1 := (agB_half c a n fullShare.left f).2 $$ [H1 H3]
    · iframe
    ihave H2 := (agB_half c a n fullShare.right f).2 $$ [H2 H4]
    · iframe
    ihave H := (agB_half c a n fullShare f).2 $$ [H1 H2]
    · iframe
    iexact H

/-- What the store of the computed rows leaves. -/
theorem ag_rows_store (a : ℕ) {off : Fin 2 → ℕ} (h0 : off = ![a, 0])
    (inb : ∀ i, off i + S256x1024.size i ≤ S1024x1024.size i) (f : S1024x1024.Idx → Elt F .bf16) (w : S256x1024.Idx → Elt F .bf16)
    (i : S1024x1024.Idx) (hi : i ∈ rows 1024 a 256) :
    (agM.access (Rect.unit (s := S1024x1024) off S256x1024.size inb)).write (Elt F) f w Finset.univ i
      = w (ix2 ⟨(i 0).val - a, by have := mem_rows.mp hi; omega⟩ (i 1)) := by
  obtain ⟨j, rfl⟩ := exists_emb_rows (n := 256) h0 inb hi
  refine (View.write_emb_of_mem (v := agM.access (Rect.unit (s := S1024x1024) off S256x1024.size inb)) f w (Finset.mem_univ j)).trans ?_
  refine congrArg w ?_
  subst h0
  funext x
  match x with
  | ⟨0, _⟩ => exact Fin.ext (show (j 0).val = a + 1 * (j 0).val - a by omega)
  | ⟨1, _⟩ => exact Fin.ext (show (j 1).val = 0 + 1 * (j 1).val by omega)

theorem ag_rows_sub (a : ℕ) {off : Fin 2 → ℕ} (h0 : off = ![a, 0]) (inb : ∀ i, off i + S256x1024.size i ≤ S1024x1024.size i) :
    (agM.access (Rect.unit (s := S1024x1024) off S256x1024.size inb)).set ⊆ rows 1024 a 256 := by
  intro i hi
  rw [← set_unit_rows 1024 a 256 off _ h0 rfl inb, ← View.set_slice_whole cc0_scratch4 (Rect.unit (s := S1024x1024) off S256x1024.size inb)]
  exact hi

end Bands

theorem load_agrows {α : Type} {Q : α → sProp 𝕄} (c : Dev nD) (a : ℕ) (f : S1024x1024.Idx → Elt F .bf16) {off : Fin 2 → ℕ} (h0 : off = ![a, 0])
    {inb : ∀ i, off i + S256x1024.size i ≤ S1024x1024.size i}
    {hl : agM.view.LoadsAt (Rect.unit (s := S1024x1024) off S256x1024.size inb).toLoadRect}
    {k : (S256x1024.Idx → Elt F .bf16) → Prog (TpuEff nD τ sig (Elt F) Λ₀ .tc) α} :
    (agB c a 256 fullShare f : sProp 𝕄) ⊢ iprop((∀ v, agB c a 256 fullShare f -∗ wp frame (wpE (defs₀ (F := F)) 𝒱₀ (c : Thread nD τ) none) Set.univ (k v) Q)
      -∗ wp frame (wpE (defs₀ (F := F)) 𝒱₀ (c : Thread nD τ) none) Set.univ (.op (.load agM (Rect.unit (s := S1024x1024) off S256x1024.size inb).toLoadRect hl) k) Q) := by
  unfold agB
  iintro H Hk
  iapply (wp_load_rect 𝒱₀ (c : Thread nD τ) none Set.univ (m := agM) (r := Rect.unit (s := S1024x1024) off S256x1024.size inb) (ag_rows_sub a h0 inb)) $$ H
  iintro H
  iapply Hk
  iexact H

theorem store_agrows {α : Type} {Q : α → sProp 𝕄} (c : Dev nD) (a : ℕ) (f G : S1024x1024.Idx → Elt F .bf16) {off : Fin 2 → ℕ} (h0 : off = ![a, 0])
    {inb : ∀ i, off i + S256x1024.size i ≤ S1024x1024.size i} {w : S256x1024.Idx → Elt F .bf16}
    (hw : ∀ i : S1024x1024.Idx, ∀ hi : i ∈ rows 1024 a 256, w (ix2 ⟨(i 0).val - a, by have := mem_rows.mp hi; omega⟩ (i 1)) = G i)
    {hs hx} {k : PUnit → Prog (TpuEff nD τ sig (Elt F) Λ₀ .tc) α} :
    (agB c a 256 fullShare f : sProp 𝕄) ⊢ iprop((agB c a 256 fullShare G -∗ wp frame (wpE (defs₀ (F := F)) 𝒱₀ (c : Thread nD τ) none) Set.univ (k ⟨⟩) Q)
      -∗ wp frame (wpE (defs₀ (F := F)) 𝒱₀ (c : Thread nD τ) none) Set.univ (.op (.store agM (Rect.unit (s := S1024x1024) off S256x1024.size inb) w Finset.univ hs hx) k) Q) := by
  unfold agB
  iintro H Hk
  iapply (wp_store 𝒱₀ (c : Thread nD τ) none Set.univ (m := agM) (r := Rect.unit (s := S1024x1024) off S256x1024.size inb) (Mk := Finset.univ)
    (ag_rows_sub a h0 inb)) $$ H
  iintro H
  iapply Hk
  have e : ∀ i ∈ rows 1024 a 256,
      (agM.access (Rect.unit (s := S1024x1024) off S256x1024.size inb)).write (Elt F) f w Finset.univ i = G i := fun i hi =>
    (ag_rows_store a h0 inb f w i hi).trans (hw i hi)
  iapply (Entails.of_eq (pointsTo_congr (g := G) e))
  iexact H

/-! ## The rows a device computes -/

/-- Device `c`'s 256 rows of the result, from its rows of the input, the two weights and its windows. -/
def resRows (c : Dev nD) (xr : FVec F S1x256x1024 .bf16) (wq wo : Vec F S1024x1024 .bf16) (kw vw : Vec F S512x1024 .bf16) : FVec F S256x1024 .bf16 :=
  k0_pay120 (k0_pay107 (k0_pay104 vw) (k0_pay105 (V2 c) (k0_pay102 xr wq) kw) (k0_pay106 (V2 c) (k0_pay102 xr wq) kw))
    (k0_pay108 (k0_pay102 xr wq) (k0_pay103 (V2 c)) kw vw) (k0_pay109 (k0_pay102 xr wq) (k0_pay103 (V2 c)) kw vw)
    (k0_pay110 (k0_pay102 xr wq) (k0_pay103 (V2 c)) kw vw) (k0_pay111 (k0_pay102 xr wq) (k0_pay103 (V2 c)) kw vw)
    (k0_pay115 (k0_pay103 (V2 c)) (k0_pay112 vw) (k0_pay113 (k0_pay102 xr wq) kw) (k0_pay114 (F := F)))
    (k0_pay116 (k0_pay102 xr wq) (k0_pay103 (V2 c)) kw vw) (k0_pay117 vw)
    (k0_pay118 (k0_pay102 xr wq) (k0_pay103 (V2 c)) kw) (k0_pay119 (k0_pay102 xr wq) (k0_pay103 (V2 c)) kw) wo

theorem part28_run {Q} (c : Dev nD) (v29 : FVec F S256x1024 .bf16) (v52 : IVec S256x512 1) (v53 v54 : Vec F S512x1024 .bf16) (v57 : FVec F S512x128 .bf16) (v62 v65 : FVec F S256x512 .f32) :
    (Q ⟨k0_pay107 v57 v62 v65, k0_pay108 v29 v52 v53 v54, k0_pay109 v29 v52 v53 v54⟩ : sProp 𝕄) ⊢ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v29 v52 v53 v54 v57 v62 v65) Q := by
  iintro H
  rw [k0_part28_eq_skeleton]; unfold k0_part28_skel
  simp only [Prog.lift, Prog.bind_op, Prog.bind_ret, Prog.pure_eq_ret, wp_bind]
  rw [wp_ret]; imodintro
  iexact H

theorem part29_run {Q} (c : Dev nD) (v29 : FVec F S256x1024 .bf16) (v52 : IVec S256x512 1) (v53 v54 : Vec F S512x1024 .bf16) :
    (Q ⟨k0_pay110 v29 v52 v53 v54, k0_pay111 v29 v52 v53 v54, k0_pay112 v54, k0_pay113 v29 v53, k0_pay114 (F := F)⟩ : sProp 𝕄) ⊢ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v29 v52 v53 v54) Q := by
  iintro H
  rw [k0_part29_eq_skeleton]; unfold k0_part29_skel
  simp only [Prog.lift, Prog.bind_op, Prog.bind_ret, Prog.pure_eq_ret, wp_bind]
  rw [wp_ret]; imodintro
  iexact H

theorem part30_run {Q} (c : Dev nD) (v29 : FVec F S256x1024 .bf16) (v52 : IVec S256x512 1) (v53 v54 : Vec F S512x1024 .bf16) (v152 : FVec F S512x128 .bf16) (v155 v156 : FVec F S256x512 .f32) :
    (Q ⟨k0_pay115 v52 v152 v155 v156, k0_pay116 v29 v52 v53 v54, k0_pay117 v54, k0_pay118 v29 v52 v53, k0_pay119 v29 v52 v53⟩ : sProp 𝕄) ⊢ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v29 v52 v53 v54 v152 v155 v156) Q := by
  iintro H
  rw [k0_part30_eq_skeleton]; unfold k0_part30_skel
  simp only [Prog.lift, Prog.bind_op, Prog.bind_ret, Prog.pure_eq_ret, wp_bind]
  rw [wp_ret]; imodintro
  iexact H

theorem part31_run {Q} (c : Dev nD) (v2 : BitVec 32) (v73 v92 v111 v130 v149 v168 v187 : FVec F S256x128 .f32) (v190 : FVec F S512x128 .bf16)
    (v200 : FVec F S256x512 .f32) (v202 : FVec F S256x1 .f32) (wo : S1024x1024.Idx → Elt F .bf16)
    (hag : ∀ i : S1024x1024.Idx, ∀ hi : i ∈ rows 1024 (256 * c.val) 256,
      k0_pay120 v73 v92 v111 v130 v149 v168 v187 v190 v200 v202 wo (ix2 ⟨(i 0).val - 256 * c.val, by have := mem_rows.mp hi; omega⟩ (i 1)) = X.ag i) :
    iprop(woB c wo ∗ (∃ f, agB c (256 * c.val) 256 fullShare f))
      ⊢ iprop((∀ r, (woB c wo ∗ agB c (256 * c.val) 256 fullShare X.ag) -∗ Q r)
        -∗ wp frame (wpE (defs₀ (F := F)) 𝒱₀ (c : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v73 v92 v111 v130 v149 v168 v187 v190 v200 v202) Q) := by
  iintro ⟨Hwo, ⟨%f, Ha⟩⟩ Hk
  rw [k0_part31_eq_skeleton]; unfold k0_part31_skel
  simp only [Prog.lift, Prog.bind_op, Prog.bind_ret, Prog.pure_eq_ret, wp_bind]
  iapply (load_wo c wo) $$ Hwo
  iintro Hwo
  iapply (load_agrows c (256 * c.val) f (k0_off2_eq c)) $$ Ha
  iintro %_ Ha
  iapply (store_agrows c (256 * c.val) f X.ag (k0_off2_eq c) hag) $$ Ha
  iintro Ha
  rw [wp_ret]; imodintro
  iapply Hk
  iframe

theorem used_ag : ∀ (c : Fin 4) (q : Fin 32), 25 ≤ q.val ∧ q.val ≠ 28 → used c.val q.val = true ∧ amt c.val q.val = N256 := by decide

theorem nx_back (c : Dev nD) (k k' : ℕ) (h : k + k' = 4) : ((nx c k).val + k') % 4 = c.val := by
  show ((c.val + k) % 4 + k') % 4 = c.val
  have : c.val < 4 := c.isLt
  omega

omit [FloatOps F] [Named F] in
theorem ag_self (a : ℕ) (f : S1024x1024.Idx → Elt F .bf16) (i : S1024x1024.Idx) (hi : i ∈ rows 1024 a 256) {h} :
    f (ix2 ⟨a + ((i 0).val - a), h⟩ (i 1)) = f i := by
  have hr := mem_rows.mp hi
  refine congrArg f (funext fun x => ?_)
  match x with
  | ⟨0, _⟩ => exact Fin.ext (show a + ((i 0).val - a) = (i 0).val by omega)
  | ⟨1, _⟩ => rfl

theorem dev18_nx (c : Dev nD) : (⟨k0_dev18 c, k0_dev18_lt c⟩ : Dev nD) = nx c 1 := by revert c; decide
theorem dev19_nx (c : Dev nD) : (⟨k0_dev19 c, k0_dev19_lt c⟩ : Dev nD) = nx c 2 := by revert c; decide
theorem dev20_nx (c : Dev nD) : (⟨k0_dev20 c, k0_dev20_lt c⟩ : Dev nD) = nx c 3 := by revert c; decide

theorem credit_256 : RefSig.tileCredit S256x1024 .bf16 = N256 := rfl

theorem credit_ag (off : Fin 2 → ℕ) (inb : ∀ i, off i + (![256, 1024] : Fin 2 → ℕ) i ≤ S1024x1024.size i) (hsl) :
    (agM.slice (Rect.unit (s := S1024x1024) off ![256, 1024] inb) hsl).view.dmaCredit = N256 :=
  credit_256

theorem part32_run {Q} (c : Dev nD) (v2 v223 v227 : BitVec 32) (S : Finset (Fin 27)) (hS : kq 29 ∉ S) :
    iprop(ctx X K ∗ agB c (256 * c.val) 256 fullShare X.ag
        ∗ (∃ f, agB (nx c 1) (256 * c.val) 256 fullShare f) ∗ (∃ f, agB (nx c 2) (256 * c.val) 256 fullShare f)
        ∗ (∃ f, agB (nx c 3) (256 * c.val) 256 fullShare f)
        ∗ cred (tallyAt (dmaC c 29) () N256) ∗ run c (agFlows c) ∗ cells (F := F) c S)
      ⊢ iprop((∀ r, (agB c (256 * c.val) 256 q4 X.ag ∗ agB c (256 * ((c.val + 3) % 4)) 256 fullShare X.ag
          ∗ cred (tallyAt (dmaC c 25) () N256) ∗ cred (tallyAt (dmaC c 26) () N256) ∗ cred (tallyAt (dmaC c 27) () N256)
          ∗ run c [] ∗ cells (F := F) c (insert (kq 29) S)) -∗ Q r)
        -∗ wp frame (wpE (defs₀ (F := F)) 𝒱₀ (c : Thread nD τ) none) Set.univ (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v223 v227) Q) := by
  iintro ⟨#HC, Ha, Hp1, Hp2, Hp3, Hc29, HR, HS⟩ Hk
  ihave Ha := (ag_quarters c (256 * c.val) 256 X.ag).1 $$ Ha
  icases Ha with ⟨Ha1, Ha2, Ha3, Ha4⟩
  rw [k0_part32_eq_skeleton]; unfold k0_part32_skel
  simp only [Prog.lift, Prog.bind_op, Prog.bind_ret, Prog.pure_eq_ret, wp_bind]
  iapply (send_ag_ag X K c (nx c 1) _ (dev18_nx c) 25 29 N256 (256 * c.val) (256 * c.val) 256 (k0_off3_eq c) (k0_off3_eq c)
    (by have : c.val < 4 := c.isLt; omega) (credit_ag _ _ _) (used_ag c 25 (by decide)).1 (used_ag c 25 (by decide)).2
    (used_ag (nx c 1) 29 (by decide)).1 (used_ag (nx c 1) 29 (by decide)).2 q1 X.ag X.ag rfl
    (congrArg (fun m => (agB (nx c 1) (256 * m) 256 fullShare X.ag : sProp 𝕄)) (nx_back c 1 3 rfl))
    (fun i hi => ag_self (256 * c.val) X.ag i hi) [⟨nx c 2, 26, 30, N256⟩, ⟨nx c 3, 27, 31, N256⟩]) $$ [Ha1 Hp1 HR]
  · iframe; first | iexact HC | (isplitr; (· iexact HC); iexact HR)
  iintro ⟨Hc25, HR⟩
  iapply (send_ag_ag X K c (nx c 2) _ (dev19_nx c) 26 30 N256 (256 * c.val) (256 * c.val) 256 (k0_off3_eq c) (k0_off3_eq c)
    (by have : c.val < 4 := c.isLt; omega) (credit_ag _ _ _) (used_ag c 26 (by decide)).1 (used_ag c 26 (by decide)).2
    (used_ag (nx c 2) 30 (by decide)).1 (used_ag (nx c 2) 30 (by decide)).2 q2 X.ag X.ag rfl
    (congrArg (fun m => (agB (nx c 2) (256 * m) 256 fullShare X.ag : sProp 𝕄)) (nx_back c 2 2 rfl))
    (fun i hi => ag_self (256 * c.val) X.ag i hi) [⟨nx c 3, 27, 31, N256⟩]) $$ [Ha2 Hp2 HR]
  · iframe; first | iexact HC | (isplitr; (· iexact HC); iexact HR)
  iintro ⟨Hc26, HR⟩
  iapply (send_ag_ag X K c (nx c 3) _ (dev20_nx c) 27 31 N256 (256 * c.val) (256 * c.val) 256 (k0_off3_eq c) (k0_off3_eq c)
    (by have : c.val < 4 := c.isLt; omega) (credit_ag _ _ _) (used_ag c 27 (by decide)).1 (used_ag c 27 (by decide)).2
    (used_ag (nx c 3) 31 (by decide)).1 (used_ag (nx c 3) 31 (by decide)).2 q3 X.ag X.ag rfl
    (congrArg (fun m => (agB (nx c 3) (256 * m) 256 fullShare X.ag : sProp 𝕄)) (nx_back c 3 1 rfl))
    (fun i hi => ag_self (256 * c.val) X.ag i hi) []) $$ [Ha3 Hp3 HR]
  · iframe; first | iexact HC | (isplitr; (· iexact HC); iexact HR)
  iintro ⟨Hc27, HR⟩
  iapply (wait_ag X K c 29 N256 256 (k0_off4 c 1#32) (credit_ag _ _ _) (used_ag c 29 (by decide)).1 (used_ag c 29 (by decide)).2 [] (fun _ h => absurd h List.not_mem_nil) (S) hS
    (agB c (256 * ((c.val + 3) % 4)) 256 fullShare X.ag) rfl) $$ [Hc29 HR HS]
  · iframe; iexact HC
  iintro ⟨HR, HS, Hb1⟩
  rw [wp_ret]; imodintro
  iapply Hk
  iframe

theorem part33_run {Q} (c : Dev nD) (v2 v267 : BitVec 32) (o : S1x1024x1024.Idx → Elt F .f32) (S : Finset (Fin 27)) (hS : kq 30 ∉ S) (hS' : kq 31 ∉ insert (kq 30) S) :
    iprop(ctx X K ∗ agB c (256 * c.val) 256 q4 X.ag ∗ agB c (256 * ((c.val + 3) % 4)) 256 fullShare X.ag ∗ outB c o
        ∗ cred (tallyAt (dmaC c 30) () N256) ∗ cred (tallyAt (dmaC c 31) () N256) ∗ run c [] ∗ cells (F := F) c S)
      ⊢ iprop(((agB c (256 * c.val) 256 q4 X.ag ∗ agB c (256 * ((c.val + 1) % 4)) 256 fullShare X.ag
          ∗ agB c (256 * ((c.val + 2) % 4)) 256 fullShare X.ag ∗ agB c (256 * ((c.val + 3) % 4)) 256 fullShare X.ag
          ∗ outB c (k0_pay121 X.ag) ∗ run c [] ∗ cells (F := F) c (insert (kq 31) (insert (kq 30) S))) -∗ Q ⟨⟩)
        -∗ wp frame (wpE (defs₀ (F := F)) 𝒱₀ (c : Thread nD τ) none) Set.univ (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v267) Q) := by
  iintro ⟨#HC, Ha4, Hb1, Ho, Hc30, Hc31, HR, HS⟩ Hk
  rw [k0_part33_eq_skeleton]; unfold k0_part33_skel
  simp only [Prog.lift, Prog.bind_op, Prog.bind_ret, Prog.pure_eq_ret, wp_bind]
  iapply (wait_ag X K c 30 N256 256 (k0_off4 c 2#32) (credit_ag _ _ _) (used_ag c 30 (by decide)).1 (used_ag c 30 (by decide)).2 [] (fun _ h => absurd h List.not_mem_nil) (S) hS
    (agB c (256 * ((c.val + 2) % 4)) 256 fullShare X.ag) rfl) $$ [Hc30 HR HS]
  · iframe; iexact HC
  iintro ⟨HR, HS, Hb2⟩
  iapply (wait_ag X K c 31 N256 256 (k0_off4 c 3#32) (credit_ag _ _ _) (used_ag c 31 (by decide)).1 (used_ag c 31 (by decide)).2 [] (fun _ h => absurd h List.not_mem_nil) (insert (kq 30) S) hS'
    (agB c (256 * ((c.val + 1) % 4)) 256 fullShare X.ag) rfl) $$ [Hc31 HR HS]
  · iframe; iexact HC
  iintro ⟨HR, HS, Hb3⟩
  ihave Hb1 := (ag_quarters c (256 * ((c.val + 3) % 4)) 256 X.ag).1 $$ Hb1
  icases Hb1 with ⟨Hx1, Hy1, Hz1, Hb1⟩
  ihave Hb2 := (ag_quarters c (256 * ((c.val + 2) % 4)) 256 X.ag).1 $$ Hb2
  icases Hb2 with ⟨Hx2, Hy2, Hz2, Hb2⟩
  ihave Hb3 := (ag_quarters c (256 * ((c.val + 1) % 4)) 256 X.ag).1 $$ Hb3
  icases Hb3 with ⟨Hx3, Hy3, Hz3, Hb3⟩
  ihave Ha := (ag_all c c q4 X.ag).2 $$ [Ha4 Hb1 Hb2 Hb3]
  · iframe
  iapply (load_ag c q4 X.ag) $$ Ha
  iintro Ha
  iapply (load_out c o) $$ Ho
  iintro Ho
  iapply (store_out c o _) $$ Ho
  iintro Ho
  ihave Ha := (ag_all c c q4 X.ag).1 $$ Ha
  icases Ha with ⟨Ha4, Hb3, Hb2, Hb1⟩
  ihave Hb1 := (ag_quarters c (256 * ((c.val + 3) % 4)) 256 X.ag).2 $$ [Hx1 Hy1 Hz1 Hb1]
  · iframe
  ihave Hb2 := (ag_quarters c (256 * ((c.val + 2) % 4)) 256 X.ag).2 $$ [Hx2 Hy2 Hz2 Hb2]
  · iframe
  ihave Hb3 := (ag_quarters c (256 * ((c.val + 1) % 4)) 256 X.ag).2 $$ [Hx3 Hy3 Hz3 Hb3]
  · iframe
  rw [wp_ret]; imodintro
  iapply Hk
  iframe

end Cert.KernelIdeal.Win
-- ==== Proof.KI.Back.lean ====
/- The end of the body: the lent shares come back, and the scratch buffers are whole again. -/
module

public import proofs.«01_k».proof.Proof.KI.Middle

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (X : Cont F) (K : Dev nD × Fin 27 → ℕ)

/-- The cells a device is done with once its result rows have been gathered. -/
def gath (c : Dev nD) : Finset (Fin 27) := insert (kq 31) (insert (kq 30) (insert (kq 29) (doneF c)))

/-- The cells a device is done with at the end. -/
def doneB (c : Dev nD) : Finset (Fin 27) :=
  match c.val with
  | 0 => insert (kq 13) (insert (kq 12) (insert (kq 9) (insert (kq 8) (insert (kq 11) (insert (kq 10) (insert (kq 7) (insert (kq 6)
      (insert (kq 27) (insert (kq 26) (insert (kq 25) (gath c)))))))))))
  | 1 => insert (kq 17) (insert (kq 16) (insert (kq 15) (insert (kq 14) (insert (kq 27) (insert (kq 26) (insert (kq 25) (gath c)))))))
  | 3 => insert (kq 15) (insert (kq 14) (insert (kq 27) (insert (kq 26) (insert (kq 25) (gath c)))))
  | _ => insert (kq 27) (insert (kq 26) (insert (kq 25) (gath c)))

/-- The scratch buffers, whole again. -/
def scr (c : Dev nD) : sProp 𝕄 :=
  iprop((∃ f, ksB c 0 1024 fullShare f) ∗ (∃ f, vsB c 0 1024 fullShare f) ∗ (∃ f, kwB c 0 512 fullShare f) ∗ (∃ f, vwB c 0 512 fullShare f)
    ∗ (∃ f, agB c 0 1024 fullShare f))

/-- What a device holds once the result is stored. -/
def stored (c : Dev nD) : sProp 𝕄 :=
  iprop((agB c (256 * c.val) 256 q4 X.ag ∗ agB c (256 * ((c.val + 1) % 4)) 256 fullShare X.ag
      ∗ agB c (256 * ((c.val + 2) % 4)) 256 fullShare X.ag ∗ agB c (256 * ((c.val + 3) % 4)) 256 fullShare X.ag)
    ∗ cred (tallyAt (dmaC c 25) () N256) ∗ cred (tallyAt (dmaC c 26) () N256) ∗ cred (tallyAt (dmaC c 27) () N256)
    ∗ run c [] ∗ cells (F := F) c (gath c) ∗ kwB c 0 512 qR (X.kw c) ∗ vwB c 0 512 qR (X.vw c) ∗ rest X c)

/-- Two bands that adjoin, whatever they hold. -/
theorem ks_join (c : Dev nD) (a n k : ℕ) (f g : S1024x1024.Idx → Elt F .bf16) :
    (iprop(ksB c a n fullShare f ∗ ksB c (a + n) k fullShare g) : sProp 𝕄) ⊢ iprop(∃ h, ksB c a (n + k) fullShare h) := by
  iintro ⟨H1, H2⟩
  iexists (fun i => if i ∈ rows 1024 a n then f i else g i)
  iapply (ksB_add c a n k fullShare _).2
  isplitl [H1]
  · unfold ksB
    iapply (Entails.of_eq (pointsTo_congr (f := f) fun i hi => (if_pos hi).symm))
    iexact H1
  · unfold ksB
    have hd := rows_disjoint 1024 a n k
    iapply (Entails.of_eq (pointsTo_congr (f := g) fun i hi => (if_neg fun h => Finset.disjoint_left.mp hd h hi).symm))
    iexact H2

/-- Two bands that adjoin, whatever they hold. -/
theorem vs_join (c : Dev nD) (a n k : ℕ) (f g : S1024x1024.Idx → Elt F .bf16) :
    (iprop(vsB c a n fullShare f ∗ vsB c (a + n) k fullShare g) : sProp 𝕄) ⊢ iprop(∃ h, vsB c a (n + k) fullShare h) := by
  iintro ⟨H1, H2⟩
  iexists (fun i => if i ∈ rows 1024 a n then f i else g i)
  iapply (vsB_add c a n k fullShare _).2
  isplitl [H1]
  · unfold vsB
    iapply (Entails.of_eq (pointsTo_congr (f := f) fun i hi => (if_pos hi).symm))
    iexact H1
  · unfold vsB
    have hd := rows_disjoint 1024 a n k
    iapply (Entails.of_eq (pointsTo_congr (f := g) fun i hi => (if_neg fun h => Finset.disjoint_left.mp hd h hi).symm))
    iexact H2

theorem back_0 {Q} :
    iprop(ctx X K ∗ stored X 0)
      ⊢ iprop(((scr 0 ∗ run 0 [] ∗ cells (F := F) 0 (doneB 0)) -∗ Q (Scalar.extui (Scalar.cmpi .eq (V2 0) 3#32)))
        -∗ wp frame (wpE (defs₀ (F := F)) 𝒱₀ ((0 : Dev nD) : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 0 (V2 0)) Q) := by
  unfold stored
  iintro ⟨#HC, ⟨Ha, Hb1, Hb2, Hb3⟩, Hc25, Hc26, Hc27, HR, HS, Hkwr, Hvwr, Hrest⟩ Hk
  ihave Hrest := (Entails.of_eq (rest_0 X)) $$ Hrest
  icases Hrest with ⟨Hksl, Hksr, Hk512, Hk640, Hk896, Hvsl, Hvsr, Hv512, Hv640, Hv896, Hc6, Hc7, Hc8, Hc9, Hc10, Hc11, Hc12, Hc13, Hkwl, Hvwl⟩
  have h6 : Scalar.cmpi .ne (Scalar.extui (Scalar.cmpi .eq (V2 0) 0#32)) 0#32 = 1#1 := by decide
  have h7 : ¬ (Scalar.cmpi .ne (Scalar.extui (Scalar.cmpi .eq (V2 0) 1#32)) 0#32 = 1#1) := by decide
  rw [k0_part34_eq_skeleton]; unfold k0_part34_skel
  simp only [Prog.lift, Prog.bind_op, Prog.bind_ret, Prog.pure_eq_ret, wp_bind, dif_pos h6, dif_neg h7]
  iapply (wait_ag X K 0 25 N256 256 (k0_off3 0) (credit_ag _ _ _) rfl rfl [] (fun _ h => absurd h List.not_mem_nil) (gath 0) (by decide) (agB 0 (256 * (0 : Dev nD).val) 256 q1 X.ag) rfl) $$ [Hc25 HR HS]
  · iframe; first | iexact HC | (isplitr; (· iexact HC); iexact HR)
  iintro ⟨HR, HS, Hq1⟩
  iapply (wait_ag X K 0 26 N256 256 (k0_off3 0) (credit_ag _ _ _) rfl rfl [] (fun _ h => absurd h List.not_mem_nil) (insert (kq 25) (gath 0)) (by decide) (agB 0 (256 * (0 : Dev nD).val) 256 q2 X.ag) rfl) $$ [Hc26 HR HS]
  · iframe; first | iexact HC | (isplitr; (· iexact HC); iexact HR)
  iintro ⟨HR, HS, Hq2⟩
  iapply (wait_ag X K 0 27 N256 256 (k0_off3 0) (credit_ag _ _ _) rfl rfl [] (fun _ h => absurd h List.not_mem_nil) (insert (kq 26) (insert (kq 25) (gath 0))) (by decide) (agB 0 (256 * (0 : Dev nD).val) 256 q3 X.ag) rfl) $$ [Hc27 HR HS]
  · iframe; first | iexact HC | (isplitr; (· iexact HC); iexact HR)
  iintro ⟨HR, HS, Hq3⟩
  ihave Ha := (ag_quarters 0 (256 * (0 : Dev nD).val) 256 X.ag).2 $$ [Hq1 Hq2 Hq3 Ha]
  · iframe
  ihave Ha := (ag_all 0 0 fullShare X.ag).2 $$ [Ha Hb1 Hb2 Hb3]
  · iframe
  rw [k0_part24_eq_skeleton]; unfold k0_part24_skel
  simp only [Prog.lift, Prog.bind_op, Prog.bind_ret, Prog.pure_eq_ret, wp_bind]
  iapply (wait_ks X K 0 6 N256 256 ![384, 0] rfl rfl rfl [] (fun _ h => absurd h List.not_mem_nil) (insert (kq 27) (insert (kq 26) (insert (kq 25) (gath 0)))) (by decide) (ksB 0 384 256 qL (X.k 0)) rfl) $$ [Hc6 HR HS]
  · iframe; first | iexact HC | (isplitr; (· iexact HC); iexact HR)
  iintro ⟨HR, HS, Hbks384⟩
  iapply (wait_vs X K 0 7 N256 256 ![384, 0] rfl rfl rfl [] (fun _ h => absurd h List.not_mem_nil) (insert (kq 6) (insert (kq 27) (insert (kq 26) (insert (kq 25) (gath 0))))) (by decide) (vsB 0 384 256 qL (X.v 0)) rfl) $$ [Hc7 HR HS]
  · iframe; first | iexact HC | (isplitr; (· iexact HC); iexact HR)
  iintro ⟨HR, HS, Hbvs384⟩
  iapply (wait_ks X K 0 10 N256 256 ![640, 0] rfl rfl rfl [] (fun _ h => absurd h List.not_mem_nil) (insert (kq 7) (insert (kq 6) (insert (kq 27) (insert (kq 26) (insert (kq 25) (gath 0)))))) (by decide) (ksB 0 640 256 qL (X.k 0)) rfl) $$ [Hc10 HR HS]
  · iframe; first | iexact HC | (isplitr; (· iexact HC); iexact HR)
  iintro ⟨HR, HS, Hbks640⟩
  iapply (wait_vs X K 0 11 N256 256 ![640, 0] rfl rfl rfl [] (fun _ h => absurd h List.not_mem_nil) (insert (kq 10) (insert (kq 7) (insert (kq 6) (insert (kq 27) (insert (kq 26) (insert (kq 25) (gath 0))))))) (by decide) (vsB 0 640 256 qL (X.v 0)) rfl) $$ [Hc11 HR HS]
  · iframe; first | iexact HC | (isplitr; (· iexact HC); iexact HR)
  iintro ⟨HR, HS, Hbvs640⟩
  iapply (wait_ks X K 0 8 N256 256 ![128, 0] rfl rfl rfl [] (fun _ h => absurd h List.not_mem_nil) (insert (kq 11) (insert (kq 10) (insert (kq 7) (insert (kq 6) (insert (kq 27) (insert (kq 26) (insert (kq 25) (gath 0)))))))) (by decide) (ksB 0 128 256 qL (X.k 0)) rfl) $$ [Hc8 HR HS]
  · iframe; first | iexact HC | (isplitr; (· iexact HC); iexact HR)
  iintro ⟨HR, HS, Hbks128⟩
  iapply (wait_vs X K 0 9 N256 256 ![128, 0] rfl rfl rfl [] (fun _ h => absurd h List.not_mem_nil) (insert (kq 8) (insert (kq 11) (insert (kq 10) (insert (kq 7) (insert (kq 6) (insert (kq 27) (insert (kq 26) (insert (kq 25) (gath 0))))))))) (by decide) (vsB 0 128 256 qL (X.v 0)) rfl) $$ [Hc9 HR HS]
  · iframe; first | iexact HC | (isplitr; (· iexact HC); iexact HR)
  iintro ⟨HR, HS, Hbvs128⟩
  iapply (wait_ks X K 0 12 N128 128 ![896, 0] rfl rfl rfl [] (fun _ h => absurd h List.not_mem_nil) (insert (kq 9) (insert (kq 8) (insert (kq 11) (insert (kq 10) (insert (kq 7) (insert (kq 6) (insert (kq 27) (insert (kq 26) (insert (kq 25) (gath 0)))))))))) (by decide) (ksB 0 896 128 qL (X.k 0)) rfl) $$ [Hc12 HR HS]
  · iframe; first | iexact HC | (isplitr; (· iexact HC); iexact HR)
  iintro ⟨HR, HS, Hbks896⟩
  iapply (wait_vs X K 0 13 N128 128 ![896, 0] rfl rfl rfl [] (fun _ h => absurd h List.not_mem_nil) (insert (kq 12) (insert (kq 9) (insert (kq 8) (insert (kq 11) (insert (kq 10) (insert (kq 7) (insert (kq 6) (insert (kq 27) (insert (kq 26) (insert (kq 25) (gath 0))))))))))) (by decide) (vsB 0 896 128 qL (X.v 0)) rfl) $$ [Hc13 HR HS]
  · iframe; first | iexact HC | (isplitr; (· iexact HC); iexact HR)
  iintro ⟨HR, HS, Hbvs896⟩
  ihave Hksl := (ksB_add 0 0 128 256 qL (X.k 0)).2 $$ [Hksl Hbks128]
  · iframe
  ihave Hksl := (ksB_add 0 0 384 256 qL (X.k 0)).2 $$ [Hksl Hbks384]
  · iframe
  ihave Hksl := (ksB_add 0 0 640 256 qL (X.k 0)).2 $$ [Hksl Hbks640]
  · iframe
  ihave Hksl := (ksB_add 0 0 896 128 qL (X.k 0)).2 $$ [Hksl Hbks896]
  · iframe
  ihave Hksr := (ksB_add 0 0 512 128 qR (X.k 0)).2 $$ [Hksr Hk512]
  · iframe
  ihave Hksr := (ksB_add 0 0 640 256 qR (X.k 0)).2 $$ [Hksr Hk640]
  · iframe
  ihave Hksr := (ksB_add 0 0 896 128 qR (X.k 0)).2 $$ [Hksr Hk896]
  · iframe
  ihave Hks := (ksB_half 0 0 1024 fullShare (X.k 0)).2 $$ [Hksl Hksr]
  · iframe
  ihave Hvsl := (vsB_add 0 0 128 256 qL (X.v 0)).2 $$ [Hvsl Hbvs128]
  · iframe
  ihave Hvsl := (vsB_add 0 0 384 256 qL (X.v 0)).2 $$ [Hvsl Hbvs384]
  · iframe
  ihave Hvsl := (vsB_add 0 0 640 256 qL (X.v 0)).2 $$ [Hvsl Hbvs640]
  · iframe
  ihave Hvsl := (vsB_add 0 0 896 128 qL (X.v 0)).2 $$ [Hvsl Hbvs896]
  · iframe
  ihave Hvsr := (vsB_add 0 0 512 128 qR (X.v 0)).2 $$ [Hvsr Hv512]
  · iframe
  ihave Hvsr := (vsB_add 0 0 640 256 qR (X.v 0)).2 $$ [Hvsr Hv640]
  · iframe
  ihave Hvsr := (vsB_add 0 0 896 128 qR (X.v 0)).2 $$ [Hvsr Hv896]
  · iframe
  ihave Hvs := (vsB_half 0 0 1024 fullShare (X.v 0)).2 $$ [Hvsl Hvsr]
  · iframe
  ihave Hkw := (kwB_half 0 0 512 fullShare (X.kw 0)).2 $$ [Hkwl Hkwr]
  · iframe
  ihave Hvw := (vwB_half 0 0 512 fullShare (X.vw 0)).2 $$ [Hvwl Hvwr]
  · iframe
  rw [wp_ret]; imodintro
  iapply Hk
  isplitr [HR HS]
  · unfold scr
    isplitl [Hks]; · iexists _; iexact Hks
    isplitl [Hvs]; · iexists _; iexact Hvs
    isplitl [Hkw]; · iexists _; iexact Hkw
    isplitl [Hvw]; · iexists _; iexact Hvw
    iexists _; iexact Ha
  isplitl [HR]; · iexact HR
  iexact HS

theorem back_1 {Q} :
    iprop(ctx X K ∗ stored X 1)
      ⊢ iprop(((scr 1 ∗ run 1 [] ∗ cells (F := F) 1 (doneB 1)) -∗ Q (Scalar.extui (Scalar.cmpi .eq (V2 1) 3#32)))
        -∗ wp frame (wpE (defs₀ (F := F)) 𝒱₀ ((1 : Dev nD) : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 1 (V2 1)) Q) := by
  unfold stored
  iintro ⟨#HC, ⟨Ha, Hb1, Hb2, Hb3⟩, Hc25, Hc26, Hc27, HR, HS, Hkwr, Hvwr, Hrest⟩ Hk
  ihave Hrest := (Entails.of_eq (rest_1 X)) $$ Hrest
  icases Hrest with ⟨Hksr, ⟨%fk, Hkx⟩, Hvsr, ⟨%fv, Hvx⟩, Hc14, Hc15, Hc16, Hc17, Hkwl, Hvwl⟩
  have h6 : ¬ (Scalar.cmpi .ne (Scalar.extui (Scalar.cmpi .eq (V2 1) 0#32)) 0#32 = 1#1) := by decide
  have h7 : Scalar.cmpi .ne (Scalar.extui (Scalar.cmpi .eq (V2 1) 1#32)) 0#32 = 1#1 := by decide
  rw [k0_part34_eq_skeleton]; unfold k0_part34_skel
  simp only [Prog.lift, Prog.bind_op, Prog.bind_ret, Prog.pure_eq_ret, wp_bind, dif_neg h6, dif_pos h7]
  iapply (wait_ag X K 1 25 N256 256 (k0_off3 1) (credit_ag _ _ _) rfl rfl [] (fun _ h => absurd h List.not_mem_nil) (gath 1) (by decide) (agB 1 (256 * (1 : Dev nD).val) 256 q1 X.ag) rfl) $$ [Hc25 HR HS]
  · iframe; first | iexact HC | (isplitr; (· iexact HC); iexact HR)
  iintro ⟨HR, HS, Hq1⟩
  iapply (wait_ag X K 1 26 N256 256 (k0_off3 1) (credit_ag _ _ _) rfl rfl [] (fun _ h => absurd h List.not_mem_nil) (insert (kq 25) (gath 1)) (by decide) (agB 1 (256 * (1 : Dev nD).val) 256 q2 X.ag) rfl) $$ [Hc26 HR HS]
  · iframe; first | iexact HC | (isplitr; (· iexact HC); iexact HR)
  iintro ⟨HR, HS, Hq2⟩
  iapply (wait_ag X K 1 27 N256 256 (k0_off3 1) (credit_ag _ _ _) rfl rfl [] (fun _ h => absurd h List.not_mem_nil) (insert (kq 26) (insert (kq 25) (gath 1))) (by decide) (agB 1 (256 * (1 : Dev nD).val) 256 q3 X.ag) rfl) $$ [Hc27 HR HS]
  · iframe; first | iexact HC | (isplitr; (· iexact HC); iexact HR)
  iintro ⟨HR, HS, Hq3⟩
  ihave Ha := (ag_quarters 1 (256 * (1 : Dev nD).val) 256 X.ag).2 $$ [Hq1 Hq2 Hq3 Ha]
  · iframe
  ihave Ha := (ag_all 1 1 fullShare X.ag).2 $$ [Ha Hb1 Hb2 Hb3]
  · iframe
  iapply (wait_ks X K 1 14 N128 128 ![0, 0] rfl rfl rfl [] (fun _ h => absurd h List.not_mem_nil) (insert (kq 27) (insert (kq 26) (insert (kq 25) (gath 1)))) (by decide) (ksB 1 0 128 qL (X.k 1)) rfl) $$ [Hc14 HR HS]
  · iframe; first | iexact HC | (isplitr; (· iexact HC); iexact HR)
  iintro ⟨HR, HS, Hbks0⟩
  iapply (wait_vs X K 1 15 N128 128 ![0, 0] rfl rfl rfl [] (fun _ h => absurd h List.not_mem_nil) (insert (kq 14) (insert (kq 27) (insert (kq 26) (insert (kq 25) (gath 1))))) (by decide) (vsB 1 0 128 qL (X.v 1)) rfl) $$ [Hc15 HR HS]
  · iframe; first | iexact HC | (isplitr; (· iexact HC); iexact HR)
  iintro ⟨HR, HS, Hbvs0⟩
  iapply (wait_kw X K 1 16 N256 256 ![256, 0] rfl rfl rfl [] (fun _ h => absurd h List.not_mem_nil) (insert (kq 15) (insert (kq 14) (insert (kq 27) (insert (kq 26) (insert (kq 25) (gath 1)))))) (by decide) (kwB 1 256 256 qL (X.kw 1)) rfl) $$ [Hc16 HR HS]
  · iframe; first | iexact HC | (isplitr; (· iexact HC); iexact HR)
  iintro ⟨HR, HS, Hbkw256⟩
  iapply (wait_vw X K 1 17 N256 256 ![256, 0] rfl rfl rfl [] (fun _ h => absurd h List.not_mem_nil) (insert (kq 16) (insert (kq 15) (insert (kq 14) (insert (kq 27) (insert (kq 26) (insert (kq 25) (gath 1))))))) (by decide) (vwB 1 256 256 qL (X.vw 1)) rfl) $$ [Hc17 HR HS]
  · iframe; first | iexact HC | (isplitr; (· iexact HC); iexact HR)
  iintro ⟨HR, HS, Hbvw256⟩
  ihave Hks := (ksB_half 1 0 128 fullShare (X.k 1)).2 $$ [Hbks0 Hksr]
  · iframe
  ihave Hks := (ks_join 1 0 128 896 (X.k 1) fk) $$ [Hks Hkx]
  · iframe
  ihave Hvs := (vsB_half 1 0 128 fullShare (X.v 1)).2 $$ [Hbvs0 Hvsr]
  · iframe
  ihave Hvs := (vs_join 1 0 128 896 (X.v 1) fv) $$ [Hvs Hvx]
  · iframe
  ihave Hkwl := (kwB_add 1 0 256 256 qL (X.kw 1)).2 $$ [Hkwl Hbkw256]
  · iframe
  ihave Hvwl := (vwB_add 1 0 256 256 qL (X.vw 1)).2 $$ [Hvwl Hbvw256]
  · iframe
  ihave Hkw := (kwB_half 1 0 512 fullShare (X.kw 1)).2 $$ [Hkwl Hkwr]
  · iframe
  ihave Hvw := (vwB_half 1 0 512 fullShare (X.vw 1)).2 $$ [Hvwl Hvwr]
  · iframe
  rw [wp_ret]; imodintro
  iapply Hk
  isplitr [HR HS]
  · unfold scr
    isplitl [Hks]; · iexact Hks
    isplitl [Hvs]; · iexact Hvs
    isplitl [Hkw]; · iexists _; iexact Hkw
    isplitl [Hvw]; · iexists _; iexact Hvw
    iexists _; iexact Ha
  isplitl [HR]; · iexact HR
  iexact HS

theorem back_2 {Q} :
    iprop(ctx X K ∗ stored X 2)
      ⊢ iprop(((scr 2 ∗ run 2 [] ∗ cells (F := F) 2 (doneB 2)) -∗ Q (Scalar.extui (Scalar.cmpi .eq (V2 2) 3#32)))
        -∗ wp frame (wpE (defs₀ (F := F)) 𝒱₀ ((2 : Dev nD) : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 2 (V2 2)) Q) := by
  unfold stored
  iintro ⟨#HC, ⟨Ha, Hb1, Hb2, Hb3⟩, Hc25, Hc26, Hc27, HR, HS, Hkwr, Hvwr, Hrest⟩ Hk
  ihave Hrest := (Entails.of_eq (rest_2 X)) $$ Hrest
  icases Hrest with ⟨Hks, Hvs, Hkwl, Hvwl⟩
  have h6 : ¬ (Scalar.cmpi .ne (Scalar.extui (Scalar.cmpi .eq (V2 2) 0#32)) 0#32 = 1#1) := by decide
  have h7 : ¬ (Scalar.cmpi .ne (Scalar.extui (Scalar.cmpi .eq (V2 2) 1#32)) 0#32 = 1#1) := by decide
  rw [k0_part34_eq_skeleton]; unfold k0_part34_skel
  simp only [Prog.lift, Prog.bind_op, Prog.bind_ret, Prog.pure_eq_ret, wp_bind, dif_neg h6, dif_neg h7]
  iapply (wait_ag X K 2 25 N256 256 (k0_off3 2) (credit_ag _ _ _) rfl rfl [] (fun _ h => absurd h List.not_mem_nil) (gath 2) (by decide) (agB 2 (256 * (2 : Dev nD).val) 256 q1 X.ag) rfl) $$ [Hc25 HR HS]
  · iframe; first | iexact HC | (isplitr; (· iexact HC); iexact HR)
  iintro ⟨HR, HS, Hq1⟩
  iapply (wait_ag X K 2 26 N256 256 (k0_off3 2) (credit_ag _ _ _) rfl rfl [] (fun _ h => absurd h List.not_mem_nil) (insert (kq 25) (gath 2)) (by decide) (agB 2 (256 * (2 : Dev nD).val) 256 q2 X.ag) rfl) $$ [Hc26 HR HS]
  · iframe; first | iexact HC | (isplitr; (· iexact HC); iexact HR)
  iintro ⟨HR, HS, Hq2⟩
  iapply (wait_ag X K 2 27 N256 256 (k0_off3 2) (credit_ag _ _ _) rfl rfl [] (fun _ h => absurd h List.not_mem_nil) (insert (kq 26) (insert (kq 25) (gath 2))) (by decide) (agB 2 (256 * (2 : Dev nD).val) 256 q3 X.ag) rfl) $$ [Hc27 HR HS]
  · iframe; first | iexact HC | (isplitr; (· iexact HC); iexact HR)
  iintro ⟨HR, HS, Hq3⟩
  ihave Ha := (ag_quarters 2 (256 * (2 : Dev nD).val) 256 X.ag).2 $$ [Hq1 Hq2 Hq3 Ha]
  · iframe
  ihave Ha := (ag_all 2 2 fullShare X.ag).2 $$ [Ha Hb1 Hb2 Hb3]
  · iframe
  ihave Hkw := (kwB_half 2 0 512 fullShare (X.kw 2)).2 $$ [Hkwl Hkwr]
  · iframe
  ihave Hvw := (vwB_half 2 0 512 fullShare (X.vw 2)).2 $$ [Hvwl Hvwr]
  · iframe
  rw [wp_ret]; imodintro
  iapply Hk
  isplitr [HR HS]
  · unfold scr
    isplitl [Hks]; · iexact Hks
    isplitl [Hvs]; · iexact Hvs
    isplitl [Hkw]; · iexists _; iexact Hkw
    isplitl [Hvw]; · iexists _; iexact Hvw
    iexists _; iexact Ha
  isplitl [HR]; · iexact HR
  iexact HS

theorem back_3 {Q} :
    iprop(ctx X K ∗ stored X 3)
      ⊢ iprop((((∃ f, agB 3 0 1024 fullShare f) ∗ run 3 [] ∗ cells (F := F) 3 (insert (kq 27) (insert (kq 26) (insert (kq 25) (gath 3)))) ∗ kwB 3 0 512 qR (X.kw 3) ∗ vwB 3 0 512 qR (X.vw 3) ∗ rest X 3) -∗ Q (Scalar.extui (Scalar.cmpi .eq (V2 3) 3#32)))
        -∗ wp frame (wpE (defs₀ (F := F)) 𝒱₀ ((3 : Dev nD) : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 3 (V2 3)) Q) := by
  unfold stored
  iintro ⟨#HC, ⟨Ha, Hb1, Hb2, Hb3⟩, Hc25, Hc26, Hc27, HR, HS, Hkwr, Hvwr, Hrest⟩ Hk
  have h6 : ¬ (Scalar.cmpi .ne (Scalar.extui (Scalar.cmpi .eq (V2 3) 0#32)) 0#32 = 1#1) := by decide
  have h7 : ¬ (Scalar.cmpi .ne (Scalar.extui (Scalar.cmpi .eq (V2 3) 1#32)) 0#32 = 1#1) := by decide
  rw [k0_part34_eq_skeleton]; unfold k0_part34_skel
  simp only [Prog.lift, Prog.bind_op, Prog.bind_ret, Prog.pure_eq_ret, wp_bind, dif_neg h6, dif_neg h7]
  iapply (wait_ag X K 3 25 N256 256 (k0_off3 3) (credit_ag _ _ _) rfl rfl [] (fun _ h => absurd h List.not_mem_nil) (gath 3) (by decide) (agB 3 (256 * (3 : Dev nD).val) 256 q1 X.ag) rfl) $$ [Hc25 HR HS]
  · iframe; first | iexact HC | (isplitr; (· iexact HC); iexact HR)
  iintro ⟨HR, HS, Hq1⟩
  iapply (wait_ag X K 3 26 N256 256 (k0_off3 3) (credit_ag _ _ _) rfl rfl [] (fun _ h => absurd h List.not_mem_nil) (insert (kq 25) (gath 3)) (by decide) (agB 3 (256 * (3 : Dev nD).val) 256 q2 X.ag) rfl) $$ [Hc26 HR HS]
  · iframe; first | iexact HC | (isplitr; (· iexact HC); iexact HR)
  iintro ⟨HR, HS, Hq2⟩
  iapply (wait_ag X K 3 27 N256 256 (k0_off3 3) (credit_ag _ _ _) rfl rfl [] (fun _ h => absurd h List.not_mem_nil) (insert (kq 26) (insert (kq 25) (gath 3))) (by decide) (agB 3 (256 * (3 : Dev nD).val) 256 q3 X.ag) rfl) $$ [Hc27 HR HS]
  · iframe; first | iexact HC | (isplitr; (· iexact HC); iexact HR)
  iintro ⟨HR, HS, Hq3⟩
  ihave Ha := (ag_quarters 3 (256 * (3 : Dev nD).val) 256 X.ag).2 $$ [Hq1 Hq2 Hq3 Ha]
  · iframe
  ihave Ha := (ag_all 3 3 fullShare X.ag).2 $$ [Ha Hb1 Hb2 Hb3]
  · iframe
  rw [wp_ret]; imodintro
  iapply Hk
  isplitl [Ha]; · iexists _; iexact Ha
  iframe

/-- The last two waits of device 3. -/
theorem last_3 {Q : PUnit → sProp 𝕄} {inb inb' : ∀ i, (![0, 0] : Fin 2 → ℕ) i + (![256, 1024] : Fin 2 → ℕ) i ≤ S512x1024.size i} {hs hs'}
    {sp sp' : Space} {s s' : Shape} {t t' : EltTy} {m : Memref sig .tc sp s t} {m' : Memref sig .tc sp' s' t'} {e1 : m.view.WordExact} {e3 : m'.view.WordExact}
    {e2 : (kwM.slice (Rect.unit (s := S512x1024) ![0, 0] ![256, 1024] inb) hs).view.WordExact}
    {e4 : (vwM.slice (Rect.unit (s := S512x1024) ![0, 0] ![256, 1024] inb') hs').view.WordExact} :
    iprop(ctx X K ∗ (∃ f, agB 3 0 1024 fullShare f) ∗ run 3 [] ∗ cells (F := F) 3 (insert (kq 27) (insert (kq 26) (insert (kq 25) (gath 3))))
        ∗ kwB 3 0 512 qR (X.kw 3) ∗ vwB 3 0 512 qR (X.vw 3) ∗ rest X 3)
      ⊢ iprop(((scr 3 ∗ run 3 [] ∗ cells (F := F) 3 (doneB 3)) -∗ |={Set.univ}=> Q ⟨⟩)
        -∗ wp frame (wpE (defs₀ (F := F)) 𝒱₀ ((3 : Dev nD) : Thread nD τ) none) Set.univ
          (.op (.waitDma2 14 m (kwM.slice (Rect.unit (s := S512x1024) ![0, 0] ![256, 1024] inb) hs) e1 e2) fun _ =>
            .op (.waitDma2 15 m' (vwM.slice (Rect.unit (s := S512x1024) ![0, 0] ![256, 1024] inb') hs') e3 e4) fun _ => .ret ⟨⟩) Q) := by
  iintro ⟨#HC, ⟨%f, Ha⟩, HR, HS, Hkwr, Hvwr, Hrest⟩ Hk
  ihave Hrest := (Entails.of_eq (rest_3 X)) $$ Hrest
  icases Hrest with ⟨Hks, Hvs, Hc14, Hc15, Hkwl, Hvwl⟩
  iapply (wait_kw X K 3 14 N256 256 ![0, 0] credit_256 rfl rfl [] (fun _ h => absurd h List.not_mem_nil) (insert (kq 27) (insert (kq 26) (insert (kq 25) (gath 3)))) (by decide) (kwB 3 0 256 qL (X.kw 3)) rfl) $$ [Hc14 HR HS]
  · iframe; first | iexact HC | (isplitr; (· iexact HC); iexact HR)
  iintro ⟨HR, HS, Hbkw0⟩
  iapply (wait_vw X K 3 15 N256 256 ![0, 0] credit_256 rfl rfl [] (fun _ h => absurd h List.not_mem_nil) (insert (kq 14) (insert (kq 27) (insert (kq 26) (insert (kq 25) (gath 3))))) (by decide) (vwB 3 0 256 qL (X.vw 3)) rfl) $$ [Hc15 HR HS]
  · iframe; first | iexact HC | (isplitr; (· iexact HC); iexact HR)
  iintro ⟨HR, HS, Hbvw0⟩
  ihave Hkwl := (kwB_add 3 0 256 256 qL (X.kw 3)).2 $$ [Hbkw0 Hkwl]
  · iframe
  ihave Hvwl := (vwB_add 3 0 256 256 qL (X.vw 3)).2 $$ [Hbvw0 Hvwl]
  · iframe
  ihave Hkw := (kwB_half 3 0 512 fullShare (X.kw 3)).2 $$ [Hkwl Hkwr]
  · iframe
  ihave Hvw := (vwB_half 3 0 512 fullShare (X.vw 3)).2 $$ [Hvwl Hvwr]
  · iframe
  rw [wp_ret]
  iapply Hk
  isplitr [HR HS]
  · unfold scr
    isplitl [Hks]; · iexact Hks
    isplitl [Hvs]; · iexact Hvs
    isplitl [Hkw]; · iexists _; iexact Hkw
    isplitl [Hvw]; · iexists _; iexact Hvw
    iexists _; iexact Ha
  isplitl [HR]; · iexact HR
  iexact HS

end Cert.KernelIdeal.Win
-- ==== Proof.KI.Barrier.lean ====
/- The entry barrier: each device hands its peers the rows of its buffers that they will write, and waits for theirs. -/
module

public import proofs.«01_k».proof.Proof.KI.Waits

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (X : Cont F) (K : Dev nD × Fin 27 → ℕ)

theorem dev1_nx (c : Dev nD) : (⟨k0_dev1 c, k0_dev1_lt c⟩ : Dev nD) = nx c 1 := by revert c; decide
theorem dev2_nx (c : Dev nD) : (⟨k0_dev2 c, k0_dev2_lt c⟩ : Dev nD) = nx c 2 := by revert c; decide
theorem dev3_nx (c : Dev nD) : (⟨k0_dev3 c, k0_dev3_lt c⟩ : Dev nD) = nx c 3 := by revert c; decide

/-- What a device owes at the start: the copies it will send, and a unit to each peer's barrier cell. -/
def O₃ (c : Dev nD) : CellTallies nD τ sig Unit := owedL (kvFlows c ++ agFlows c)
def O₂ (c : Dev nD) : CellTallies nD τ sig Unit := O₃ c + tallyAt (barC (nx c 3)) () 1
def O₁ (c : Dev nD) : CellTallies nD τ sig Unit := O₂ c + tallyAt (barC (nx c 2)) () 1
def O₀ (c : Dev nD) : CellTallies nD τ sig Unit := O₁ c + tallyAt (barC (nx c 1)) () 1

theorem lv_flows : ∀ c : Fin 4, ∀ e ∈ kvFlows c ++ agFlows c, 1 < lvq e.p.val e.qd.val := by decide

theorem mem_duties (c p : Dev nD) (h : c ≠ p) : c ∈ (sched X).duties (barC p) 0 := by
  rw [duties_bar]; exact Finset.mem_erase.mpr ⟨h, Finset.mem_univ _⟩

theorem nx_ne (c : Dev nD) : c ≠ nx c 1 ∧ c ≠ nx c 2 ∧ c ≠ nx c 3 := by revert c; decide

theorem peers_eq (c : Dev nD) : Finset.univ.erase c = {nx c 1, nx c 2, nx c 3} ∧ nx c 1 ∉ ({nx c 2, nx c 3} : Finset (Dev nD)) ∧ nx c 2 ∉ ({nx c 3} : Finset (Dev nD)) := by
  revert c; decide

/-- What the barrier wait hands over. -/
theorem rest_bar (c : Dev nD) :
    bigSep ((sched X).duties (barC c) 0 \ ∅) (fun d => (sched X).payload (barC c) 0 d)
      = iprop(give (nx c 1) c ∗ give (nx c 2) c ∗ give (nx c 3) c) := by
  rw [Finset.sdiff_empty, duties_bar, (peers_eq c).1, BI.bigSep_insert (peers_eq c).2.1, BI.bigSep_insert (peers_eq c).2.2, bigSep_singleton]
  rfl

theorem kcell_bar (c : Dev nD) : kcell (c, 0) = barC c := rfl

/-- The tokens with which device `c` pays its barrier duties. -/
def barToks (c : Dev nD) : sProp 𝕄 :=
  iprop(dutyTok ER (barC (nx c 1)) 0 c ∗ dutyTok ER (barC (nx c 2)) 0 c ∗ dutyTok ER (barC (nx c 3)) 0 c)

theorem part25_run {Q} (c : Dev nD) (W : Waits sig Unit) :
    iprop(ctx X K ∗ owes (c : Thread nD τ) (O₀ c) W ∗ barToks (F := F) c ∗ cred (tallyAt (barC c) () 3)
        ∗ (give c (nx c 1) ∗ give c (nx c 2) ∗ give c (nx c 3)) ∗ toksL (F := F) c (kvFlows c ++ agFlows c) ∗ cells (F := F) c ∅)
      ⊢ iprop(((run c (kvFlows c ++ agFlows c) ∗ (give (nx c 1) c ∗ give (nx c 2) c ∗ give (nx c 3) c) ∗ cells (F := F) c {0})
          -∗ Q ⟨c, V2 c, Scalar.extui (Scalar.cmpi .eq (V2 c) 0#32), 0#32⟩)
        -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  unfold barToks
  iintro ⟨#HC, HO, ⟨Ht1, Ht2, Ht3⟩, Hcr, ⟨Hg1, Hg2, Hg3⟩, HT, HS⟩ Hk
  rw [k0_part25_eq_skeleton]; unfold k0_part25_skel
  simp only [semSignalWord, semWaitWord, Prog.lift, Prog.bind_op, Prog.bind_ret, Prog.pure_eq_ret, wp_bind, wp_deviceId]
  simp only [dev1_nx c, dev2_nx c, dev3_nx c]
  ihave #Hi1 := (ctx_inv X K (nx c 1, 0)) $$ HC
  ihave #Hr1 := (ctx_reached X K (nx c 1, 0)) $$ HC
  rw [kcell_bar]
  iapply (Rounds.wp_signal 𝒱₀ ER (sched X) (c : Thread nD τ) none (dst := (nx c 1 : Thread nD τ)) (κ := K (nx c 1, 0))
      (d := c) (mem_duties X c (nx c 1) (nx_ne c).1) ((amount_bar X (nx c 1) c).trans (by decide)) () (O₁ c) rfl) $$ [HO Ht1 Hg1]
  · isplitr; · iexact Hi1
    isplitl [HO]; · iexact HO
    isplitl [Ht1]; · iexact Ht1
    isplitl [Hg1]; · rw [payload_bar]; iexact Hg1
    iexact Hr1
  iintro HO
  ihave #Hi2 := (ctx_inv X K (nx c 2, 0)) $$ HC
  ihave #Hr2 := (ctx_reached X K (nx c 2, 0)) $$ HC
  rw [kcell_bar]
  iapply (Rounds.wp_signal 𝒱₀ ER (sched X) (c : Thread nD τ) none (dst := (nx c 2 : Thread nD τ)) (κ := K (nx c 2, 0))
      (d := c) (mem_duties X c (nx c 2) (nx_ne c).2.1) ((amount_bar X (nx c 2) c).trans (by decide)) () (O₂ c) rfl) $$ [HO Ht2 Hg2]
  · isplitr; · iexact Hi2
    isplitl [HO]; · iexact HO
    isplitl [Ht2]; · iexact Ht2
    isplitl [Hg2]; · rw [payload_bar]; iexact Hg2
    iexact Hr2
  iintro HO
  ihave #Hi3 := (ctx_inv X K (nx c 3, 0)) $$ HC
  ihave #Hr3 := (ctx_reached X K (nx c 3, 0)) $$ HC
  rw [kcell_bar]
  iapply (Rounds.wp_signal 𝒱₀ ER (sched X) (c : Thread nD τ) none (dst := (nx c 3 : Thread nD τ)) (κ := K (nx c 3, 0))
      (d := c) (mem_duties X c (nx c 3) (nx_ne c).2.2) ((amount_bar X (nx c 3) c).trans (by decide)) () (O₃ c) rfl) $$ [HO Ht3 Hg3]
  · isplitr; · iexact Hi3
    isplitl [HO]; · iexact HO
    isplitl [Ht3]; · iexact Ht3
    isplitl [Hg3]; · rw [payload_bar]; iexact Hg3
    iexact Hr3
  iintro HO
  ihave #Hi := (ctx_inv X K (c, 0)) $$ HC
  ihave #Hlev := (ctx_lev X K) $$ HC
  ihave HS := (cells_take c ∅ 0 (Finset.notMem_empty _)) $$ HS
  rw [kcell_bar]
  icases HS with ⟨Hat, HS⟩
  iapply (Rounds.wp_wait_rest_token 𝒱₀ ER (sched X) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [Hcr HO Hat]
  · isplitr; · iexact Hi
    isplitl [Hcr]; · iexact Hcr
    isplitl [HO]; · iexact HO
    isplitr; · iapply (mayWait_above c (.reg barS) 1 (O₃ c) (above_owedL _ _ (lv_flows c)) le_rfl); iexact Hlev
    iexact Hat
  iintro ⟨HO, Hat, -, Hpay⟩
  imod (Rounds.cell_close ER (sched X) (Set.mem_univ (K (c, 0))) (fun h => h) (R := 0 + 1) (duties_later X (barC c))) $$ [Hat] with Hz
  · isplitr; · iexact Hi
    iexact Hat
  ihave Hp := (Entails.of_eq (rest_bar X c)) $$ Hpay
  rw [wp_ret]; imodintro
  iapply Hk
  isplitl [HO HT]
  · unfold run
    isplitl [HO]; · iexists _; iexact HO
    iexact HT
  isplitl [Hp]; · iexact Hp
  iapply HS
  iexact Hz

end Cert.KernelIdeal.Win
-- ==== Proof.KI.Keys0a.lean ====
/- Device 0 stages its keys and values head by head and sends them out in bands. -/
module

public import proofs.«01_k».proof.Proof.KI.Window

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

/-! ## Device 0 stages its shard of the keys and values, and sends its peers what their windows need -/

theorem part1_run {Q : (PUnit) → sProp 𝕄} (c : Dev nD) (A B : S1x1024x8x128.Idx → Elt F .bf16) :
    iprop(kinB c A ∗ vinB c B ∗ ksS c A 384 256 0 ∗ vsS c B 384 256 0) ⊢ iprop(((kinB c A ∗ vinB c B ∗ ksS c A 384 256 3 ∗ vsS c B 384 256 2) -∗ Q ⟨⟩)
      -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hk384, Hv384⟩ Hk
  rw [k0_part1_eq_skeleton]; unfold k0_part1_skel; simp only [Prog.lift, Prog.bind_op, Prog.bind_ret, Prog.pure_eq_ret]
  iapply (stage_ks c A 384 256 0 rfl rfl shapeCasts_S1x256x1x128_S256x128 shapeCasts_S256x128_S256x128 (fun _ => rfl)) $$ [HA Hk384]
  · iframe
  iintro ⟨HA, Hk384⟩
  iapply (stage_vs c B 384 256 0 rfl rfl shapeCasts_S1x256x1x128_S256x128 shapeCasts_S256x128_S256x128 (fun _ => rfl)) $$ [HB Hv384]
  · iframe
  iintro ⟨HB, Hv384⟩
  iapply (stage_ks c A 384 256 1 rfl rfl shapeCasts_S1x256x1x128_S256x128 shapeCasts_S256x128_S256x128 (fun _ => rfl)) $$ [HA Hk384]
  · iframe
  iintro ⟨HA, Hk384⟩
  iapply (stage_vs c B 384 256 1 rfl rfl shapeCasts_S1x256x1x128_S256x128 shapeCasts_S256x128_S256x128 (fun _ => rfl)) $$ [HB Hv384]
  · iframe
  iintro ⟨HB, Hv384⟩
  iapply (stage_ks c A 384 256 2 rfl rfl shapeCasts_S1x256x1x128_S256x128 shapeCasts_S256x128_S256x128 (fun _ => rfl)) $$ [HA Hk384]
  · iframe
  iintro ⟨HA, Hk384⟩
  rw [wp_ret]; imodintro
  iapply Hk
  iframe

theorem part2_run {Q : (PUnit) → sProp 𝕄} (c : Dev nD) (A B : S1x1024x8x128.Idx → Elt F .bf16) :
    iprop(kinB c A ∗ vinB c B ∗ vsS c B 384 256 2 ∗ ksS c A 384 256 3) ⊢ iprop(((kinB c A ∗ vinB c B ∗ vsS c B 384 256 5 ∗ ksS c A 384 256 5) -∗ Q ⟨⟩)
      -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hv384, Hk384⟩ Hk
  rw [k0_part2_eq_skeleton]; unfold k0_part2_skel; simp only [Prog.lift, Prog.bind_op, Prog.bind_ret, Prog.pure_eq_ret]
  iapply (stage_vs c B 384 256 2 rfl rfl shapeCasts_S1x256x1x128_S256x128 shapeCasts_S256x128_S256x128 (fun _ => rfl)) $$ [HB Hv384]
  · iframe
  iintro ⟨HB, Hv384⟩
  iapply (stage_ks c A 384 256 3 rfl rfl shapeCasts_S1x256x1x128_S256x128 shapeCasts_S256x128_S256x128 (fun _ => rfl)) $$ [HA Hk384]
  · iframe
  iintro ⟨HA, Hk384⟩
  iapply (stage_vs c B 384 256 3 rfl rfl shapeCasts_S1x256x1x128_S256x128 shapeCasts_S256x128_S256x128 (fun _ => rfl)) $$ [HB Hv384]
  · iframe
  iintro ⟨HB, Hv384⟩
  iapply (stage_ks c A 384 256 4 rfl rfl shapeCasts_S1x256x1x128_S256x128 shapeCasts_S256x128_S256x128 (fun _ => rfl)) $$ [HA Hk384]
  · iframe
  iintro ⟨HA, Hk384⟩
  iapply (stage_vs c B 384 256 4 rfl rfl shapeCasts_S1x256x1x128_S256x128 shapeCasts_S256x128_S256x128 (fun _ => rfl)) $$ [HB Hv384]
  · iframe
  iintro ⟨HB, Hv384⟩
  rw [wp_ret]; imodintro
  iapply Hk
  iframe

theorem part3_run {Q : (PUnit) → sProp 𝕄} (c : Dev nD) (A B : S1x1024x8x128.Idx → Elt F .bf16) :
    iprop(kinB c A ∗ vinB c B ∗ ksS c A 384 256 5 ∗ vsS c B 384 256 5) ⊢ iprop(((kinB c A ∗ vinB c B ∗ ksS c A 384 256 8 ∗ vsS c B 384 256 7) -∗ Q ⟨⟩)
      -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hk384, Hv384⟩ Hk
  rw [k0_part3_eq_skeleton]; unfold k0_part3_skel; simp only [Prog.lift, Prog.bind_op, Prog.bind_ret, Prog.pure_eq_ret]
  iapply (stage_ks c A 384 256 5 rfl rfl shapeCasts_S1x256x1x128_S256x128 shapeCasts_S256x128_S256x128 (fun _ => rfl)) $$ [HA Hk384]
  · iframe
  iintro ⟨HA, Hk384⟩
  iapply (stage_vs c B 384 256 5 rfl rfl shapeCasts_S1x256x1x128_S256x128 shapeCasts_S256x128_S256x128 (fun _ => rfl)) $$ [HB Hv384]
  · iframe
  iintro ⟨HB, Hv384⟩
  iapply (stage_ks c A 384 256 6 rfl rfl shapeCasts_S1x256x1x128_S256x128 shapeCasts_S256x128_S256x128 (fun _ => rfl)) $$ [HA Hk384]
  · iframe
  iintro ⟨HA, Hk384⟩
  iapply (stage_vs c B 384 256 6 rfl rfl shapeCasts_S1x256x1x128_S256x128 shapeCasts_S256x128_S256x128 (fun _ => rfl)) $$ [HB Hv384]
  · iframe
  iintro ⟨HB, Hv384⟩
  iapply (stage_ks c A 384 256 7 rfl rfl shapeCasts_S1x256x1x128_S256x128 shapeCasts_S256x128_S256x128 (fun _ => rfl)) $$ [HA Hk384]
  · iframe
  iintro ⟨HA, Hk384⟩
  rw [wp_ret]; imodintro
  iapply Hk
  iframe

theorem part4_run {Q : (PUnit) → sProp 𝕄} (X : Cont F) (K : Dev nD × Fin 27 → ℕ) (A B : S1x1024x8x128.Idx → Elt F .bf16) (hA : X.k 0 = flat A) (hB : X.v 0 = flat B) (h : k0_cond1 0 = 1#1) (l : List Flow) :
    iprop(ctx X K ∗ kinB 0 A ∗ vinB 0 B ∗ vsS 0 B 384 256 7 ∗ ksS 0 A 384 256 8 ∗ ksS 0 A 640 256 0 ∗ (∃ f, kwB 1 256 256 fullShare f) ∗ (∃ f, vwB 1 256 256 fullShare f) ∗ run 0 (⟨1, 6, 18, N256⟩ :: ⟨1, 7, 19, N256⟩ :: l)) ⊢ iprop(((kinB 0 A ∗ vinB 0 B ∗ vsB 0 384 256 qR (flat B) ∗ ksB 0 384 256 qR (flat A) ∗ ksS 0 A 640 256 1 ∗ cred (tallyAt (dmaC 0 6) () N256) ∗ cred (tallyAt (dmaC 0 7) () N256) ∗ run 0 l) -∗ Q ⟨⟩)
      -∗ wp frame (wpE (defs₀ (F := F)) 𝒱₀ ((0 : Dev nD) : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 0 h) Q) := by
  iintro ⟨#HC, HA, HB, Hv384, Hk384, Hk640, Hw384k, Hw384v, HR⟩ Hk
  rw [k0_part4_eq_skeleton]; unfold k0_part4_skel; simp only [Prog.lift, Prog.bind_op, Prog.bind_ret, Prog.pure_eq_ret]
  iapply (stage_vs 0 B 384 256 7 rfl rfl shapeCasts_S1x256x1x128_S256x128 shapeCasts_S256x128_S256x128 (fun _ => rfl)) $$ [HB Hv384]
  · iframe
  iintro ⟨HB, Hv384⟩
  ihave Hk384 := (ksS_done 0 A 384 256) $$ Hk384
  ihave Hk384 := ((ksB_half 0 384 256 fullShare (flat A)).1) $$ Hk384
  icases Hk384 with ⟨Hl, Hk384⟩
  iapply (send_ks_kw X K 0 1 _ (Fin.ext k0_dev4_eq) 6 18 N256 384 256 256 rfl rfl (by decide) rfl rfl rfl rfl rfl qL (flat A) (X.kw 1) (by rw [← hA]; rfl) rfl
    (by rw [← hA]; exact win_k X 0 1 384 256 256 (by decide) (by decide) (by decide)) _) $$ [Hl Hw384k HR]
  · iframe; iexact HC
  iintro ⟨Hc6, HR⟩
  ihave Hv384 := (vsS_done 0 B 384 256) $$ Hv384
  ihave Hv384 := ((vsB_half 0 384 256 fullShare (flat B)).1) $$ Hv384
  icases Hv384 with ⟨Hl, Hv384⟩
  iapply (send_vs_vw X K 0 1 _ (Fin.ext k0_dev5_eq) 7 19 N256 384 256 256 rfl rfl (by decide) rfl rfl rfl rfl rfl qL (flat B) (X.vw 1) (by rw [← hB]; rfl) rfl
    (by rw [← hB]; exact win_v X 0 1 384 256 256 (by decide) (by decide) (by decide)) _) $$ [Hl Hw384v HR]
  · iframe; iexact HC
  iintro ⟨Hc7, HR⟩
  iapply (stage_ks 0 A 640 256 0 rfl rfl shapeCasts_S1x256x1x128_S256x128 shapeCasts_S256x128_S256x128 (fun _ => rfl)) $$ [HA Hk640]
  · iframe
  iintro ⟨HA, Hk640⟩
  rw [wp_ret]; imodintro
  iapply Hk
  iframe

theorem part5_run {Q : (PUnit) → sProp 𝕄} (c : Dev nD) (A B : S1x1024x8x128.Idx → Elt F .bf16) :
    iprop(kinB c A ∗ vinB c B ∗ vsS c B 640 256 0 ∗ ksS c A 640 256 1) ⊢ iprop(((kinB c A ∗ vinB c B ∗ vsS c B 640 256 3 ∗ ksS c A 640 256 3) -∗ Q ⟨⟩)
      -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hv640, Hk640⟩ Hk
  rw [k0_part5_eq_skeleton]; unfold k0_part5_skel; simp only [Prog.lift, Prog.bind_op, Prog.bind_ret, Prog.pure_eq_ret]
  iapply (stage_vs c B 640 256 0 rfl rfl shapeCasts_S1x256x1x128_S256x128 shapeCasts_S256x128_S256x128 (fun _ => rfl)) $$ [HB Hv640]
  · iframe
  iintro ⟨HB, Hv640⟩
  iapply (stage_ks c A 640 256 1 rfl rfl shapeCasts_S1x256x1x128_S256x128 shapeCasts_S256x128_S256x128 (fun _ => rfl)) $$ [HA Hk640]
  · iframe
  iintro ⟨HA, Hk640⟩
  iapply (stage_vs c B 640 256 1 rfl rfl shapeCasts_S1x256x1x128_S256x128 shapeCasts_S256x128_S256x128 (fun _ => rfl)) $$ [HB Hv640]
  · iframe
  iintro ⟨HB, Hv640⟩
  iapply (stage_ks c A 640 256 2 rfl rfl shapeCasts_S1x256x1x128_S256x128 shapeCasts_S256x128_S256x128 (fun _ => rfl)) $$ [HA Hk640]
  · iframe
  iintro ⟨HA, Hk640⟩
  iapply (stage_vs c B 640 256 2 rfl rfl shapeCasts_S1x256x1x128_S256x128 shapeCasts_S256x128_S256x128 (fun _ => rfl)) $$ [HB Hv640]
  · iframe
  iintro ⟨HB, Hv640⟩
  rw [wp_ret]; imodintro
  iapply Hk
  iframe

theorem part6_run {Q : (PUnit) → sProp 𝕄} (c : Dev nD) (A B : S1x1024x8x128.Idx → Elt F .bf16) :
    iprop(kinB c A ∗ vinB c B ∗ ksS c A 640 256 3 ∗ vsS c B 640 256 3) ⊢ iprop(((kinB c A ∗ vinB c B ∗ ksS c A 640 256 6 ∗ vsS c B 640 256 5) -∗ Q ⟨⟩)
      -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hk640, Hv640⟩ Hk
  rw [k0_part6_eq_skeleton]; unfold k0_part6_skel; simp only [Prog.lift, Prog.bind_op, Prog.bind_ret, Prog.pure_eq_ret]
  iapply (stage_ks c A 640 256 3 rfl rfl shapeCasts_S1x256x1x128_S256x128 shapeCasts_S256x128_S256x128 (fun _ => rfl)) $$ [HA Hk640]
  · iframe
  iintro ⟨HA, Hk640⟩
  iapply (stage_vs c B 640 256 3 rfl rfl shapeCasts_S1x256x1x128_S256x128 shapeCasts_S256x128_S256x128 (fun _ => rfl)) $$ [HB Hv640]
  · iframe
  iintro ⟨HB, Hv640⟩
  iapply (stage_ks c A 640 256 4 rfl rfl shapeCasts_S1x256x1x128_S256x128 shapeCasts_S256x128_S256x128 (fun _ => rfl)) $$ [HA Hk640]
  · iframe
  iintro ⟨HA, Hk640⟩
  iapply (stage_vs c B 640 256 4 rfl rfl shapeCasts_S1x256x1x128_S256x128 shapeCasts_S256x128_S256x128 (fun _ => rfl)) $$ [HB Hv640]
  · iframe
  iintro ⟨HB, Hv640⟩
  iapply (stage_ks c A 640 256 5 rfl rfl shapeCasts_S1x256x1x128_S256x128 shapeCasts_S256x128_S256x128 (fun _ => rfl)) $$ [HA Hk640]
  · iframe
  iintro ⟨HA, Hk640⟩
  rw [wp_ret]; imodintro
  iapply Hk
  iframe

end Cert.KernelIdeal.Win
-- ==== Proof.KI.Keys0b.lean ====
/- Device 0 stages its keys and values head by head and sends them out in bands. -/
module

public import proofs.«01_k».proof.Proof.KI.Window

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

/-! ## Device 0 stages its shard of the keys and values, and sends its peers what their windows need -/

theorem e_k0_pay36 (v : Vec F S1x256x1x128 .bf16) : k0_pay36 (k0_pay35 v)
    = shapeCast (⟨2, ![256, 128]⟩ : Shape) (shapeCast (⟨2, ![256, 128]⟩ : Shape) v shapeCasts_S1x256x1x128_S256x128) shapeCasts_S256x128_S256x128 := rfl

theorem e_k0_pay42 (v : Vec F S1x256x1x128 .bf16) : k0_pay42 (k0_pay41 v)
    = shapeCast (⟨2, ![256, 128]⟩ : Shape) (shapeCast (⟨2, ![256, 128]⟩ : Shape) v shapeCasts_S1x256x1x128_S256x128) shapeCasts_S256x128_S256x128 := rfl

theorem e_k0_pay48 (v : Vec F S1x256x1x128 .bf16) : k0_pay48 (k0_pay47 v)
    = shapeCast (⟨2, ![256, 128]⟩ : Shape) (shapeCast (⟨2, ![256, 128]⟩ : Shape) v shapeCasts_S1x256x1x128_S256x128) shapeCasts_S256x128_S256x128 := rfl

theorem part7_run {Q : ((Σ' (_ : BitVec 32), BitVec 32)) → sProp 𝕄} (c : Dev nD) (A B : S1x1024x8x128.Idx → Elt F .bf16) :
    iprop(kinB c A ∗ vinB c B ∗ vsS c B 640 256 5 ∗ ksS c A 640 256 6) ⊢ iprop(((kinB c A ∗ vinB c B ∗ vsS c B 640 256 8 ∗ ksS c A 640 256 8) -∗ Q ⟨Scalar.muli 3#32 1#32, 0#32⟩)
      -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hv640, Hk640⟩ Hk
  rw [k0_part7_eq_skeleton]; unfold k0_part7_skel; simp only [Prog.lift, Prog.bind_op, Prog.bind_ret, Prog.pure_eq_ret]
  iapply (stage_vs c B 640 256 5 rfl rfl shapeCasts_S1x256x1x128_S256x128 shapeCasts_S256x128_S256x128 (fun _ => rfl)) $$ [HB Hv640]
  · iframe
  iintro ⟨HB, Hv640⟩
  iapply (stage_ks c A 640 256 6 rfl rfl shapeCasts_S1x256x1x128_S256x128 shapeCasts_S256x128_S256x128 (fun _ => rfl)) $$ [HA Hk640]
  · iframe
  iintro ⟨HA, Hk640⟩
  iapply (stage_vs c B 640 256 6 rfl rfl shapeCasts_S1x256x1x128_S256x128 shapeCasts_S256x128_S256x128 (fun _ => rfl)) $$ [HB Hv640]
  · iframe
  iintro ⟨HB, Hv640⟩
  iapply (stage_ks c A 640 256 7 rfl rfl shapeCasts_S1x256x1x128_S256x128 shapeCasts_S256x128_S256x128 (fun _ => rfl)) $$ [HA Hk640]
  · iframe
  iintro ⟨HA, Hk640⟩
  iapply (stage_vs c B 640 256 7 rfl rfl shapeCasts_S1x256x1x128_S256x128 shapeCasts_S256x128_S256x128 (fun _ => rfl)) $$ [HB Hv640]
  · iframe
  iintro ⟨HB, Hv640⟩
  rw [wp_ret]; imodintro
  iapply Hk
  iframe

theorem part8_run {Q : (FVec F S256x128 .bf16) → sProp 𝕄} (X : Cont F) (K : Dev nD × Fin 27 → ℕ) (A B : S1x1024x8x128.Idx → Elt F .bf16) (hA : X.k 0 = flat A) (hB : X.v 0 = flat B) (h : k0_cond1 0 = 1#1) (l : List Flow) (kw0 kw1 : BitVec 32) :
    iprop(ctx X K ∗ kinB 0 A ∗ vinB 0 B ∗ ksS 0 A 640 256 8 ∗ vsS 0 B 640 256 8 ∗ ksS 0 A 128 256 0 ∗ vsS 0 B 128 256 0 ∗ (∃ f, kwB 3 0 256 fullShare f) ∗ (∃ f, vwB 3 0 256 fullShare f) ∗ run 0 (⟨3, 10, 18, N256⟩ :: ⟨3, 11, 19, N256⟩ :: l)) ⊢ iprop(((kinB 0 A ∗ vinB 0 B ∗ ksB 0 640 256 qR (flat A) ∗ vsB 0 640 256 qR (flat B) ∗ ksS 0 A 128 256 1 ∗ vsS 0 B 128 256 1 ∗ cred (tallyAt (dmaC 0 10) () N256) ∗ cred (tallyAt (dmaC 0 11) () N256) ∗ run 0 l) -∗ Q (k0_pay35 (kinM.view.readAt (Elt F) (Rect.unit (s := S1x1024x8x128) ![0, 128, 1, 0] S1x256x1x128.size inb_S1x1024x8x128_S1x256x1x128_0_128_1_0).toLoadRect A)))
      -∗ wp frame (wpE (defs₀ (F := F)) 𝒱₀ ((0 : Dev nD) : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 0 h kw0 kw1) Q) := by
  iintro ⟨#HC, HA, HB, Hk640, Hv640, Hk128, Hv128, Hw640k, Hw640v, HR⟩ Hk
  rw [k0_part8_eq_skeleton]; unfold k0_part8_skel; simp only [Prog.lift, Prog.bind_op, Prog.bind_ret, Prog.pure_eq_ret]
  ihave Hk640 := (ksS_done 0 A 640 256) $$ Hk640
  ihave Hk640 := ((ksB_half 0 640 256 fullShare (flat A)).1) $$ Hk640
  icases Hk640 with ⟨Hl, Hk640⟩
  iapply (send_ks_kw X K 0 3 _ (Fin.ext k0_dev6_eq) 10 18 N256 640 0 256 rfl rfl (by decide) rfl rfl rfl rfl rfl qL (flat A) (X.kw 3) (by rw [← hA]; rfl) rfl
    (by rw [← hA]; exact win_k X 0 3 640 0 256 (by decide) (by decide) (by decide)) _) $$ [Hl Hw640k HR]
  · iframe; iexact HC
  iintro ⟨Hc10, HR⟩
  ihave Hv640 := (vsS_done 0 B 640 256) $$ Hv640
  ihave Hv640 := ((vsB_half 0 640 256 fullShare (flat B)).1) $$ Hv640
  icases Hv640 with ⟨Hl, Hv640⟩
  iapply (send_vs_vw X K 0 3 _ (Fin.ext k0_dev7_eq) 11 19 N256 640 0 256 rfl rfl (by decide) rfl rfl rfl rfl rfl qL (flat B) (X.vw 3) (by rw [← hB]; rfl) rfl
    (by rw [← hB]; exact win_v X 0 3 640 0 256 (by decide) (by decide) (by decide)) _) $$ [Hl Hw640v HR]
  · iframe; iexact HC
  iintro ⟨Hc11, HR⟩
  iapply (stage_ks 0 A 128 256 0 rfl rfl shapeCasts_S1x256x1x128_S256x128 shapeCasts_S256x128_S256x128 (fun _ => rfl)) $$ [HA Hk128]
  · iframe
  iintro ⟨HA, Hk128⟩
  iapply (stage_vs 0 B 128 256 0 rfl rfl shapeCasts_S1x256x1x128_S256x128 shapeCasts_S256x128_S256x128 (fun _ => rfl)) $$ [HB Hv128]
  · iframe
  iintro ⟨HB, Hv128⟩
  iapply (load_kin 0 A) $$ HA
  iintro HA
  rw [wp_ret]; imodintro
  iapply Hk
  iframe

theorem part9_run {Q : (FVec F S256x128 .bf16) → sProp 𝕄} (c : Dev nD) (A B : S1x1024x8x128.Idx → Elt F .bf16) (w : FVec F S256x128 .bf16) (hw : k0_pay36 w = shapeCast S256x128 (shapeCast S256x128 (kinM.view.readAt (Elt F) (Rect.unit (s := S1x1024x8x128) ![0, 128, 1, 0] S1x256x1x128.size inb_S1x1024x8x128_S1x256x1x128_0_128_1_0).toLoadRect A) shapeCasts_S1x256x1x128_S256x128) shapeCasts_S256x128_S256x128) :
    iprop(kinB c A ∗ vinB c B ∗ ksS c A 128 256 1 ∗ vsS c B 128 256 1) ⊢ iprop(((kinB c A ∗ vinB c B ∗ ksS c A 128 256 4 ∗ vsS c B 128 256 3) -∗ Q (k0_pay41 (vinM.view.readAt (Elt F) (Rect.unit (s := S1x1024x8x128) ![0, 128, 3, 0] S1x256x1x128.size inb_S1x1024x8x128_S1x256x1x128_0_128_3_0).toLoadRect B)))
      -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 w) Q) := by
  iintro ⟨HA, HB, Hk128, Hv128⟩ Hk
  rw [k0_part9_eq_skeleton]; unfold k0_part9_skel; simp only [Prog.lift, Prog.bind_op, Prog.bind_ret, Prog.pure_eq_ret]
  iapply (load_ks c A 128 256 1 (k1 := 1) rfl) $$ Hk128
  iintro %_ Hk128
  iapply (store_ks c A 128 256 1 rfl rfl (hc := shapeCasts_S1x256x1x128_S256x128) (hc' := shapeCasts_S256x128_S256x128) (off4 := ![0, 128, 1, 0]) (inb4 := inb_S1x1024x8x128_S1x256x1x128_0_128_1_0) (w := k0_pay36 w) hw) $$ Hk128
  iintro Hk128
  iapply (stage_vs c B 128 256 1 rfl rfl shapeCasts_S1x256x1x128_S256x128 shapeCasts_S256x128_S256x128 (fun _ => rfl)) $$ [HB Hv128]
  · iframe
  iintro ⟨HB, Hv128⟩
  iapply (stage_ks c A 128 256 2 rfl rfl shapeCasts_S1x256x1x128_S256x128 shapeCasts_S256x128_S256x128 (fun _ => rfl)) $$ [HA Hk128]
  · iframe
  iintro ⟨HA, Hk128⟩
  iapply (stage_vs c B 128 256 2 rfl rfl shapeCasts_S1x256x1x128_S256x128 shapeCasts_S256x128_S256x128 (fun _ => rfl)) $$ [HB Hv128]
  · iframe
  iintro ⟨HB, Hv128⟩
  iapply (stage_ks c A 128 256 3 rfl rfl shapeCasts_S1x256x1x128_S256x128 shapeCasts_S256x128_S256x128 (fun _ => rfl)) $$ [HA Hk128]
  · iframe
  iintro ⟨HA, Hk128⟩
  iapply (load_vin c B) $$ HB
  iintro HB
  rw [wp_ret]; imodintro
  iapply Hk
  iframe

theorem part10_run {Q : (FVec F S256x128 .bf16) → sProp 𝕄} (c : Dev nD) (A B : S1x1024x8x128.Idx → Elt F .bf16) (w : FVec F S256x128 .bf16) (hw : k0_pay42 w = shapeCast S256x128 (shapeCast S256x128 (vinM.view.readAt (Elt F) (Rect.unit (s := S1x1024x8x128) ![0, 128, 3, 0] S1x256x1x128.size inb_S1x1024x8x128_S1x256x1x128_0_128_3_0).toLoadRect B) shapeCasts_S1x256x1x128_S256x128) shapeCasts_S256x128_S256x128) :
    iprop(kinB c A ∗ vinB c B ∗ vsS c B 128 256 3 ∗ ksS c A 128 256 4) ⊢ iprop(((kinB c A ∗ vinB c B ∗ vsS c B 128 256 6 ∗ ksS c A 128 256 6) -∗ Q (k0_pay47 (kinM.view.readAt (Elt F) (Rect.unit (s := S1x1024x8x128) ![0, 128, 6, 0] S1x256x1x128.size inb_S1x1024x8x128_S1x256x1x128_0_128_6_0).toLoadRect A)))
      -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 w) Q) := by
  iintro ⟨HA, HB, Hv128, Hk128⟩ Hk
  rw [k0_part10_eq_skeleton]; unfold k0_part10_skel; simp only [Prog.lift, Prog.bind_op, Prog.bind_ret, Prog.pure_eq_ret]
  iapply (load_vs c B 128 256 3 (k1 := 3) rfl) $$ Hv128
  iintro %_ Hv128
  iapply (store_vs c B 128 256 3 rfl rfl (hc := shapeCasts_S1x256x1x128_S256x128) (hc' := shapeCasts_S256x128_S256x128) (off4 := ![0, 128, 3, 0]) (inb4 := inb_S1x1024x8x128_S1x256x1x128_0_128_3_0) (w := k0_pay42 w) hw) $$ Hv128
  iintro Hv128
  iapply (stage_ks c A 128 256 4 rfl rfl shapeCasts_S1x256x1x128_S256x128 shapeCasts_S256x128_S256x128 (fun _ => rfl)) $$ [HA Hk128]
  · iframe
  iintro ⟨HA, Hk128⟩
  iapply (stage_vs c B 128 256 4 rfl rfl shapeCasts_S1x256x1x128_S256x128 shapeCasts_S256x128_S256x128 (fun _ => rfl)) $$ [HB Hv128]
  · iframe
  iintro ⟨HB, Hv128⟩
  iapply (stage_ks c A 128 256 5 rfl rfl shapeCasts_S1x256x1x128_S256x128 shapeCasts_S256x128_S256x128 (fun _ => rfl)) $$ [HA Hk128]
  · iframe
  iintro ⟨HA, Hk128⟩
  iapply (stage_vs c B 128 256 5 rfl rfl shapeCasts_S1x256x1x128_S256x128 shapeCasts_S256x128_S256x128 (fun _ => rfl)) $$ [HB Hv128]
  · iframe
  iintro ⟨HB, Hv128⟩
  iapply (load_kin c A) $$ HA
  iintro HA
  rw [wp_ret]; imodintro
  iapply Hk
  iframe

theorem part11_run {Q : ((Σ' (_ : BitVec 32), BitVec 32)) → sProp 𝕄} (X : Cont F) (K : Dev nD × Fin 27 → ℕ) (A B : S1x1024x8x128.Idx → Elt F .bf16) (hA : X.k 0 = flat A) (hB : X.v 0 = flat B) (h : k0_cond1 0 = 1#1) (l : List Flow) (w : FVec F S256x128 .bf16) (hw : k0_pay48 w = shapeCast S256x128 (shapeCast S256x128 (kinM.view.readAt (Elt F) (Rect.unit (s := S1x1024x8x128) ![0, 128, 6, 0] S1x256x1x128.size inb_S1x1024x8x128_S1x256x1x128_0_128_6_0).toLoadRect A) shapeCasts_S1x256x1x128_S256x128) shapeCasts_S256x128_S256x128) :
    iprop(ctx X K ∗ kinB 0 A ∗ vinB 0 B ∗ ksS 0 A 128 256 6 ∗ vsS 0 B 128 256 6 ∗ (∃ f, kwB 1 0 256 fullShare f) ∗ run 0 (⟨1, 8, 20, N256⟩ :: l)) ⊢ iprop(((kinB 0 A ∗ vinB 0 B ∗ ksB 0 128 256 qR (flat A) ∗ vsS 0 B 128 256 8 ∗ cred (tallyAt (dmaC 0 8) () N256) ∗ run 0 l) -∗ Q ⟨Scalar.muli 1#32 1#32, 0#32⟩)
      -∗ wp frame (wpE (defs₀ (F := F)) 𝒱₀ ((0 : Dev nD) : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 0 h w) Q) := by
  iintro ⟨#HC, HA, HB, Hk128, Hv128, Hw128k, HR⟩ Hk
  rw [k0_part11_eq_skeleton]; unfold k0_part11_skel; simp only [Prog.lift, Prog.bind_op, Prog.bind_ret, Prog.pure_eq_ret]
  iapply (load_ks 0 A 128 256 6 (k1 := 6) rfl) $$ Hk128
  iintro %_ Hk128
  iapply (store_ks 0 A 128 256 6 rfl rfl (hc := shapeCasts_S1x256x1x128_S256x128) (hc' := shapeCasts_S256x128_S256x128) (off4 := ![0, 128, 6, 0]) (inb4 := inb_S1x1024x8x128_S1x256x1x128_0_128_6_0) (w := k0_pay48 w) hw) $$ Hk128
  iintro Hk128
  iapply (stage_vs 0 B 128 256 6 rfl rfl shapeCasts_S1x256x1x128_S256x128 shapeCasts_S256x128_S256x128 (fun _ => rfl)) $$ [HB Hv128]
  · iframe
  iintro ⟨HB, Hv128⟩
  iapply (stage_ks 0 A 128 256 7 rfl rfl shapeCasts_S1x256x1x128_S256x128 shapeCasts_S256x128_S256x128 (fun _ => rfl)) $$ [HA Hk128]
  · iframe
  iintro ⟨HA, Hk128⟩
  iapply (stage_vs 0 B 128 256 7 rfl rfl shapeCasts_S1x256x1x128_S256x128 shapeCasts_S256x128_S256x128 (fun _ => rfl)) $$ [HB Hv128]
  · iframe
  iintro ⟨HB, Hv128⟩
  ihave Hk128 := (ksS_done 0 A 128 256) $$ Hk128
  ihave Hk128 := ((ksB_half 0 128 256 fullShare (flat A)).1) $$ Hk128
  icases Hk128 with ⟨Hl, Hk128⟩
  iapply (send_ks_kw X K 0 1 _ (Fin.ext k0_dev8_eq) 8 20 N256 128 0 256 rfl rfl (by decide) rfl rfl rfl rfl rfl qL (flat A) (X.kw 1) (by rw [← hA]; rfl) rfl
    (by rw [← hA]; exact win_k X 0 1 128 0 256 (by decide) (by decide) (by decide)) _) $$ [Hl Hw128k HR]
  · iframe; iexact HC
  iintro ⟨Hc8, HR⟩
  rw [wp_ret]; imodintro
  iapply Hk
  iframe

theorem part12_run {Q : (PUnit) → sProp 𝕄} (X : Cont F) (K : Dev nD × Fin 27 → ℕ) (A B : S1x1024x8x128.Idx → Elt F .bf16) (hA : X.k 0 = flat A) (hB : X.v 0 = flat B) (h : k0_cond1 0 = 1#1) (l : List Flow) (kw0 kw1 : BitVec 32) :
    iprop(ctx X K ∗ kinB 0 A ∗ vinB 0 B ∗ vsS 0 B 128 256 8 ∗ ksS 0 A 896 128 0 ∗ vsS 0 B 896 128 0 ∗ (∃ f, vwB 1 0 256 fullShare f) ∗ run 0 (⟨1, 9, 21, N256⟩ :: l)) ⊢ iprop(((kinB 0 A ∗ vinB 0 B ∗ vsB 0 128 256 qR (flat B) ∗ ksS 0 A 896 128 2 ∗ vsS 0 B 896 128 2 ∗ cred (tallyAt (dmaC 0 9) () N256) ∗ run 0 l) -∗ Q ⟨⟩)
      -∗ wp frame (wpE (defs₀ (F := F)) 𝒱₀ ((0 : Dev nD) : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 0 h kw0 kw1) Q) := by
  iintro ⟨#HC, HA, HB, Hv128, Hk896, Hv896, Hw128v, HR⟩ Hk
  rw [k0_part12_eq_skeleton]; unfold k0_part12_skel; simp only [Prog.lift, Prog.bind_op, Prog.bind_ret, Prog.pure_eq_ret]
  ihave Hv128 := (vsS_done 0 B 128 256) $$ Hv128
  ihave Hv128 := ((vsB_half 0 128 256 fullShare (flat B)).1) $$ Hv128
  icases Hv128 with ⟨Hl, Hv128⟩
  iapply (send_vs_vw X K 0 1 _ (Fin.ext k0_dev9_eq) 9 21 N256 128 0 256 rfl rfl (by decide) rfl rfl rfl rfl rfl qL (flat B) (X.vw 1) (by rw [← hB]; rfl) rfl
    (by rw [← hB]; exact win_v X 0 1 128 0 256 (by decide) (by decide) (by decide)) _) $$ [Hl Hw128v HR]
  · iframe; iexact HC
  iintro ⟨Hc9, HR⟩
  iapply (stage_ks 0 A 896 128 0 rfl rfl shapeCasts_S1x128x1x128_S128x128 shapeCasts_S128x128_S128x128 (fun _ => rfl)) $$ [HA Hk896]
  · iframe
  iintro ⟨HA, Hk896⟩
  iapply (stage_vs 0 B 896 128 0 rfl rfl shapeCasts_S1x128x1x128_S128x128 shapeCasts_S128x128_S128x128 (fun _ => rfl)) $$ [HB Hv896]
  · iframe
  iintro ⟨HB, Hv896⟩
  iapply (stage_ks 0 A 896 128 1 rfl rfl shapeCasts_S1x128x1x128_S128x128 shapeCasts_S128x128_S128x128 (fun _ => rfl)) $$ [HA Hk896]
  · iframe
  iintro ⟨HA, Hk896⟩
  iapply (stage_vs 0 B 896 128 1 rfl rfl shapeCasts_S1x128x1x128_S128x128 shapeCasts_S128x128_S128x128 (fun _ => rfl)) $$ [HB Hv896]
  · iframe
  iintro ⟨HB, Hv896⟩
  rw [wp_ret]; imodintro
  iapply Hk
  iframe

end Cert.KernelIdeal.Win
-- ==== Proof.KI.Keys0c.lean ====
/- Device 0 stages its keys and values head by head and sends them out in bands. -/
module

public import proofs.«01_k».proof.Proof.KI.Window

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

/-! ## Device 0 stages its shard of the keys and values, and sends its peers what their windows need -/

theorem part13_run {Q : (PUnit) → sProp 𝕄} (c : Dev nD) (A B : S1x1024x8x128.Idx → Elt F .bf16) :
    iprop(kinB c A ∗ vinB c B ∗ ksS c A 896 128 2 ∗ vsS c B 896 128 2) ⊢ iprop(((kinB c A ∗ vinB c B ∗ ksS c A 896 128 5 ∗ vsS c B 896 128 4) -∗ Q ⟨⟩)
      -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hk896, Hv896⟩ Hk
  rw [k0_part13_eq_skeleton]; unfold k0_part13_skel; simp only [Prog.lift, Prog.bind_op, Prog.bind_ret, Prog.pure_eq_ret]
  iapply (stage_ks c A 896 128 2 rfl rfl shapeCasts_S1x128x1x128_S128x128 shapeCasts_S128x128_S128x128 (fun _ => rfl)) $$ [HA Hk896]
  · iframe
  iintro ⟨HA, Hk896⟩
  iapply (stage_vs c B 896 128 2 rfl rfl shapeCasts_S1x128x1x128_S128x128 shapeCasts_S128x128_S128x128 (fun _ => rfl)) $$ [HB Hv896]
  · iframe
  iintro ⟨HB, Hv896⟩
  iapply (stage_ks c A 896 128 3 rfl rfl shapeCasts_S1x128x1x128_S128x128 shapeCasts_S128x128_S128x128 (fun _ => rfl)) $$ [HA Hk896]
  · iframe
  iintro ⟨HA, Hk896⟩
  iapply (stage_vs c B 896 128 3 rfl rfl shapeCasts_S1x128x1x128_S128x128 shapeCasts_S128x128_S128x128 (fun _ => rfl)) $$ [HB Hv896]
  · iframe
  iintro ⟨HB, Hv896⟩
  iapply (stage_ks c A 896 128 4 rfl rfl shapeCasts_S1x128x1x128_S128x128 shapeCasts_S128x128_S128x128 (fun _ => rfl)) $$ [HA Hk896]
  · iframe
  iintro ⟨HA, Hk896⟩
  rw [wp_ret]; imodintro
  iapply Hk
  iframe

theorem part14_run {Q : (PUnit) → sProp 𝕄} (c : Dev nD) (A B : S1x1024x8x128.Idx → Elt F .bf16) :
    iprop(kinB c A ∗ vinB c B ∗ vsS c B 896 128 4 ∗ ksS c A 896 128 5) ⊢ iprop(((kinB c A ∗ vinB c B ∗ vsS c B 896 128 7 ∗ ksS c A 896 128 7) -∗ Q ⟨⟩)
      -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hv896, Hk896⟩ Hk
  rw [k0_part14_eq_skeleton]; unfold k0_part14_skel; simp only [Prog.lift, Prog.bind_op, Prog.bind_ret, Prog.pure_eq_ret]
  iapply (stage_vs c B 896 128 4 rfl rfl shapeCasts_S1x128x1x128_S128x128 shapeCasts_S128x128_S128x128 (fun _ => rfl)) $$ [HB Hv896]
  · iframe
  iintro ⟨HB, Hv896⟩
  iapply (stage_ks c A 896 128 5 rfl rfl shapeCasts_S1x128x1x128_S128x128 shapeCasts_S128x128_S128x128 (fun _ => rfl)) $$ [HA Hk896]
  · iframe
  iintro ⟨HA, Hk896⟩
  iapply (stage_vs c B 896 128 5 rfl rfl shapeCasts_S1x128x1x128_S128x128 shapeCasts_S128x128_S128x128 (fun _ => rfl)) $$ [HB Hv896]
  · iframe
  iintro ⟨HB, Hv896⟩
  iapply (stage_ks c A 896 128 6 rfl rfl shapeCasts_S1x128x1x128_S128x128 shapeCasts_S128x128_S128x128 (fun _ => rfl)) $$ [HA Hk896]
  · iframe
  iintro ⟨HA, Hk896⟩
  iapply (stage_vs c B 896 128 6 rfl rfl shapeCasts_S1x128x1x128_S128x128 shapeCasts_S128x128_S128x128 (fun _ => rfl)) $$ [HB Hv896]
  · iframe
  iintro ⟨HB, Hv896⟩
  rw [wp_ret]; imodintro
  iapply Hk
  iframe

theorem part15_run {Q : (PUnit) → sProp 𝕄} (X : Cont F) (K : Dev nD × Fin 27 → ℕ) (A B : S1x1024x8x128.Idx → Elt F .bf16) (hA : X.k 0 = flat A) (hB : X.v 0 = flat B) (h : k0_cond1 0 = 1#1) (l : List Flow) :
    iprop(ctx X K ∗ kinB 0 A ∗ vinB 0 B ∗ ksS 0 A 896 128 7 ∗ vsS 0 B 896 128 7 ∗ (∃ f, kwB 3 256 128 fullShare f) ∗ (∃ f, vwB 3 256 128 fullShare f) ∗ run 0 (⟨3, 12, 20, N128⟩ :: ⟨3, 13, 21, N128⟩ :: l)) ⊢ iprop(((kinB 0 A ∗ vinB 0 B ∗ ksB 0 896 128 qR (flat A) ∗ vsB 0 896 128 qR (flat B) ∗ cred (tallyAt (dmaC 0 12) () N128) ∗ cred (tallyAt (dmaC 0 13) () N128) ∗ run 0 l) -∗ Q ⟨⟩)
      -∗ wp frame (wpE (defs₀ (F := F)) 𝒱₀ ((0 : Dev nD) : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 0 h) Q) := by
  iintro ⟨#HC, HA, HB, Hk896, Hv896, Hw896k, Hw896v, HR⟩ Hk
  rw [k0_part15_eq_skeleton]; unfold k0_part15_skel; simp only [Prog.lift, Prog.bind_op, Prog.bind_ret, Prog.pure_eq_ret]
  iapply (stage_ks 0 A 896 128 7 rfl rfl shapeCasts_S1x128x1x128_S128x128 shapeCasts_S128x128_S128x128 (fun _ => rfl)) $$ [HA Hk896]
  · iframe
  iintro ⟨HA, Hk896⟩
  iapply (stage_vs 0 B 896 128 7 rfl rfl shapeCasts_S1x128x1x128_S128x128 shapeCasts_S128x128_S128x128 (fun _ => rfl)) $$ [HB Hv896]
  · iframe
  iintro ⟨HB, Hv896⟩
  ihave Hk896 := (ksS_done 0 A 896 128) $$ Hk896
  ihave Hk896 := ((ksB_half 0 896 128 fullShare (flat A)).1) $$ Hk896
  icases Hk896 with ⟨Hl, Hk896⟩
  iapply (send_ks_kw X K 0 3 _ (Fin.ext k0_dev10_eq) 12 20 N128 896 256 128 rfl rfl (by decide) rfl rfl rfl rfl rfl qL (flat A) (X.kw 3) (by rw [← hA]; rfl) rfl
    (by rw [← hA]; exact win_k X 0 3 896 256 128 (by decide) (by decide) (by decide)) _) $$ [Hl Hw896k HR]
  · iframe; iexact HC
  iintro ⟨Hc12, HR⟩
  ihave Hv896 := (vsS_done 0 B 896 128) $$ Hv896
  ihave Hv896 := ((vsB_half 0 896 128 fullShare (flat B)).1) $$ Hv896
  icases Hv896 with ⟨Hl, Hv896⟩
  iapply (send_vs_vw X K 0 3 _ (Fin.ext k0_dev11_eq) 13 21 N128 896 256 128 rfl rfl (by decide) rfl rfl rfl rfl rfl qL (flat B) (X.vw 3) (by rw [← hB]; rfl) rfl
    (by rw [← hB]; exact win_v X 0 3 896 256 128 (by decide) (by decide) (by decide)) _) $$ [Hl Hw896v HR]
  · iframe; iexact HC
  iintro ⟨Hc13, HR⟩
  rw [wp_ret]; imodintro
  iapply Hk
  iframe

theorem part16_run {Q : (PUnit) → sProp 𝕄} (c : Dev nD) (A B : S1x1024x8x128.Idx → Elt F .bf16) :
    iprop(kinB c A ∗ vinB c B ∗ ksS c A 0 128 0 ∗ vsS c B 0 128 0) ⊢ iprop(((kinB c A ∗ vinB c B ∗ ksS c A 0 128 3 ∗ vsS c B 0 128 2) -∗ Q ⟨⟩)
      -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hk0, Hv0⟩ Hk
  rw [k0_part16_eq_skeleton]; unfold k0_part16_skel; simp only [Prog.lift, Prog.bind_op, Prog.bind_ret, Prog.pure_eq_ret]
  iapply (stage_ks c A 0 128 0 rfl rfl shapeCasts_S1x128x1x128_S128x128 shapeCasts_S128x128_S128x128 (fun _ => rfl)) $$ [HA Hk0]
  · iframe
  iintro ⟨HA, Hk0⟩
  iapply (stage_vs c B 0 128 0 rfl rfl shapeCasts_S1x128x1x128_S128x128 shapeCasts_S128x128_S128x128 (fun _ => rfl)) $$ [HB Hv0]
  · iframe
  iintro ⟨HB, Hv0⟩
  iapply (stage_ks c A 0 128 1 rfl rfl shapeCasts_S1x128x1x128_S128x128 shapeCasts_S128x128_S128x128 (fun _ => rfl)) $$ [HA Hk0]
  · iframe
  iintro ⟨HA, Hk0⟩
  iapply (stage_vs c B 0 128 1 rfl rfl shapeCasts_S1x128x1x128_S128x128 shapeCasts_S128x128_S128x128 (fun _ => rfl)) $$ [HB Hv0]
  · iframe
  iintro ⟨HB, Hv0⟩
  iapply (stage_ks c A 0 128 2 rfl rfl shapeCasts_S1x128x1x128_S128x128 shapeCasts_S128x128_S128x128 (fun _ => rfl)) $$ [HA Hk0]
  · iframe
  iintro ⟨HA, Hk0⟩
  rw [wp_ret]; imodintro
  iapply Hk
  iframe

theorem part17_run {Q : (PUnit) → sProp 𝕄} (c : Dev nD) (A B : S1x1024x8x128.Idx → Elt F .bf16) :
    iprop(kinB c A ∗ vinB c B ∗ vsS c B 0 128 2 ∗ ksS c A 0 128 3) ⊢ iprop(((kinB c A ∗ vinB c B ∗ vsS c B 0 128 5 ∗ ksS c A 0 128 5) -∗ Q ⟨⟩)
      -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hv0, Hk0⟩ Hk
  rw [k0_part17_eq_skeleton]; unfold k0_part17_skel; simp only [Prog.lift, Prog.bind_op, Prog.bind_ret, Prog.pure_eq_ret]
  iapply (stage_vs c B 0 128 2 rfl rfl shapeCasts_S1x128x1x128_S128x128 shapeCasts_S128x128_S128x128 (fun _ => rfl)) $$ [HB Hv0]
  · iframe
  iintro ⟨HB, Hv0⟩
  iapply (stage_ks c A 0 128 3 rfl rfl shapeCasts_S1x128x1x128_S128x128 shapeCasts_S128x128_S128x128 (fun _ => rfl)) $$ [HA Hk0]
  · iframe
  iintro ⟨HA, Hk0⟩
  iapply (stage_vs c B 0 128 3 rfl rfl shapeCasts_S1x128x1x128_S128x128 shapeCasts_S128x128_S128x128 (fun _ => rfl)) $$ [HB Hv0]
  · iframe
  iintro ⟨HB, Hv0⟩
  iapply (stage_ks c A 0 128 4 rfl rfl shapeCasts_S1x128x1x128_S128x128 shapeCasts_S128x128_S128x128 (fun _ => rfl)) $$ [HA Hk0]
  · iframe
  iintro ⟨HA, Hk0⟩
  iapply (stage_vs c B 0 128 4 rfl rfl shapeCasts_S1x128x1x128_S128x128 shapeCasts_S128x128_S128x128 (fun _ => rfl)) $$ [HB Hv0]
  · iframe
  iintro ⟨HB, Hv0⟩
  rw [wp_ret]; imodintro
  iapply Hk
  iframe

theorem part18_run {Q : (PUnit) → sProp 𝕄} (c : Dev nD) (A B : S1x1024x8x128.Idx → Elt F .bf16) :
    iprop(kinB c A ∗ vinB c B ∗ ksS c A 0 128 5 ∗ vsS c B 0 128 5) ⊢ iprop(((kinB c A ∗ vinB c B ∗ ksS c A 0 128 8 ∗ vsS c B 0 128 7) -∗ Q ⟨⟩)
      -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hk0, Hv0⟩ Hk
  rw [k0_part18_eq_skeleton]; unfold k0_part18_skel; simp only [Prog.lift, Prog.bind_op, Prog.bind_ret, Prog.pure_eq_ret]
  iapply (stage_ks c A 0 128 5 rfl rfl shapeCasts_S1x128x1x128_S128x128 shapeCasts_S128x128_S128x128 (fun _ => rfl)) $$ [HA Hk0]
  · iframe
  iintro ⟨HA, Hk0⟩
  iapply (stage_vs c B 0 128 5 rfl rfl shapeCasts_S1x128x1x128_S128x128 shapeCasts_S128x128_S128x128 (fun _ => rfl)) $$ [HB Hv0]
  · iframe
  iintro ⟨HB, Hv0⟩
  iapply (stage_ks c A 0 128 6 rfl rfl shapeCasts_S1x128x1x128_S128x128 shapeCasts_S128x128_S128x128 (fun _ => rfl)) $$ [HA Hk0]
  · iframe
  iintro ⟨HA, Hk0⟩
  iapply (stage_vs c B 0 128 6 rfl rfl shapeCasts_S1x128x1x128_S128x128 shapeCasts_S128x128_S128x128 (fun _ => rfl)) $$ [HB Hv0]
  · iframe
  iintro ⟨HB, Hv0⟩
  iapply (stage_ks c A 0 128 7 rfl rfl shapeCasts_S1x128x1x128_S128x128 shapeCasts_S128x128_S128x128 (fun _ => rfl)) $$ [HA Hk0]
  · iframe
  iintro ⟨HA, Hk0⟩
  rw [wp_ret]; imodintro
  iapply Hk
  iframe

end Cert.KernelIdeal.Win
-- ==== Proof.KI.Front0.lean ====
/- Device 0 up to the moment its window is filled. -/
module

public import proofs.«01_k».proof.Proof.KI.Waits
public import proofs.«01_k».proof.Proof.KI.Keys0a
public import proofs.«01_k».proof.Proof.KI.Keys0b
public import proofs.«01_k».proof.Proof.KI.Keys0c

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

set_option maxHeartbeats 1000000 in
theorem front26_0 {Q : (Σ' (_ : FVec F S256x1024 .bf16), BitVec 32) → sProp 𝕄} (X : Cont F) (K : Dev nD × Fin 27 → ℕ)
    (A B : S1x1024x8x128.Idx → Elt F .bf16) (x : S1x1024x1024.Idx → Elt F .bf16) (wq : S1024x1024.Idx → Elt F .bf16) (v2 v17 v18 : BitVec 32)
    (hA : X.k 0 = flat A) (hB : X.v 0 = flat B) :
    iprop(ctx X K ∗ xB 0 x ∗ wqB 0 wq ∗ kinB 0 A ∗ vinB 0 B ∗ (∃ f, ksB 0 0 1024 fullShare f) ∗ (∃ f, vsB 0 0 1024 fullShare f) ∗ keep 0 ∗ peers 0 ∗ run 0 (kvFlows 0 ++ agFlows 0))
      ⊢ iprop(((xB 0 x ∗ wqB 0 wq ∗ kinB 0 A ∗ vinB 0 B ∗ kwB 0 0 512 qR (X.kw 0) ∗ vwB 0 0 512 qR (X.vw 0) ∗ rest X 0 ∗ run 0 (agFlows 0)) -∗ Q ⟨k0_pay102 (xinM.view.readAt (Elt F) (Rect.unit (s := S1x1024x1024) (k0_off1 0) S1x256x1024.size (k0_off1_inb 0)).toLoadRect x) wq, Scalar.extui (Scalar.cmpi .eq v2 3#32)⟩)
        -∗ wp frame (wpE (defs₀ (F := F)) 𝒱₀ ((0 : Dev nD) : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 0 v2 v17 v18) Q) := by
  iintro ⟨#HC, Hx, Hq, HA, HB, ⟨%f1, Hks⟩, ⟨%f2, Hvs⟩, Hkeep, Hp, HR⟩ Hk
  ihave Hkeep := (Entails.of_eq keep_0) $$ Hkeep
  icases Hkeep with ⟨⟨%f3, Hkw⟩, ⟨%f4, Hvw⟩⟩
  ihave Hp := (Entails.of_eq peers_0) $$ Hp
  icases Hp with ⟨⟨Hw384k, Hw384v, Hw128k, Hw128v⟩, -, ⟨Hw640k, Hw640v, Hw896k, Hw896v⟩⟩
  ihave Hks := (ksB_add 0 0 128 896 fullShare f1).1 $$ Hks
  icases Hks with ⟨Hk0, Hks⟩
  ihave Hk0 := (ksS_start 0 A 0 128 f1) $$ Hk0
  ihave Hks := (ksB_add 0 128 256 640 fullShare f1).1 $$ Hks
  icases Hks with ⟨Hk128, Hks⟩
  ihave Hk128 := (ksS_start 0 A 128 256 f1) $$ Hk128
  ihave Hks := (ksB_add 0 384 256 384 fullShare f1).1 $$ Hks
  icases Hks with ⟨Hk384, Hks⟩
  ihave Hk384 := (ksS_start 0 A 384 256 f1) $$ Hk384
  ihave Hks := (ksB_add 0 640 256 128 fullShare f1).1 $$ Hks
  icases Hks with ⟨Hk640, Hks⟩
  ihave Hk640 := (ksS_start 0 A 640 256 f1) $$ Hk640
  ihave Hk896 := (ksS_start 0 A 896 128 f1) $$ Hks
  ihave Hvs := (vsB_add 0 0 128 896 fullShare f2).1 $$ Hvs
  icases Hvs with ⟨Hv0, Hvs⟩
  ihave Hv0 := (vsS_start 0 B 0 128 f2) $$ Hv0
  ihave Hvs := (vsB_add 0 128 256 640 fullShare f2).1 $$ Hvs
  icases Hvs with ⟨Hv128, Hvs⟩
  ihave Hv128 := (vsS_start 0 B 128 256 f2) $$ Hv128
  ihave Hvs := (vsB_add 0 384 256 384 fullShare f2).1 $$ Hvs
  icases Hvs with ⟨Hv384, Hvs⟩
  ihave Hv384 := (vsS_start 0 B 384 256 f2) $$ Hv384
  ihave Hvs := (vsB_add 0 640 256 128 fullShare f2).1 $$ Hvs
  icases Hvs with ⟨Hv640, Hvs⟩
  ihave Hv640 := (vsS_start 0 B 640 256 f2) $$ Hv640
  ihave Hv896 := (vsS_start 0 B 896 128 f2) $$ Hvs
  have h1 : k0_cond1 0 = 1#1 := by decide
  have h2 : ¬ (k0_cond2 0 = 1#1) := by decide
  have h3 : ¬ (k0_cond3 0 = 1#1) := by decide
  rw [k0_part26_eq_skeleton]; unfold k0_part26_skel
  simp only [Prog.lift, Prog.bind_op, Prog.bind_ret, Prog.pure_eq_ret, wp_bind, dif_pos h1, dif_neg h2, dif_neg h3]
  iapply (part1_run 0 A B) $$ [HA HB Hk384 Hv384]
  · iframe
  iintro ⟨HA, HB, Hk384, Hv384⟩
  try dsimp only
  iapply (part2_run 0 A B) $$ [HA HB Hv384 Hk384]
  · iframe
  iintro ⟨HA, HB, Hv384, Hk384⟩
  try dsimp only
  iapply (part3_run 0 A B) $$ [HA HB Hk384 Hv384]
  · iframe
  iintro ⟨HA, HB, Hk384, Hv384⟩
  try dsimp only
  iapply (part4_run X K A B hA hB h1 ((kvFlows 0).drop 2 ++ agFlows 0)) $$ [HA HB Hv384 Hk384 Hk640 Hw384k Hw384v HR]
  · iframe; first | iexact HC | (isplitr; (· iexact HC); iexact HR)
  iintro ⟨HA, HB, Hv384, Hk384, Hk640, Hc6, Hc7, HR⟩
  try dsimp only
  iapply (part5_run 0 A B) $$ [HA HB Hv640 Hk640]
  · iframe
  iintro ⟨HA, HB, Hv640, Hk640⟩
  try dsimp only
  iapply (part6_run 0 A B) $$ [HA HB Hk640 Hv640]
  · iframe
  iintro ⟨HA, HB, Hk640, Hv640⟩
  try dsimp only
  iapply (part7_run 0 A B) $$ [HA HB Hv640 Hk640]
  · iframe
  iintro ⟨HA, HB, Hv640, Hk640⟩
  try dsimp only
  iapply (part8_run X K A B hA hB h1 ((kvFlows 0).drop 4 ++ agFlows 0) _ _) $$ [HA HB Hk640 Hv640 Hk128 Hv128 Hw640k Hw640v HR]
  · iframe; first | iexact HC | (isplitr; (· iexact HC); iexact HR)
  iintro ⟨HA, HB, Hk640, Hv640, Hk128, Hv128, Hc10, Hc11, HR⟩
  try dsimp only
  iapply (part9_run 0 A B _ (e_k0_pay36 _)) $$ [HA HB Hk128 Hv128]
  · iframe
  iintro ⟨HA, HB, Hk128, Hv128⟩
  try dsimp only
  iapply (part10_run 0 A B _ (e_k0_pay42 _)) $$ [HA HB Hv128 Hk128]
  · iframe
  iintro ⟨HA, HB, Hv128, Hk128⟩
  try dsimp only
  iapply (part11_run X K A B hA hB h1 ((kvFlows 0).drop 5 ++ agFlows 0) _ (e_k0_pay48 _)) $$ [HA HB Hk128 Hv128 Hw128k HR]
  · iframe; first | iexact HC | (isplitr; (· iexact HC); iexact HR)
  iintro ⟨HA, HB, Hk128, Hv128, Hc8, HR⟩
  try dsimp only
  iapply (part12_run X K A B hA hB h1 ((kvFlows 0).drop 6 ++ agFlows 0) _ _) $$ [HA HB Hv128 Hk896 Hv896 Hw128v HR]
  · iframe; first | iexact HC | (isplitr; (· iexact HC); iexact HR)
  iintro ⟨HA, HB, Hv128, Hk896, Hv896, Hc9, HR⟩
  try dsimp only
  iapply (part13_run 0 A B) $$ [HA HB Hk896 Hv896]
  · iframe
  iintro ⟨HA, HB, Hk896, Hv896⟩
  try dsimp only
  iapply (part14_run 0 A B) $$ [HA HB Hv896 Hk896]
  · iframe
  iintro ⟨HA, HB, Hv896, Hk896⟩
  try dsimp only
  iapply (part15_run X K A B hA hB h1 ((kvFlows 0).drop 8 ++ agFlows 0)) $$ [HA HB Hk896 Hv896 Hw896k Hw896v HR]
  · iframe; first | iexact HC | (isplitr; (· iexact HC); iexact HR)
  iintro ⟨HA, HB, Hk896, Hv896, Hc12, Hc13, HR⟩
  try dsimp only
  iapply (part16_run 0 A B) $$ [HA HB Hk0 Hv0]
  · iframe
  iintro ⟨HA, HB, Hk0, Hv0⟩
  try dsimp only
  iapply (part17_run 0 A B) $$ [HA HB Hv0 Hk0]
  · iframe
  iintro ⟨HA, HB, Hv0, Hk0⟩
  try dsimp only
  iapply (part18_run 0 A B) $$ [HA HB Hk0 Hv0]
  · iframe
  iintro ⟨HA, HB, Hk0, Hv0⟩
  try dsimp only
  try simp only [Prog.lift, Prog.bind_op, Prog.bind_ret, Prog.pure_eq_ret, wp_bind]
  iapply (stage_vs 0 B 0 128 7 rfl rfl shapeCasts_S1x128x1x128_S128x128 shapeCasts_S128x128_S128x128 (fun _ => rfl)) $$ [HB Hv0]
  · iframe
  iintro ⟨HB, Hv0⟩
  ihave Hk0 := (ksS_done 0 A 0 128) $$ Hk0
  ihave Hk0 := (Entails.of_eq (congrArg (fun g => ksB 0 0 128 fullShare g) hA.symm)) $$ Hk0
  ihave Hk128 := (Entails.of_eq (congrArg (fun g => ksB 0 128 256 qR g) hA.symm)) $$ Hk128
  ihave Hk384 := (Entails.of_eq (congrArg (fun g => ksB 0 384 256 qR g) hA.symm)) $$ Hk384
  ihave Hk640 := (Entails.of_eq (congrArg (fun g => ksB 0 640 256 qR g) hA.symm)) $$ Hk640
  ihave Hk896 := (Entails.of_eq (congrArg (fun g => ksB 0 896 128 qR g) hA.symm)) $$ Hk896
  ihave Hk0 := (ksB_half 0 0 128 fullShare (X.k 0)).1 $$ Hk0
  icases Hk0 with ⟨Hk0l, Hk0⟩
  ihave Hk384 := (ksB_add 0 384 128 128 qR (X.k 0)).1 $$ Hk384
  icases Hk384 with ⟨Hk384, Hk512⟩
  ihave Hk0 := (ksB_add 0 0 128 256 qR (X.k 0)).2 $$ [Hk0 Hk128]
  · iframe
  ihave Hk0 := (ksB_add 0 0 384 128 qR (X.k 0)).2 $$ [Hk0 Hk384]
  · iframe
  ihave Hv0 := (vsS_done 0 B 0 128) $$ Hv0
  ihave Hv0 := (Entails.of_eq (congrArg (fun g => vsB 0 0 128 fullShare g) hB.symm)) $$ Hv0
  ihave Hv128 := (Entails.of_eq (congrArg (fun g => vsB 0 128 256 qR g) hB.symm)) $$ Hv128
  ihave Hv384 := (Entails.of_eq (congrArg (fun g => vsB 0 384 256 qR g) hB.symm)) $$ Hv384
  ihave Hv640 := (Entails.of_eq (congrArg (fun g => vsB 0 640 256 qR g) hB.symm)) $$ Hv640
  ihave Hv896 := (Entails.of_eq (congrArg (fun g => vsB 0 896 128 qR g) hB.symm)) $$ Hv896
  ihave Hv0 := (vsB_half 0 0 128 fullShare (X.v 0)).1 $$ Hv0
  icases Hv0 with ⟨Hv0l, Hv0⟩
  ihave Hv384 := (vsB_add 0 384 128 128 qR (X.v 0)).1 $$ Hv384
  icases Hv384 with ⟨Hv384, Hv512⟩
  ihave Hv0 := (vsB_add 0 0 128 256 qR (X.v 0)).2 $$ [Hv0 Hv128]
  · iframe
  ihave Hv0 := (vsB_add 0 0 384 128 qR (X.v 0)).2 $$ [Hv0 Hv384]
  · iframe
  iapply (load0_ks 0 qR (X.k 0)) $$ Hk0
  iintro Hk0
  iapply (load_kw 0 fullShare _) $$ Hkw
  iintro Hkw
  iapply (store_kw 0 _ _) $$ Hkw
  iintro Hkw
  ihave Hkw := (Entails.of_eq (congrArg (fun g => kwB 0 0 512 fullShare g) (own_k X (inb := inb_S1024x1024_S512x1024_0_0) shapeCasts_S512x1024_S512x1024))) $$ Hkw
  ihave Hkw := (kwB_half 0 0 512 fullShare (X.kw 0)).1 $$ Hkw
  icases Hkw with ⟨Hkwl, Hkw⟩
  iapply (load0_vs 0 qR (X.v 0)) $$ Hv0
  iintro Hv0
  iapply (load_vw 0 fullShare _) $$ Hvw
  iintro Hvw
  iapply (store_vw 0 _ _) $$ Hvw
  iintro Hvw
  ihave Hvw := (Entails.of_eq (congrArg (fun g => vwB 0 0 512 fullShare g) (own_v X (inb := inb_S1024x1024_S512x1024_0_0) shapeCasts_S512x1024_S512x1024))) $$ Hvw
  ihave Hvw := (vwB_half 0 0 512 fullShare (X.vw 0)).1 $$ Hvw
  icases Hvw with ⟨Hvwl, Hvw⟩
  try simp only [Prog.lift, Prog.bind_op, Prog.bind_ret, Prog.pure_eq_ret, wp_bind]
  iapply (load_x 0 x) $$ Hx
  iintro Hx
  iapply (load_wq 0 wq) $$ Hq
  iintro Hq
  try simp only [Prog.lift, Prog.bind_op, Prog.bind_ret, Prog.pure_eq_ret, wp_bind]
  rw [wp_ret]; imodintro
  iapply Hk
  rw [rest_0]
  iframe
  iexact HR

theorem front27_0 {Q} (X : Cont F) (K : Dev nD × Fin 27 → ℕ) (v29 : FVec F S256x1024 .bf16) (v34 : BitVec 32) :
    iprop(ctx X K ∗ kwB 0 0 512 qR (X.kw 0) ∗ vwB 0 0 512 qR (X.vw 0))
      ⊢ iprop(((kwB 0 0 512 qR (X.kw 0) ∗ vwB 0 0 512 qR (X.vw 0)) -∗ Q ⟨k0_pay103 (V2 0), X.kw 0, X.vw 0, k0_pay104 (X.vw 0), k0_pay105 (V2 0) v29 (X.kw 0), k0_pay106 (V2 0) v29 (X.kw 0)⟩)
        -∗ wp frame (wpE (defs₀ (F := F)) 𝒱₀ ((0 : Dev nD) : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 0 (V2 0) v29 v34) Q) := by
  iintro ⟨#HC, Hkw, Hvw⟩ Hk
  have h4 : ¬ (k0_cond4 0 = 1#1) := by decide
  have h5 : ¬ (Scalar.cmpi .ne (Scalar.extui (Scalar.cmpi .eq (V2 0) 2#32)) 0#32 = 1#1) := by decide
  rw [k0_part27_eq_skeleton]; unfold k0_part27_skel
  simp only [Prog.lift, Prog.bind_op, Prog.bind_ret, Prog.pure_eq_ret, wp_bind, dif_neg h4, dif_neg h5]
  iapply (load_kw 0 qR _) $$ Hkw
  iintro Hkw
  iapply (load_vw 0 qR _) $$ Hvw
  iintro Hvw
  rw [wp_ret]; imodintro
  iapply Hk
  iframe

end Cert.KernelIdeal.Win
-- ==== Proof.KI.Keys1.lean ====
/- Device 1 stages its keys and values head by head. -/
module

public import proofs.«01_k».proof.Proof.KI.Window

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

/-! ## Device 1 stages the first rows of its shard -/

theorem part19_run {Q : (PUnit) → sProp 𝕄} (c : Dev nD) (A B : S1x1024x8x128.Idx → Elt F .bf16) :
    iprop(kinB c A ∗ vinB c B ∗ ksS c A 0 128 0 ∗ vsS c B 0 128 0) ⊢ iprop(((kinB c A ∗ vinB c B ∗ ksS c A 0 128 3 ∗ vsS c B 0 128 2) -∗ Q ⟨⟩)
      -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hk0, Hv0⟩ Hk
  rw [k0_part19_eq_skeleton]; unfold k0_part19_skel; simp only [Prog.lift, Prog.bind_op, Prog.bind_ret, Prog.pure_eq_ret]
  iapply (stage_ks c A 0 128 0 rfl rfl shapeCasts_S1x128x1x128_S128x128 shapeCasts_S128x128_S128x128 (fun _ => rfl)) $$ [HA Hk0]
  · iframe
  iintro ⟨HA, Hk0⟩
  iapply (stage_vs c B 0 128 0 rfl rfl shapeCasts_S1x128x1x128_S128x128 shapeCasts_S128x128_S128x128 (fun _ => rfl)) $$ [HB Hv0]
  · iframe
  iintro ⟨HB, Hv0⟩
  iapply (stage_ks c A 0 128 1 rfl rfl shapeCasts_S1x128x1x128_S128x128 shapeCasts_S128x128_S128x128 (fun _ => rfl)) $$ [HA Hk0]
  · iframe
  iintro ⟨HA, Hk0⟩
  iapply (stage_vs c B 0 128 1 rfl rfl shapeCasts_S1x128x1x128_S128x128 shapeCasts_S128x128_S128x128 (fun _ => rfl)) $$ [HB Hv0]
  · iframe
  iintro ⟨HB, Hv0⟩
  iapply (stage_ks c A 0 128 2 rfl rfl shapeCasts_S1x128x1x128_S128x128 shapeCasts_S128x128_S128x128 (fun _ => rfl)) $$ [HA Hk0]
  · iframe
  iintro ⟨HA, Hk0⟩
  rw [wp_ret]; imodintro
  iapply Hk
  iframe

theorem part20_run {Q : (PUnit) → sProp 𝕄} (c : Dev nD) (A B : S1x1024x8x128.Idx → Elt F .bf16) :
    iprop(kinB c A ∗ vinB c B ∗ vsS c B 0 128 2 ∗ ksS c A 0 128 3) ⊢ iprop(((kinB c A ∗ vinB c B ∗ vsS c B 0 128 5 ∗ ksS c A 0 128 5) -∗ Q ⟨⟩)
      -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hv0, Hk0⟩ Hk
  rw [k0_part20_eq_skeleton]; unfold k0_part20_skel; simp only [Prog.lift, Prog.bind_op, Prog.bind_ret, Prog.pure_eq_ret]
  iapply (stage_vs c B 0 128 2 rfl rfl shapeCasts_S1x128x1x128_S128x128 shapeCasts_S128x128_S128x128 (fun _ => rfl)) $$ [HB Hv0]
  · iframe
  iintro ⟨HB, Hv0⟩
  iapply (stage_ks c A 0 128 3 rfl rfl shapeCasts_S1x128x1x128_S128x128 shapeCasts_S128x128_S128x128 (fun _ => rfl)) $$ [HA Hk0]
  · iframe
  iintro ⟨HA, Hk0⟩
  iapply (stage_vs c B 0 128 3 rfl rfl shapeCasts_S1x128x1x128_S128x128 shapeCasts_S128x128_S128x128 (fun _ => rfl)) $$ [HB Hv0]
  · iframe
  iintro ⟨HB, Hv0⟩
  iapply (stage_ks c A 0 128 4 rfl rfl shapeCasts_S1x128x1x128_S128x128 shapeCasts_S128x128_S128x128 (fun _ => rfl)) $$ [HA Hk0]
  · iframe
  iintro ⟨HA, Hk0⟩
  iapply (stage_vs c B 0 128 4 rfl rfl shapeCasts_S1x128x1x128_S128x128 shapeCasts_S128x128_S128x128 (fun _ => rfl)) $$ [HB Hv0]
  · iframe
  iintro ⟨HB, Hv0⟩
  rw [wp_ret]; imodintro
  iapply Hk
  iframe

theorem part21_run {Q : (PUnit) → sProp 𝕄} (c : Dev nD) (A B : S1x1024x8x128.Idx → Elt F .bf16) :
    iprop(kinB c A ∗ vinB c B ∗ ksS c A 0 128 5 ∗ vsS c B 0 128 5) ⊢ iprop(((kinB c A ∗ vinB c B ∗ ksS c A 0 128 8 ∗ vsS c B 0 128 7) -∗ Q ⟨⟩)
      -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HA, HB, Hk0, Hv0⟩ Hk
  rw [k0_part21_eq_skeleton]; unfold k0_part21_skel; simp only [Prog.lift, Prog.bind_op, Prog.bind_ret, Prog.pure_eq_ret]
  iapply (stage_ks c A 0 128 5 rfl rfl shapeCasts_S1x128x1x128_S128x128 shapeCasts_S128x128_S128x128 (fun _ => rfl)) $$ [HA Hk0]
  · iframe
  iintro ⟨HA, Hk0⟩
  iapply (stage_vs c B 0 128 5 rfl rfl shapeCasts_S1x128x1x128_S128x128 shapeCasts_S128x128_S128x128 (fun _ => rfl)) $$ [HB Hv0]
  · iframe
  iintro ⟨HB, Hv0⟩
  iapply (stage_ks c A 0 128 6 rfl rfl shapeCasts_S1x128x1x128_S128x128 shapeCasts_S128x128_S128x128 (fun _ => rfl)) $$ [HA Hk0]
  · iframe
  iintro ⟨HA, Hk0⟩
  iapply (stage_vs c B 0 128 6 rfl rfl shapeCasts_S1x128x1x128_S128x128 shapeCasts_S128x128_S128x128 (fun _ => rfl)) $$ [HB Hv0]
  · iframe
  iintro ⟨HB, Hv0⟩
  iapply (stage_ks c A 0 128 7 rfl rfl shapeCasts_S1x128x1x128_S128x128 shapeCasts_S128x128_S128x128 (fun _ => rfl)) $$ [HA Hk0]
  · iframe
  iintro ⟨HA, Hk0⟩
  rw [wp_ret]; imodintro
  iapply Hk
  iframe

end Cert.KernelIdeal.Win
-- ==== Proof.KI.Front1.lean ====
/- Device 1 up to the moment its window is filled. -/
module

public import proofs.«01_k».proof.Proof.KI.Waits
public import proofs.«01_k».proof.Proof.KI.Keys1

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

theorem front26_1 {Q : (Σ' (_ : FVec F S256x1024 .bf16), BitVec 32) → sProp 𝕄} (X : Cont F) (K : Dev nD × Fin 27 → ℕ)
    (A B : S1x1024x8x128.Idx → Elt F .bf16) (x : S1x1024x1024.Idx → Elt F .bf16) (wq : S1024x1024.Idx → Elt F .bf16) (v2 v17 v18 : BitVec 32)
    (hA : X.k 1 = flat A) (hB : X.v 1 = flat B) :
    iprop(ctx X K ∗ xB 1 x ∗ wqB 1 wq ∗ kinB 1 A ∗ vinB 1 B ∗ (∃ f, ksB 1 0 1024 fullShare f) ∗ (∃ f, vsB 1 0 1024 fullShare f) ∗ peers 1 ∗ kvCreds 1 ∗ run 1 (kvFlows 1 ++ agFlows 1) ∗ cells (F := F) 1 {0})
      ⊢ iprop(((xB 1 x ∗ wqB 1 wq ∗ kinB 1 A ∗ vinB 1 B ∗ kwB 1 0 512 qR (X.kw 1) ∗ vwB 1 0 512 qR (X.vw 1) ∗ rest X 1 ∗ run 1 (agFlows 1) ∗ cells (F := F) 1 (doneF 1)) -∗ Q ⟨k0_pay102 (xinM.view.readAt (Elt F) (Rect.unit (s := S1x1024x1024) (k0_off1 1) S1x256x1024.size (k0_off1_inb 1)).toLoadRect x) wq, Scalar.extui (Scalar.cmpi .eq v2 3#32)⟩)
        -∗ wp frame (wpE (defs₀ (F := F)) 𝒱₀ ((1 : Dev nD) : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 1 v2 v17 v18) Q) := by
  iintro ⟨#HC, Hx, Hq, HA, HB, ⟨%f1, Hks⟩, ⟨%f2, Hvs⟩, Hp, Hcr, HR, HS⟩ Hk
  ihave Hp := (Entails.of_eq peers_1) $$ Hp
  icases Hp with ⟨⟨Hw2k, Hw2v⟩, ⟨Hw3k, Hw3v⟩, -⟩
  ihave Hcr := (Entails.of_eq kvCreds_1) $$ Hcr
  icases Hcr with ⟨Hc18, Hc19, Hc20, Hc21⟩
  ihave Hks := (ksB_add 1 0 128 896 fullShare f1).1 $$ Hks
  icases Hks with ⟨Hk0, Hks⟩
  ihave Hk0 := (ksS_start 1 A 0 128 f1) $$ Hk0
  ihave Hvs := (vsB_add 1 0 128 896 fullShare f2).1 $$ Hvs
  icases Hvs with ⟨Hv0, Hvs⟩
  ihave Hv0 := (vsS_start 1 B 0 128 f2) $$ Hv0
  have h1 : ¬ (k0_cond1 1 = 1#1) := by decide
  have h2 : k0_cond2 1 = 1#1 := by decide
  have h3 : k0_cond3 1 = 1#1 := by decide
  rw [k0_part26_eq_skeleton]; unfold k0_part26_skel
  simp only [Prog.lift, Prog.bind_op, Prog.bind_ret, Prog.pure_eq_ret, wp_bind, dif_neg h1, dif_pos h2, dif_pos h3]
  iapply (part19_run 1 A B) $$ [HA HB Hk0 Hv0]
  · iframe
  iintro ⟨HA, HB, Hk0, Hv0⟩
  try dsimp only
  iapply (part20_run 1 A B) $$ [HA HB Hv0 Hk0]
  · iframe
  iintro ⟨HA, HB, Hv0, Hk0⟩
  try dsimp only
  iapply (part21_run 1 A B) $$ [HA HB Hk0 Hv0]
  · iframe
  iintro ⟨HA, HB, Hk0, Hv0⟩
  try dsimp only
  try simp only [Prog.lift, Prog.bind_op, Prog.bind_ret, Prog.pure_eq_ret, wp_bind]
  iapply (stage_vs 1 B 0 128 7 rfl rfl shapeCasts_S1x128x1x128_S128x128 shapeCasts_S128x128_S128x128 (fun _ => rfl)) $$ [HB Hv0]
  · iframe
  iintro ⟨HB, Hv0⟩
  ihave Hk0 := (ksS_done 1 A 0 128) $$ Hk0
  ihave Hk0 := (Entails.of_eq (congrArg (fun g => ksB 1 0 128 fullShare g) hA.symm)) $$ Hk0
  ihave Hk0 := (ksB_half 1 0 128 fullShare (X.k 1)).1 $$ Hk0
  icases Hk0 with ⟨Hl, Hk0⟩
  iapply (send_ks_kw X K 1 3 _ (Fin.ext k0_dev12_eq) 14 22 N128 0 384 128 rfl rfl (by decide) rfl rfl rfl rfl rfl qL (X.k 1) (X.kw 3) rfl rfl
    (win_k X 1 3 0 384 128 (by decide) (by decide) (by decide)) ((kvFlows 1).drop 1 ++ agFlows 1)) $$ [Hl Hw3k HR]
  · iframe; first | iexact HC | (isplitr; (· iexact HC); iexact HR)
  iintro ⟨Hc14, HR⟩
  ihave Hv0 := (vsS_done 1 B 0 128) $$ Hv0
  ihave Hv0 := (Entails.of_eq (congrArg (fun g => vsB 1 0 128 fullShare g) hB.symm)) $$ Hv0
  ihave Hv0 := (vsB_half 1 0 128 fullShare (X.v 1)).1 $$ Hv0
  icases Hv0 with ⟨Hl, Hv0⟩
  iapply (send_vs_vw X K 1 3 _ (Fin.ext k0_dev13_eq) 15 23 N128 0 384 128 rfl rfl (by decide) rfl rfl rfl rfl rfl qL (X.v 1) (X.vw 3) rfl rfl
    (win_v X 1 3 0 384 128 (by decide) (by decide) (by decide)) ((kvFlows 1).drop 2 ++ agFlows 1)) $$ [Hl Hw3v HR]
  · iframe; first | iexact HC | (isplitr; (· iexact HC); iexact HR)
  iintro ⟨Hc15, HR⟩
  try simp only [Prog.lift, Prog.bind_op, Prog.bind_ret, Prog.pure_eq_ret, wp_bind]
  iapply (load_x 1 x) $$ Hx
  iintro Hx
  iapply (load_wq 1 wq) $$ Hq
  iintro Hq
  try simp only [Prog.lift, Prog.bind_op, Prog.bind_ret, Prog.pure_eq_ret, wp_bind]
  rw [k0_part22_eq_skeleton]; unfold k0_part22_skel
  simp only [Prog.lift, Prog.bind_op, Prog.bind_ret, Prog.pure_eq_ret, wp_bind]
  iapply (wait_kw X K 1 18 N256 256 ![256, 0] rfl rfl rfl ((kvFlows 1).drop 2 ++ agFlows 1) (by decide) ({0}) (by decide) (kwB 1 256 256 fullShare (X.kw 1)) rfl) $$ [Hc18 HR HS]
  · iframe; first | iexact HC | (isplitr; (· iexact HC); iexact HR)
  iintro ⟨HR, HS, Hkb⟩
  iapply (wait_vw X K 1 19 N256 256 ![256, 0] rfl rfl rfl ((kvFlows 1).drop 2 ++ agFlows 1) (by decide) (insert (kq 18) {0}) (by decide) (vwB 1 256 256 fullShare (X.vw 1)) rfl) $$ [Hc19 HR HS]
  · iframe; first | iexact HC | (isplitr; (· iexact HC); iexact HR)
  iintro ⟨HR, HS, Hvb⟩
  ihave Hkb := (kwB_half 1 256 256 fullShare (X.kw 1)).1 $$ Hkb
  icases Hkb with ⟨Hl, Hkb⟩
  iapply (send_kw_kw X K 1 2 _ (Fin.ext k0_dev14_eq) 16 18 N256 256 0 256 rfl rfl (by decide) rfl rfl rfl rfl rfl qL (X.kw 1) (X.kw 2) rfl rfl
    (fwd_k X 1 2 256 0 256 (by decide) (by decide)) ((kvFlows 1).drop 3 ++ agFlows 1)) $$ [Hl Hw2k HR]
  · iframe; first | iexact HC | (isplitr; (· iexact HC); iexact HR)
  iintro ⟨Hc16, HR⟩
  ihave Hvb := (vwB_half 1 256 256 fullShare (X.vw 1)).1 $$ Hvb
  icases Hvb with ⟨Hl, Hvb⟩
  iapply (send_vw_vw X K 1 2 _ (Fin.ext k0_dev15_eq) 17 19 N256 256 0 256 rfl rfl (by decide) rfl rfl rfl rfl rfl qL (X.vw 1) (X.vw 2) rfl rfl
    (fwd_v X 1 2 256 0 256 (by decide) (by decide)) ((kvFlows 1).drop 4 ++ agFlows 1)) $$ [Hl Hw2v HR]
  · iframe; first | iexact HC | (isplitr; (· iexact HC); iexact HR)
  iintro ⟨Hc17, HR⟩
  rw [wp_ret]; imodintro
  try dsimp only
  try simp only [Prog.lift, Prog.bind_op, Prog.bind_ret, Prog.pure_eq_ret, wp_bind]
  iapply (wait_kw X K 1 20 N256 256 ![0, 0] rfl rfl rfl (agFlows 1) (by decide) (insert (kq 19) (insert (kq 18) {0})) (by decide) (kwB 1 0 256 fullShare (X.kw 1)) rfl) $$ [Hc20 HR HS]
  · iframe; first | iexact HC | (isplitr; (· iexact HC); iexact HR)
  iintro ⟨HR, HS, Hka⟩
  iapply (wait_vw X K 1 21 N256 256 ![0, 0] rfl rfl rfl (agFlows 1) (by decide) (insert (kq 20) (insert (kq 19) (insert (kq 18) {0}))) (by decide) (vwB 1 0 256 fullShare (X.vw 1)) rfl) $$ [Hc21 HR HS]
  · iframe; first | iexact HC | (isplitr; (· iexact HC); iexact HR)
  iintro ⟨HR, HS, Hva⟩
  ihave Hka := (kwB_half 1 0 256 fullShare (X.kw 1)).1 $$ Hka
  icases Hka with ⟨Hkal, Hka⟩
  ihave Hka := (kwB_add 1 0 256 256 qR (X.kw 1)).2 $$ [Hka Hkb]
  · iframe
  ihave Hva := (vwB_half 1 0 256 fullShare (X.vw 1)).1 $$ Hva
  icases Hva with ⟨Hval, Hva⟩
  ihave Hva := (vwB_add 1 0 256 256 qR (X.vw 1)).2 $$ [Hva Hvb]
  · iframe
  try simp only [Prog.lift, Prog.bind_op, Prog.bind_ret, Prog.pure_eq_ret, wp_bind]
  rw [wp_ret]; imodintro
  iapply Hk
  rw [rest_1, doneF_1]
  iframe
  skip
  isplitl [Hks]; · iexists f1; iexact Hks
  iexists f2; iexact Hvs

theorem front27_1 {Q} (X : Cont F) (K : Dev nD × Fin 27 → ℕ) (v29 : FVec F S256x1024 .bf16) (v34 : BitVec 32) :
    iprop(ctx X K ∗ kwB 1 0 512 qR (X.kw 1) ∗ vwB 1 0 512 qR (X.vw 1))
      ⊢ iprop(((kwB 1 0 512 qR (X.kw 1) ∗ vwB 1 0 512 qR (X.vw 1)) -∗ Q ⟨k0_pay103 (V2 1), X.kw 1, X.vw 1, k0_pay104 (X.vw 1), k0_pay105 (V2 1) v29 (X.kw 1), k0_pay106 (V2 1) v29 (X.kw 1)⟩)
        -∗ wp frame (wpE (defs₀ (F := F)) 𝒱₀ ((1 : Dev nD) : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 1 (V2 1) v29 v34) Q) := by
  iintro ⟨#HC, Hkw, Hvw⟩ Hk
  have h4 : ¬ (k0_cond4 1 = 1#1) := by decide
  have h5 : ¬ (Scalar.cmpi .ne (Scalar.extui (Scalar.cmpi .eq (V2 1) 2#32)) 0#32 = 1#1) := by decide
  rw [k0_part27_eq_skeleton]; unfold k0_part27_skel
  simp only [Prog.lift, Prog.bind_op, Prog.bind_ret, Prog.pure_eq_ret, wp_bind, dif_neg h4, dif_neg h5]
  iapply (load_kw 1 qR _) $$ Hkw
  iintro Hkw
  iapply (load_vw 1 qR _) $$ Hvw
  iintro Hvw
  rw [wp_ret]; imodintro
  iapply Hk
  iframe

end Cert.KernelIdeal.Win
-- ==== Proof.KI.Front2.lean ====
/- Device 2 up to the moment its window is filled. -/
module

public import proofs.«01_k».proof.Proof.KI.Waits

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

theorem front26_2 {Q : (Σ' (_ : FVec F S256x1024 .bf16), BitVec 32) → sProp 𝕄} (X : Cont F) (K : Dev nD × Fin 27 → ℕ)
    (A B : S1x1024x8x128.Idx → Elt F .bf16) (x : S1x1024x1024.Idx → Elt F .bf16) (wq : S1024x1024.Idx → Elt F .bf16) (v2 v17 v18 : BitVec 32)
     :
    iprop(ctx X K ∗ xB 2 x ∗ wqB 2 wq)
      ⊢ iprop(((xB 2 x ∗ wqB 2 wq) -∗ Q ⟨k0_pay102 (xinM.view.readAt (Elt F) (Rect.unit (s := S1x1024x1024) (k0_off1 2) S1x256x1024.size (k0_off1_inb 2)).toLoadRect x) wq, Scalar.extui (Scalar.cmpi .eq v2 3#32)⟩)
        -∗ wp frame (wpE (defs₀ (F := F)) 𝒱₀ ((2 : Dev nD) : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 2 v2 v17 v18) Q) := by
  iintro ⟨#HC, Hx, Hq⟩ Hk
  have h1 : ¬ (k0_cond1 2 = 1#1) := by decide
  have h2 : ¬ (k0_cond2 2 = 1#1) := by decide
  have h3 : ¬ (k0_cond3 2 = 1#1) := by decide
  rw [k0_part26_eq_skeleton]; unfold k0_part26_skel
  simp only [Prog.lift, Prog.bind_op, Prog.bind_ret, Prog.pure_eq_ret, wp_bind, dif_neg h1, dif_neg h2, dif_neg h3]
  iapply (load_x 2 x) $$ Hx
  iintro Hx
  iapply (load_wq 2 wq) $$ Hq
  iintro Hq
  rw [wp_ret]; imodintro
  iapply Hk
  iframe

theorem front27_2 {Q} (X : Cont F) (K : Dev nD × Fin 27 → ℕ) (v29 : FVec F S256x1024 .bf16) (v34 : BitVec 32) :
    iprop(ctx X K ∗ (∃ f, ksB 2 0 1024 fullShare f) ∗ (∃ f, vsB 2 0 1024 fullShare f) ∗ kvCreds 2 ∗ run 2 (agFlows 2) ∗ cells (F := F) 2 {0})
      ⊢ iprop(((kwB 2 0 512 qR (X.kw 2) ∗ vwB 2 0 512 qR (X.vw 2) ∗ rest X 2 ∗ run 2 (agFlows 2) ∗ cells (F := F) 2 (doneF 2)) -∗ Q ⟨k0_pay103 (V2 2), X.kw 2, X.vw 2, k0_pay104 (X.vw 2), k0_pay105 (V2 2) v29 (X.kw 2), k0_pay106 (V2 2) v29 (X.kw 2)⟩)
        -∗ wp frame (wpE (defs₀ (F := F)) 𝒱₀ ((2 : Dev nD) : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 2 (V2 2) v29 v34) Q) := by
  iintro ⟨#HC, Hks, Hvs, Hcr, HR, HS⟩ Hk
  ihave Hcr := (Entails.of_eq kvCreds_2) $$ Hcr
  icases Hcr with ⟨Hc18, Hc19, Hc20, Hc21⟩
  have h4 : ¬ (k0_cond4 2 = 1#1) := by decide
  have h5 : Scalar.cmpi .ne (Scalar.extui (Scalar.cmpi .eq (V2 2) 2#32)) 0#32 = 1#1 := by decide
  rw [k0_part27_eq_skeleton]; unfold k0_part27_skel
  simp only [Prog.lift, Prog.bind_op, Prog.bind_ret, Prog.pure_eq_ret, wp_bind, dif_neg h4, dif_pos h5]
  iapply (wait_kw X K 2 18 N256 256 ![0, 0] rfl rfl rfl (agFlows 2) (by decide) ({0}) (by decide) (kwB 2 0 256 fullShare (X.kw 2)) rfl) $$ [Hc18 HR HS]
  · iframe; first | iexact HC | (isplitr; (· iexact HC); iexact HR)
  iintro ⟨HR, HS, Hkw0⟩
  iapply (wait_vw X K 2 19 N256 256 ![0, 0] rfl rfl rfl (agFlows 2) (by decide) (insert (kq 18) {0}) (by decide) (vwB 2 0 256 fullShare (X.vw 2)) rfl) $$ [Hc19 HR HS]
  · iframe; first | iexact HC | (isplitr; (· iexact HC); iexact HR)
  iintro ⟨HR, HS, Hvw0⟩
  iapply (wait_kw X K 2 20 N256 256 ![256, 0] rfl rfl rfl (agFlows 2) (by decide) (insert (kq 19) (insert (kq 18) {0})) (by decide) (kwB 2 256 256 fullShare (X.kw 2)) rfl) $$ [Hc20 HR HS]
  · iframe; first | iexact HC | (isplitr; (· iexact HC); iexact HR)
  iintro ⟨HR, HS, Hkw256⟩
  iapply (wait_vw X K 2 21 N256 256 ![256, 0] rfl rfl rfl (agFlows 2) (by decide) (insert (kq 20) (insert (kq 19) (insert (kq 18) {0}))) (by decide) (vwB 2 256 256 fullShare (X.vw 2)) rfl) $$ [Hc21 HR HS]
  · iframe; first | iexact HC | (isplitr; (· iexact HC); iexact HR)
  iintro ⟨HR, HS, Hvw256⟩
  ihave Hkw := (kwB_add 2 0 256 256 fullShare (X.kw 2)).2 $$ [Hkw0 Hkw256]
  · iframe
  ihave Hkw := (kwB_half 2 0 512 fullShare (X.kw 2)).1 $$ Hkw
  icases Hkw with ⟨Hkwl, Hkw⟩
  ihave Hvw := (vwB_add 2 0 256 256 fullShare (X.vw 2)).2 $$ [Hvw0 Hvw256]
  · iframe
  ihave Hvw := (vwB_half 2 0 512 fullShare (X.vw 2)).1 $$ Hvw
  icases Hvw with ⟨Hvwl, Hvw⟩
  try simp only [Prog.lift, Prog.bind_op, Prog.bind_ret, Prog.pure_eq_ret, wp_bind]
  iapply (load_kw 2 qR _) $$ Hkw
  iintro Hkw
  iapply (load_vw 2 qR _) $$ Hvw
  iintro Hvw
  rw [wp_ret]; imodintro
  iapply Hk
  rw [rest_2, doneF_2]
  iframe

end Cert.KernelIdeal.Win
-- ==== Proof.KI.Front3.lean ====
/- Device 3 up to the moment its window is filled. -/
module

public import proofs.«01_k».proof.Proof.KI.Waits

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

theorem front26_3 {Q : (Σ' (_ : FVec F S256x1024 .bf16), BitVec 32) → sProp 𝕄} (X : Cont F) (K : Dev nD × Fin 27 → ℕ)
    (A B : S1x1024x8x128.Idx → Elt F .bf16) (x : S1x1024x1024.Idx → Elt F .bf16) (wq : S1024x1024.Idx → Elt F .bf16) (v2 v17 v18 : BitVec 32)
     :
    iprop(ctx X K ∗ xB 3 x ∗ wqB 3 wq)
      ⊢ iprop(((xB 3 x ∗ wqB 3 wq) -∗ Q ⟨k0_pay102 (xinM.view.readAt (Elt F) (Rect.unit (s := S1x1024x1024) (k0_off1 3) S1x256x1024.size (k0_off1_inb 3)).toLoadRect x) wq, Scalar.extui (Scalar.cmpi .eq v2 3#32)⟩)
        -∗ wp frame (wpE (defs₀ (F := F)) 𝒱₀ ((3 : Dev nD) : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 3 v2 v17 v18) Q) := by
  iintro ⟨#HC, Hx, Hq⟩ Hk
  have h1 : ¬ (k0_cond1 3 = 1#1) := by decide
  have h2 : ¬ (k0_cond2 3 = 1#1) := by decide
  have h3 : ¬ (k0_cond3 3 = 1#1) := by decide
  rw [k0_part26_eq_skeleton]; unfold k0_part26_skel
  simp only [Prog.lift, Prog.bind_op, Prog.bind_ret, Prog.pure_eq_ret, wp_bind, dif_neg h1, dif_neg h2, dif_neg h3]
  iapply (load_x 3 x) $$ Hx
  iintro Hx
  iapply (load_wq 3 wq) $$ Hq
  iintro Hq
  rw [wp_ret]; imodintro
  iapply Hk
  iframe

theorem front27_3 {Q} (X : Cont F) (K : Dev nD × Fin 27 → ℕ) (v29 : FVec F S256x1024 .bf16) (v34 : BitVec 32) :
    iprop(ctx X K ∗ (∃ f, ksB 3 0 1024 fullShare f) ∗ (∃ f, vsB 3 0 1024 fullShare f) ∗ peers 3 ∗ kvCreds 3 ∗ run 3 (kvFlows 3 ++ agFlows 3) ∗ cells (F := F) 3 {0})
      ⊢ iprop(((kwB 3 0 512 qR (X.kw 3) ∗ vwB 3 0 512 qR (X.vw 3) ∗ rest X 3 ∗ run 3 (agFlows 3) ∗ cells (F := F) 3 (doneF 3)) -∗ Q ⟨k0_pay103 (V2 3), X.kw 3, X.vw 3, k0_pay104 (X.vw 3), k0_pay105 (V2 3) v29 (X.kw 3), k0_pay106 (V2 3) v29 (X.kw 3)⟩)
        -∗ wp frame (wpE (defs₀ (F := F)) 𝒱₀ ((3 : Dev nD) : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 3 (V2 3) v29 v34) Q) := by
  iintro ⟨#HC, Hks, Hvs, Hp, Hcr, HR, HS⟩ Hk
  ihave Hp := (Entails.of_eq peers_3) $$ Hp
  icases Hp with ⟨-, -, Hw2k, Hw2v⟩
  ihave Hcr := (Entails.of_eq kvCreds_3) $$ Hcr
  icases Hcr with ⟨Hc18, Hc19, Hc20, Hc21, Hc22, Hc23⟩
  have h4 : k0_cond4 3 = 1#1 := by decide
  have h5 : ¬ (Scalar.cmpi .ne (Scalar.extui (Scalar.cmpi .eq (V2 3) 2#32)) 0#32 = 1#1) := by decide
  rw [k0_part27_eq_skeleton]; unfold k0_part27_skel
  simp only [Prog.lift, Prog.bind_op, Prog.bind_ret, Prog.pure_eq_ret, wp_bind, dif_pos h4, dif_neg h5]
  rw [k0_part23_eq_skeleton]; unfold k0_part23_skel
  simp only [Prog.lift, Prog.bind_op, Prog.bind_ret, Prog.pure_eq_ret, wp_bind]
  iapply (wait_kw X K 3 18 N256 256 ![0, 0] rfl rfl rfl (kvFlows 3 ++ agFlows 3) (by decide) ({0}) (by decide) (kwB 3 0 256 fullShare (X.kw 3)) rfl) $$ [Hc18 HR HS]
  · iframe; first | iexact HC | (isplitr; (· iexact HC); iexact HR)
  iintro ⟨HR, HS, Hkwa⟩
  iapply (wait_vw X K 3 19 N256 256 ![0, 0] rfl rfl rfl (kvFlows 3 ++ agFlows 3) (by decide) (insert (kq 18) {0}) (by decide) (vwB 3 0 256 fullShare (X.vw 3)) rfl) $$ [Hc19 HR HS]
  · iframe; first | iexact HC | (isplitr; (· iexact HC); iexact HR)
  iintro ⟨HR, HS, Hvwa⟩
  ihave Hkwa := (kwB_half 3 0 256 fullShare (X.kw 3)).1 $$ Hkwa
  icases Hkwa with ⟨Hl, Hkwa⟩
  iapply (send_kw_kw X K 3 2 _ (Fin.ext k0_dev16_eq) 14 20 N256 0 256 256 rfl rfl (by decide) rfl rfl rfl rfl rfl qL (X.kw 3) (X.kw 2) rfl rfl
    (fwd_k X 3 2 0 256 256 (by decide) (by decide)) ((kvFlows 3).drop 1 ++ agFlows 3)) $$ [Hl Hw2k HR]
  · iframe; first | iexact HC | (isplitr; (· iexact HC); iexact HR)
  iintro ⟨Hc14, HR⟩
  ihave Hvwa := (vwB_half 3 0 256 fullShare (X.vw 3)).1 $$ Hvwa
  icases Hvwa with ⟨Hl, Hvwa⟩
  iapply (send_vw_vw X K 3 2 _ (Fin.ext k0_dev17_eq) 15 21 N256 0 256 256 rfl rfl (by decide) rfl rfl rfl rfl rfl qL (X.vw 3) (X.vw 2) rfl rfl
    (fwd_v X 3 2 0 256 256 (by decide) (by decide)) ((kvFlows 3).drop 2 ++ agFlows 3)) $$ [Hl Hw2v HR]
  · iframe; first | iexact HC | (isplitr; (· iexact HC); iexact HR)
  iintro ⟨Hc15, HR⟩
  rw [wp_ret]; imodintro
  try dsimp only
  try simp only [Prog.lift, Prog.bind_op, Prog.bind_ret, Prog.pure_eq_ret, wp_bind]
  iapply (wait_kw X K 3 20 N128 128 ![256, 0] rfl rfl rfl (agFlows 3) (by decide) (insert (kq 19) (insert (kq 18) {0})) (by decide) (kwB 3 256 128 fullShare (X.kw 3)) rfl) $$ [Hc20 HR HS]
  · iframe; first | iexact HC | (isplitr; (· iexact HC); iexact HR)
  iintro ⟨HR, HS, Hkw256⟩
  iapply (wait_vw X K 3 21 N128 128 ![256, 0] rfl rfl rfl (agFlows 3) (by decide) (insert (kq 20) (insert (kq 19) (insert (kq 18) {0}))) (by decide) (vwB 3 256 128 fullShare (X.vw 3)) rfl) $$ [Hc21 HR HS]
  · iframe; first | iexact HC | (isplitr; (· iexact HC); iexact HR)
  iintro ⟨HR, HS, Hvw256⟩
  iapply (wait_kw X K 3 22 N128 128 ![384, 0] rfl rfl rfl (agFlows 3) (by decide) (insert (kq 21) (insert (kq 20) (insert (kq 19) (insert (kq 18) {0})))) (by decide) (kwB 3 384 128 fullShare (X.kw 3)) rfl) $$ [Hc22 HR HS]
  · iframe; first | iexact HC | (isplitr; (· iexact HC); iexact HR)
  iintro ⟨HR, HS, Hkw384⟩
  iapply (wait_vw X K 3 23 N128 128 ![384, 0] rfl rfl rfl (agFlows 3) (by decide) (insert (kq 22) (insert (kq 21) (insert (kq 20) (insert (kq 19) (insert (kq 18) {0}))))) (by decide) (vwB 3 384 128 fullShare (X.vw 3)) rfl) $$ [Hc23 HR HS]
  · iframe; first | iexact HC | (isplitr; (· iexact HC); iexact HR)
  iintro ⟨HR, HS, Hvw384⟩
  ihave Hkw := (kwB_add 3 256 128 128 fullShare (X.kw 3)).2 $$ [Hkw256 Hkw384]
  · iframe
  ihave Hkw := (kwB_half 3 256 256 fullShare (X.kw 3)).1 $$ Hkw
  icases Hkw with ⟨Hkwl, Hkw⟩
  ihave Hkw := (kwB_add 3 0 256 256 qR (X.kw 3)).2 $$ [Hkwa Hkw]
  · iframe
  ihave Hvw := (vwB_add 3 256 128 128 fullShare (X.vw 3)).2 $$ [Hvw256 Hvw384]
  · iframe
  ihave Hvw := (vwB_half 3 256 256 fullShare (X.vw 3)).1 $$ Hvw
  icases Hvw with ⟨Hvwl, Hvw⟩
  ihave Hvw := (vwB_add 3 0 256 256 qR (X.vw 3)).2 $$ [Hvwa Hvw]
  · iframe
  try simp only [Prog.lift, Prog.bind_op, Prog.bind_ret, Prog.pure_eq_ret, wp_bind]
  iapply (load_kw 3 qR _) $$ Hkw
  iintro Hkw
  iapply (load_vw 3 qR _) $$ Hvw
  iintro Hvw
  rw [wp_ret]; imodintro
  iapply Hk
  rw [rest_3, doneF_3]
  iframe

end Cert.KernelIdeal.Win
-- ==== Proof.KI.Body.lean ====
/- The whole body, on each device. -/
module

public import proofs.«01_k».proof.Proof.KI.Back
public import proofs.«01_k».proof.Proof.KI.Barrier
public import proofs.«01_k».proof.Proof.KI.Front0
public import proofs.«01_k».proof.Proof.KI.Front1
public import proofs.«01_k».proof.Proof.KI.Front2
public import proofs.«01_k».proof.Proof.KI.Front3

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (X : Cont F) (K : Dev nD × Fin 27 → ℕ)

/-! ## The scratch buffers at the start, cut into what the device keeps and what it hands its peers -/

def parts (c : Dev nD) : sProp 𝕄 :=
  iprop((∃ f, ksB c 0 1024 fullShare f) ∗ (∃ f, vsB c 0 1024 fullShare f) ∗ keep c
    ∗ (give c (nx c 1) ∗ give c (nx c 2) ∗ give c (nx c 3)) ∗ (∃ f, agB c (256 * c.val) 256 fullShare f))

omit [FloatOps F] [Named F] in
theorem gather_cut (c : Dev nD) : (iprop(∃ f, agB c 0 1024 fullShare f) : sProp 𝕄) ⊢
    iprop((∃ f, agB c (256 * c.val) 256 fullShare f) ∗ (∃ f, agB c (256 * (nx c 1).val) 256 fullShare f)
      ∗ (∃ f, agB c (256 * (nx c 2).val) 256 fullShare f) ∗ (∃ f, agB c (256 * (nx c 3).val) 256 fullShare f)) := by
  iintro ⟨%f, H⟩
  ihave H := (ag_all c c fullShare f).1 $$ H
  icases H with ⟨H0, H1, H2, H3⟩
  isplitl [H0]; · iexists f; iexact H0
  isplitl [H1]; · iexists f; iexact H1
  isplitl [H2]; · iexists f; iexact H2
  iexists f; iexact H3

omit [FloatOps F] [Named F] in
theorem parts_0 : (scr 0 : sProp 𝕄) ⊢ parts 0 := by
  unfold scr parts give
  iintro ⟨Hks, Hvs, ⟨%f, Hkw⟩, ⟨%g, Hvw⟩, Ha⟩
  ihave Ha := (gather_cut 0) $$ Ha
  icases Ha with ⟨Ha0, Ha1, Ha2, Ha3⟩
  isplitl [Hks]; · iexact Hks
  isplitl [Hvs]; · iexact Hvs
  isplitl [Hkw Hvw]
  · iapply (Entails.of_eq keep_0.symm)
    isplitl [Hkw]
    · iexists f; iexact Hkw
    iexists g; iexact Hvw
  isplitr [Ha0]
  · isplitl [Ha1 ]
    · isplitl [Ha1]; · iexact Ha1
      iapply (Entails.of_eq (show (iprop(emp) : sProp 𝕄) = kvWin 0 (nx 0 1) from rfl))
      iempintro
    isplitl [Ha2 ]
    · isplitl [Ha2]; · iexact Ha2
      iapply (Entails.of_eq (show (iprop(emp) : sProp 𝕄) = kvWin 0 (nx 0 2) from rfl))
      iempintro
    isplitl [Ha3]; · iexact Ha3
    iapply (Entails.of_eq (show (iprop(emp) : sProp 𝕄) = kvWin 0 (nx 0 3) from rfl))
    iempintro
  iexact Ha0

omit [FloatOps F] [Named F] in
theorem parts_1 : (scr 1 : sProp 𝕄) ⊢ parts 1 := by
  unfold scr parts give
  iintro ⟨Hks, Hvs, ⟨%f, Hkw⟩, ⟨%g, Hvw⟩, Ha⟩
  ihave Ha := (gather_cut 1) $$ Ha
  icases Ha with ⟨Ha0, Ha1, Ha2, Ha3⟩
  ihave Hkw := (kwB_add 1 0 256 256 fullShare f).1 $$ Hkw
  icases Hkw with ⟨Hkw0, Hkw⟩
  ihave Hvw := (vwB_add 1 0 256 256 fullShare g).1 $$ Hvw
  icases Hvw with ⟨Hvw0, Hvw⟩
  isplitl [Hks]; · iexact Hks
  isplitl [Hvs]; · iexact Hvs
  isplitr; · iapply (Entails.of_eq (show (iprop(emp) : sProp 𝕄) = keep 1 from rfl)); iempintro
  isplitr [Ha0]
  · isplitl [Ha1 ]
    · isplitl [Ha1]; · iexact Ha1
      iapply (Entails.of_eq (show (iprop(emp) : sProp 𝕄) = kvWin 1 (nx 1 1) from rfl))
      iempintro
    isplitl [Ha2 ]
    · isplitl [Ha2]; · iexact Ha2
      iapply (Entails.of_eq (show (iprop(emp) : sProp 𝕄) = kvWin 1 (nx 1 2) from rfl))
      iempintro
    isplitl [Ha3]; · iexact Ha3
    iapply (Entails.of_eq (show (iprop((∃ f, kwB 1 256 256 fullShare f) ∗ (∃ f, vwB 1 256 256 fullShare f) ∗ (∃ f, kwB 1 0 256 fullShare f) ∗ (∃ f, vwB 1 0 256 fullShare f)) : sProp 𝕄) = kvWin 1 (nx 1 3) from rfl))
    isplitl [Hkw]; · iexists _; iexact Hkw
    isplitl [Hvw]; · iexists _; iexact Hvw
    isplitl [Hkw0]; · iexists _; iexact Hkw0
    iexists _; iexact Hvw0
  iexact Ha0

omit [FloatOps F] [Named F] in
theorem parts_2 : (scr 2 : sProp 𝕄) ⊢ parts 2 := by
  unfold scr parts give
  iintro ⟨Hks, Hvs, ⟨%f, Hkw⟩, ⟨%g, Hvw⟩, Ha⟩
  ihave Ha := (gather_cut 2) $$ Ha
  icases Ha with ⟨Ha0, Ha1, Ha2, Ha3⟩
  ihave Hkw := (kwB_add 2 0 256 256 fullShare f).1 $$ Hkw
  icases Hkw with ⟨Hkw0, Hkw⟩
  ihave Hvw := (vwB_add 2 0 256 256 fullShare g).1 $$ Hvw
  icases Hvw with ⟨Hvw0, Hvw⟩
  isplitl [Hks]; · iexact Hks
  isplitl [Hvs]; · iexact Hvs
  isplitr; · iapply (Entails.of_eq (show (iprop(emp) : sProp 𝕄) = keep 2 from rfl)); iempintro
  isplitr [Ha0]
  · isplitl [Ha1 Hkw Hvw]
    · isplitl [Ha1]; · iexact Ha1
      iapply (Entails.of_eq (show (iprop((∃ f, kwB 2 256 256 fullShare f) ∗ (∃ f, vwB 2 256 256 fullShare f)) : sProp 𝕄) = kvWin 2 (nx 2 1) from rfl))
      isplitl [Hkw]; · iexists _; iexact Hkw
      iexists _; iexact Hvw
    isplitl [Ha2 ]
    · isplitl [Ha2]; · iexact Ha2
      iapply (Entails.of_eq (show (iprop(emp) : sProp 𝕄) = kvWin 2 (nx 2 2) from rfl))
      iempintro
    isplitl [Ha3]; · iexact Ha3
    iapply (Entails.of_eq (show (iprop((∃ f, kwB 2 0 256 fullShare f) ∗ (∃ f, vwB 2 0 256 fullShare f)) : sProp 𝕄) = kvWin 2 (nx 2 3) from rfl))
    isplitl [Hkw0]; · iexists _; iexact Hkw0
    iexists _; iexact Hvw0
  iexact Ha0

omit [FloatOps F] [Named F] in
theorem parts_3 : (scr 3 : sProp 𝕄) ⊢ parts 3 := by
  unfold scr parts give
  iintro ⟨Hks, Hvs, ⟨%f, Hkw⟩, ⟨%g, Hvw⟩, Ha⟩
  ihave Ha := (gather_cut 3) $$ Ha
  icases Ha with ⟨Ha0, Ha1, Ha2, Ha3⟩
  ihave Hkw := (kwB_add 3 0 256 256 fullShare f).1 $$ Hkw
  icases Hkw with ⟨Hkw0, Hkw⟩
  ihave Hvw := (vwB_add 3 0 256 256 fullShare g).1 $$ Hvw
  icases Hvw with ⟨Hvw0, Hvw⟩
  ihave Hkw := (kwB_add 3 256 128 128 fullShare f).1 $$ Hkw
  icases Hkw with ⟨Hkw256, Hkw⟩
  ihave Hvw := (vwB_add 3 256 128 128 fullShare g).1 $$ Hvw
  icases Hvw with ⟨Hvw256, Hvw⟩
  isplitl [Hks]; · iexact Hks
  isplitl [Hvs]; · iexact Hvs
  isplitr; · iapply (Entails.of_eq (show (iprop(emp) : sProp 𝕄) = keep 3 from rfl)); iempintro
  isplitr [Ha0]
  · isplitl [Ha1 Hkw0 Hvw0 Hkw256 Hvw256]
    · isplitl [Ha1]; · iexact Ha1
      iapply (Entails.of_eq (show (iprop((∃ f, kwB 3 0 256 fullShare f) ∗ (∃ f, vwB 3 0 256 fullShare f) ∗ (∃ f, kwB 3 256 128 fullShare f) ∗ (∃ f, vwB 3 256 128 fullShare f)) : sProp 𝕄) = kvWin 3 (nx 3 1) from rfl))
      isplitl [Hkw0]; · iexists _; iexact Hkw0
      isplitl [Hvw0]; · iexists _; iexact Hvw0
      isplitl [Hkw256]; · iexists _; iexact Hkw256
      iexists _; iexact Hvw256
    isplitl [Ha2 Hkw Hvw]
    · isplitl [Ha2]; · iexact Ha2
      iapply (Entails.of_eq (show (iprop((∃ f, kwB 3 384 128 fullShare f) ∗ (∃ f, vwB 3 384 128 fullShare f)) : sProp 𝕄) = kvWin 3 (nx 3 2) from rfl))
      isplitl [Hkw]; · iexists _; iexact Hkw
      iexists _; iexact Hvw
    isplitl [Ha3]; · iexact Ha3
    iapply (Entails.of_eq (show (iprop(emp) : sProp 𝕄) = kvWin 3 (nx 3 3) from rfl))
    iempintro
  iexact Ha0

omit [FloatOps F] [Named F] in
theorem scr_parts (c : Dev nD) : (scr c : sProp 𝕄) ⊢ parts c := by
  fin_cases c
  · exact parts_0
  · exact parts_1
  · exact parts_2
  · exact parts_3

/-! ## The body -/

variable (x : S1x1024x1024.Idx → Elt F .bf16) (wq wo : S1024x1024.Idx → Elt F .bf16) (A B : S1x1024x8x128.Idx → Elt F .bf16)
  (o : S1x1024x1024.Idx → Elt F .f32)

/-- The device's rows of the input, as the body loads them. -/
abbrev xrows (c : Dev nD) (x : S1x1024x1024.Idx → Elt F .bf16) : S1x256x1024.Idx → Elt F .bf16 :=
  xinM.view.readAt (Elt F) (Rect.unit (s := S1x1024x1024) (k0_off1 c) S1x256x1024.size (k0_off1_inb c)).toLoadRect x

/-- What the gathered buffer's contents must be: each device's rows are the rows it computes. -/
def Own (c : Dev nD) : Prop := ∀ i : S1024x1024.Idx, ∀ hi : i ∈ rows 1024 (256 * c.val) 256,
  resRows c (xrows c x) wq wo (X.kw c) (X.vw c) (ix2 ⟨(i 0).val - 256 * c.val, by have := mem_rows.mp hi; omega⟩ (i 1)) = X.ag i

/-- What the body starts from. -/
def bodyIn (c : Dev nD) (W : Waits sig Unit) : sProp 𝕄 :=
  iprop(ctx X K ∗ owes (c : Thread nD τ) (O₀ c) W ∗ barToks (F := F) c ∗ cred (tallyAt (barC c) () 3) ∗ kvCreds c
    ∗ cred (tallyAt (dmaC c 29) () N256) ∗ cred (tallyAt (dmaC c 30) () N256) ∗ cred (tallyAt (dmaC c 31) () N256)
    ∗ toksL (F := F) c (kvFlows c ++ agFlows c) ∗ cells (F := F) c ∅ ∗ scr c
    ∗ xB c x ∗ wqB c wq ∗ kinB c A ∗ vinB c B ∗ woB c wo ∗ outB c o)

/-- What it ends with. -/
def bodyOut (c : Dev nD) : sProp 𝕄 :=
  iprop((∃ W, owes (c : Thread nD τ) 0 W) ∗ (bigSep Finset.univ fun k : Fin 27 => semVal (kcell (c, k)) 0) ∗ scr c
    ∗ xB c x ∗ wqB c wq ∗ kinB c A ∗ vinB c B ∗ woB c wo ∗ outB c (k0_pay121 X.ag))

theorem doneB_rest : ∀ (c : Fin 4) (k : Fin 27), k ∉ doneB c → used c.val (k.val + 5) = false ∧ 0 < k.val := by decide

theorem csem_pos : ∀ k : Fin 27, 0 < k.val → csem k = .dma ⟨k.val + 5, by have h : k.val < 27 := k.isLt; show k.val + 5 < 32; omega⟩ := by decide

theorem done_all (c : Dev nD) (k : Fin 27) (h : k ∉ doneB c) (r : ℕ) : (sched X).duties (kcell (c, k)) r = ∅ := by
  obtain ⟨hu, hp⟩ := doneB_rest c k h
  show (sched X).duties ((c : Thread nD τ), csem k) r = ∅
  rw [csem_pos k hp]
  exact duties_unused X c _ hu r

theorem finish (c : Dev nD) : iprop(ctx X K ∗ run c [] ∗ cells (F := F) c (doneB c))
    ⊢ iprop(|={Set.univ}=> ((∃ W, owes (c : Thread nD τ) 0 W) ∗ (bigSep Finset.univ fun k : Fin 27 => semVal (kcell (c, k)) 0) : sProp 𝕄)) := by
  unfold run
  iintro ⟨#HC, ⟨HO, -⟩, HS⟩
  imod (cells_finish X K c (doneB c) (done_all X c)) $$ [HS] with HZ
  · isplitr; · iexact HC
    iexact HS
  imodintro
  isplitl [HO]; · iexact HO
  iexact HZ

theorem body_0 {Q : PUnit → sProp 𝕄} (W : Waits sig Unit) (hA : X.k 0 = flat A) (hB : X.v 0 = flat B) (hag : Own X x wq wo 0) :
    bodyIn X K x wq wo A B o 0 W ⊢ iprop((bodyOut X x wq wo A B 0 -∗ Q ⟨⟩)
      -∗ wp frame (wpE (defs₀ (F := F)) 𝒱₀ ((0 : Dev nD) : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  unfold bodyIn
  iintro ⟨#HC, HO, Hbt, Hbc, Hkc, Hc29, Hc30, Hc31, HT, HS, Hscr, Hx, Hwq, HA, HB, Hwo, Hout⟩ Hk
  ihave Hscr := (scr_parts 0) $$ Hscr
  unfold parts
  icases Hscr with ⟨Hks, Hvs, Hkeep, Hg, Ha⟩
  rw [cc0_body_eq_skeleton]; unfold cc0_body_skel
  simp only [Prog.lift, Prog.bind_op, Prog.bind_ret, Prog.pure_eq_ret, wp_bind]
  iapply (part25_run X K 0 W) $$ [HO Hbt Hbc Hg HT HS]
  · isplitr; · iexact HC
    iframe
  unfold give
  iintro ⟨HR, ⟨⟨Hd1, Hp1⟩, ⟨Hd2, Hp2⟩, ⟨Hd3, Hp3⟩⟩, HS⟩
  try dsimp only
  ihave Hp : peers 0 $$ [Hp1 Hp2 Hp3]
  · unfold peers; iframe
  iapply (front26_0 X K A B x wq _ _ _ hA hB) $$ [Hx Hwq HA HB Hks Hvs Hkeep Hp HR]
  · isplitr; · iexact HC
    iframe
  iintro ⟨Hx, Hwq, HA, HB, Hkw, Hvw, Hrest, HR⟩
  try dsimp only
  iapply (front27_0 X K _ _) $$ [Hkw Hvw]
  · isplitr; · iexact HC
    iframe
  iintro ⟨Hkw, Hvw⟩
  try dsimp only
  ihave HS := (Entails.of_eq (congrArg (fun S => cells (F := F) 0 S) doneF_0.symm)) $$ HS
  iapply (part28_run 0 _ _ _ _ _ _ _)
  try dsimp only
  iapply (part29_run 0 _ _ _ _)
  try dsimp only
  iapply (part30_run 0 _ _ _ _ _ _ _)
  try dsimp only
  iapply (part31_run X 0 _ _ _ _ _ _ _ _ _ _ _ wo hag) $$ [Hwo Ha]
  · iframe
  iintro %r31 ⟨Hwo, Ha⟩
  try dsimp only
  iapply (part32_run X K 0 _ _ _ (doneF 0) (by decide)) $$ [Ha Hd1 Hd2 Hd3 Hc29 HR HS]
  · isplitr; · iexact HC
    iframe
  iintro %r32 ⟨Ha, Hb3, Hc25, Hc26, Hc27, HR, HS⟩
  iapply (part33_run X K 0 _ _ o (insert (kq 29) (doneF 0)) (by decide) (by decide)) $$ [Ha Hb3 Hout Hc30 Hc31 HR HS]
  · isplitr; · iexact HC
    iframe
  iintro ⟨Ha, Hb1, Hb2, Hb3, Hout, HR, HS⟩
  ihave Hst : stored X 0 $$ [Ha Hb1 Hb2 Hb3 Hc25 Hc26 Hc27 HR HS Hkw Hvw Hrest]
  · unfold stored gath
    iframe
  iapply (back_0 X K) $$ [Hst]
  · isplitr; · iexact HC
    iexact Hst
  iintro ⟨Hscr, HR, HS⟩
  have h8 : ¬ (Scalar.cmpi .ne (Scalar.extui (Scalar.cmpi .eq (V2 0) 3#32)) 0#32 = 1#1) := by decide
  simp only [dif_neg h8, Prog.lift, Prog.bind_op, Prog.bind_ret, Prog.pure_eq_ret, wp_bind]
  rw [wp_ret]
  imod (finish X K 0) $$ [HR HS] with Hf
  · isplitr; · iexact HC
    iframe
  icases Hf with ⟨HO, HZ⟩
  imodintro
  iapply Hk
  unfold bodyOut
  iframe

theorem body_1 {Q : PUnit → sProp 𝕄} (W : Waits sig Unit) (hA : X.k 1 = flat A) (hB : X.v 1 = flat B) (hag : Own X x wq wo 1) :
    bodyIn X K x wq wo A B o 1 W ⊢ iprop((bodyOut X x wq wo A B 1 -∗ Q ⟨⟩)
      -∗ wp frame (wpE (defs₀ (F := F)) 𝒱₀ ((1 : Dev nD) : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  unfold bodyIn
  iintro ⟨#HC, HO, Hbt, Hbc, Hkc, Hc29, Hc30, Hc31, HT, HS, Hscr, Hx, Hwq, HA, HB, Hwo, Hout⟩ Hk
  ihave Hscr := (scr_parts 1) $$ Hscr
  unfold parts
  icases Hscr with ⟨Hks, Hvs, Hkeep, Hg, Ha⟩
  rw [cc0_body_eq_skeleton]; unfold cc0_body_skel
  simp only [Prog.lift, Prog.bind_op, Prog.bind_ret, Prog.pure_eq_ret, wp_bind]
  iapply (part25_run X K 1 W) $$ [HO Hbt Hbc Hg HT HS]
  · isplitr; · iexact HC
    iframe
  unfold give
  iintro ⟨HR, ⟨⟨Hd1, Hp1⟩, ⟨Hd2, Hp2⟩, ⟨Hd3, Hp3⟩⟩, HS⟩
  try dsimp only
  ihave Hp : peers 1 $$ [Hp1 Hp2 Hp3]
  · unfold peers; iframe
  iapply (front26_1 X K A B x wq _ _ _ hA hB) $$ [Hx Hwq HA HB Hks Hvs Hp Hkc HR HS]
  · isplitr; · iexact HC
    iframe
  iintro ⟨Hx, Hwq, HA, HB, Hkw, Hvw, Hrest, HR, HS⟩
  try dsimp only
  iapply (front27_1 X K _ _) $$ [Hkw Hvw]
  · isplitr; · iexact HC
    iframe
  iintro ⟨Hkw, Hvw⟩
  try dsimp only
  iapply (part28_run 1 _ _ _ _ _ _ _)
  try dsimp only
  iapply (part29_run 1 _ _ _ _)
  try dsimp only
  iapply (part30_run 1 _ _ _ _ _ _ _)
  try dsimp only
  iapply (part31_run X 1 _ _ _ _ _ _ _ _ _ _ _ wo hag) $$ [Hwo Ha]
  · iframe
  iintro %r31 ⟨Hwo, Ha⟩
  try dsimp only
  iapply (part32_run X K 1 _ _ _ (doneF 1) (by decide)) $$ [Ha Hd1 Hd2 Hd3 Hc29 HR HS]
  · isplitr; · iexact HC
    iframe
  iintro %r32 ⟨Ha, Hb3, Hc25, Hc26, Hc27, HR, HS⟩
  iapply (part33_run X K 1 _ _ o (insert (kq 29) (doneF 1)) (by decide) (by decide)) $$ [Ha Hb3 Hout Hc30 Hc31 HR HS]
  · isplitr; · iexact HC
    iframe
  iintro ⟨Ha, Hb1, Hb2, Hb3, Hout, HR, HS⟩
  ihave Hst : stored X 1 $$ [Ha Hb1 Hb2 Hb3 Hc25 Hc26 Hc27 HR HS Hkw Hvw Hrest]
  · unfold stored gath
    iframe
  iapply (back_1 X K) $$ [Hst]
  · isplitr; · iexact HC
    iexact Hst
  iintro ⟨Hscr, HR, HS⟩
  have h8 : ¬ (Scalar.cmpi .ne (Scalar.extui (Scalar.cmpi .eq (V2 1) 3#32)) 0#32 = 1#1) := by decide
  simp only [dif_neg h8, Prog.lift, Prog.bind_op, Prog.bind_ret, Prog.pure_eq_ret, wp_bind]
  rw [wp_ret]
  imod (finish X K 1) $$ [HR HS] with Hf
  · isplitr; · iexact HC
    iframe
  icases Hf with ⟨HO, HZ⟩
  imodintro
  iapply Hk
  unfold bodyOut
  iframe

theorem body_2 {Q : PUnit → sProp 𝕄} (W : Waits sig Unit) (hag : Own X x wq wo 2) :
    bodyIn X K x wq wo A B o 2 W ⊢ iprop((bodyOut X x wq wo A B 2 -∗ Q ⟨⟩)
      -∗ wp frame (wpE (defs₀ (F := F)) 𝒱₀ ((2 : Dev nD) : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  unfold bodyIn
  iintro ⟨#HC, HO, Hbt, Hbc, Hkc, Hc29, Hc30, Hc31, HT, HS, Hscr, Hx, Hwq, HA, HB, Hwo, Hout⟩ Hk
  ihave Hscr := (scr_parts 2) $$ Hscr
  unfold parts
  icases Hscr with ⟨Hks, Hvs, Hkeep, Hg, Ha⟩
  rw [cc0_body_eq_skeleton]; unfold cc0_body_skel
  simp only [Prog.lift, Prog.bind_op, Prog.bind_ret, Prog.pure_eq_ret, wp_bind]
  iapply (part25_run X K 2 W) $$ [HO Hbt Hbc Hg HT HS]
  · isplitr; · iexact HC
    iframe
  unfold give
  iintro ⟨HR, ⟨⟨Hd1, Hp1⟩, ⟨Hd2, Hp2⟩, ⟨Hd3, Hp3⟩⟩, HS⟩
  try dsimp only
  iapply (front26_2 X K A B x wq _ _ _) $$ [Hx Hwq]
  · isplitr; · iexact HC
    iframe
  iintro ⟨Hx, Hwq⟩
  try dsimp only
  ihave HR := (Entails.of_eq (show (run 2 (kvFlows 2 ++ agFlows 2) : sProp 𝕄) = run 2 (agFlows 2) from rfl)) $$ HR
  iapply (front27_2 X K _ _) $$ [Hks Hvs Hkc HR HS]
  · isplitr; · iexact HC
    iframe
  iintro ⟨Hkw, Hvw, Hrest, HR, HS⟩
  try dsimp only
  iapply (part28_run 2 _ _ _ _ _ _ _)
  try dsimp only
  iapply (part29_run 2 _ _ _ _)
  try dsimp only
  iapply (part30_run 2 _ _ _ _ _ _ _)
  try dsimp only
  iapply (part31_run X 2 _ _ _ _ _ _ _ _ _ _ _ wo hag) $$ [Hwo Ha]
  · iframe
  iintro %r31 ⟨Hwo, Ha⟩
  try dsimp only
  iapply (part32_run X K 2 _ _ _ (doneF 2) (by decide)) $$ [Ha Hd1 Hd2 Hd3 Hc29 HR HS]
  · isplitr; · iexact HC
    iframe
  iintro %r32 ⟨Ha, Hb3, Hc25, Hc26, Hc27, HR, HS⟩
  iapply (part33_run X K 2 _ _ o (insert (kq 29) (doneF 2)) (by decide) (by decide)) $$ [Ha Hb3 Hout Hc30 Hc31 HR HS]
  · isplitr; · iexact HC
    iframe
  iintro ⟨Ha, Hb1, Hb2, Hb3, Hout, HR, HS⟩
  ihave Hst : stored X 2 $$ [Ha Hb1 Hb2 Hb3 Hc25 Hc26 Hc27 HR HS Hkw Hvw Hrest]
  · unfold stored gath
    iframe
  iapply (back_2 X K) $$ [Hst]
  · isplitr; · iexact HC
    iexact Hst
  iintro ⟨Hscr, HR, HS⟩
  have h8 : ¬ (Scalar.cmpi .ne (Scalar.extui (Scalar.cmpi .eq (V2 2) 3#32)) 0#32 = 1#1) := by decide
  simp only [dif_neg h8, Prog.lift, Prog.bind_op, Prog.bind_ret, Prog.pure_eq_ret, wp_bind]
  rw [wp_ret]
  imod (finish X K 2) $$ [HR HS] with Hf
  · isplitr; · iexact HC
    iframe
  icases Hf with ⟨HO, HZ⟩
  imodintro
  iapply Hk
  unfold bodyOut
  iframe

theorem body_3 {Q : PUnit → sProp 𝕄} (W : Waits sig Unit) (hag : Own X x wq wo 3) :
    bodyIn X K x wq wo A B o 3 W ⊢ iprop((bodyOut X x wq wo A B 3 -∗ Q ⟨⟩)
      -∗ wp frame (wpE (defs₀ (F := F)) 𝒱₀ ((3 : Dev nD) : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  unfold bodyIn
  iintro ⟨#HC, HO, Hbt, Hbc, Hkc, Hc29, Hc30, Hc31, HT, HS, Hscr, Hx, Hwq, HA, HB, Hwo, Hout⟩ Hk
  ihave Hscr := (scr_parts 3) $$ Hscr
  unfold parts
  icases Hscr with ⟨Hks, Hvs, Hkeep, Hg, Ha⟩
  rw [cc0_body_eq_skeleton]; unfold cc0_body_skel
  simp only [Prog.lift, Prog.bind_op, Prog.bind_ret, Prog.pure_eq_ret, wp_bind]
  iapply (part25_run X K 3 W) $$ [HO Hbt Hbc Hg HT HS]
  · isplitr; · iexact HC
    iframe
  unfold give
  iintro ⟨HR, ⟨⟨Hd1, Hp1⟩, ⟨Hd2, Hp2⟩, ⟨Hd3, Hp3⟩⟩, HS⟩
  try dsimp only
  ihave Hp : peers 3 $$ [Hp1 Hp2 Hp3]
  · unfold peers; iframe
  iapply (front26_3 X K A B x wq _ _ _) $$ [Hx Hwq]
  · isplitr; · iexact HC
    iframe
  iintro ⟨Hx, Hwq⟩
  try dsimp only
  ihave HR := (Entails.of_eq (show (run 3 (kvFlows 3 ++ agFlows 3) : sProp 𝕄) = run 3 (kvFlows 3 ++ agFlows 3) from rfl)) $$ HR
  iapply (front27_3 X K _ _) $$ [Hks Hvs Hp Hkc HR HS]
  · isplitr; · iexact HC
    iframe
  iintro ⟨Hkw, Hvw, Hrest, HR, HS⟩
  try dsimp only
  iapply (part28_run 3 _ _ _ _ _ _ _)
  try dsimp only
  iapply (part29_run 3 _ _ _ _)
  try dsimp only
  iapply (part30_run 3 _ _ _ _ _ _ _)
  try dsimp only
  iapply (part31_run X 3 _ _ _ _ _ _ _ _ _ _ _ wo hag) $$ [Hwo Ha]
  · iframe
  iintro %r31 ⟨Hwo, Ha⟩
  try dsimp only
  iapply (part32_run X K 3 _ _ _ (doneF 3) (by decide)) $$ [Ha Hd1 Hd2 Hd3 Hc29 HR HS]
  · isplitr; · iexact HC
    iframe
  iintro %r32 ⟨Ha, Hb3, Hc25, Hc26, Hc27, HR, HS⟩
  iapply (part33_run X K 3 _ _ o (insert (kq 29) (doneF 3)) (by decide) (by decide)) $$ [Ha Hb3 Hout Hc30 Hc31 HR HS]
  · isplitr; · iexact HC
    iframe
  iintro ⟨Ha, Hb1, Hb2, Hb3, Hout, HR, HS⟩
  ihave Hst : stored X 3 $$ [Ha Hb1 Hb2 Hb3 Hc25 Hc26 Hc27 HR HS Hkw Hvw Hrest]
  · unfold stored gath
    iframe
  iapply (back_3 X K) $$ [Hst]
  · isplitr; · iexact HC
    iexact Hst
  iintro ⟨Ha, HR, HS, Hkw, Hvw, Hrest⟩
  have h8 : Scalar.cmpi .ne (Scalar.extui (Scalar.cmpi .eq (V2 3) 3#32)) 0#32 = 1#1 := by decide
  simp only [dif_pos h8, Prog.lift, Prog.bind_op, Prog.bind_ret, Prog.pure_eq_ret]
  iapply (last_3 X K) $$ [Ha HR HS Hkw Hvw Hrest]
  · isplitr; · iexact HC
    iframe
  iintro ⟨Hscr, HR, HS⟩
  imod (finish X K 3) $$ [HR HS] with Hf
  · isplitr; · iexact HC
    iframe
  icases Hf with ⟨HO, HZ⟩
  imodintro
  iapply Hk
  unfold bodyOut
  iframe

end Cert.KernelIdeal.Win
-- ==== Proof.KI.Launch0.lean ====
/- The body on every device, from what the launch gives it: what the windows hold, and the library's body obligation. -/
module

public import proofs.«01_k».proof.Proof.KI.Body

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the windows hold -/

/-- Window `w`'s block of its array as launched. -/
def blk0 (c : Dev nD) (w : Fin cfg0.W) : ((cfg0.win w).xblock (cfg0.grid.coords t0_0)).Idx → Elt F (cfg0.win w).elt :=
  ((cfg0.win w).blk t0_0).view.read (Elt F) (m ((c : Thread nD τ).loc (Pipeline.arrRef spec0 w)))

def xst (c : Dev nD) : S1x1024x1024.Idx → Elt F .bf16 := blk0 m c 0
def wqst (c : Dev nD) : S1024x1024.Idx → Elt F .bf16 := blk0 m c 1
def kst (c : Dev nD) : S1x1024x8x128.Idx → Elt F .bf16 := blk0 m c 2
def vst (c : Dev nD) : S1x1024x8x128.Idx → Elt F .bf16 := blk0 m c 3
def wost (c : Dev nD) : S1024x1024.Idx → Elt F .bf16 := blk0 m c 4

/-- The result rows of all the devices, one device's below the other's. -/
def gathered : S1024x1024.Idx → Elt F .bf16 := fun i =>
  let p : Dev nD := ⟨(i 0).val / 256, by have : (i 0).val < 1024 := (i 0).isLt; show _ < 4; omega⟩
  resRows p (xrows p (xst m p)) (wqst m p) (wost m p) (winOf (fun c => flat (kst m c)) p) (winOf (fun c => flat (vst m c)) p)
    (ix2 ⟨(i 0).val % 256, Nat.mod_lt _ (by decide)⟩ (i 1))

/-- The contents the exchange is about. -/
def cont : Cont F where
  k c := flat (kst m c)
  v c := flat (vst m c)
  ag := gathered m

/-- Each device's rows of the gathered buffer are the rows it computes. -/
theorem own_cont (c : Dev nD) : Own (cont m) (xst m c) (wqst m c) (wost m c) c := by
  intro i hi
  have h := mem_rows.mp hi
  have hp : (⟨(i 0).val / 256, by have : (i 0).val < 1024 := (i 0).isLt; show _ < 4; omega⟩ : Dev nD) = c :=
    Fin.ext (show (i 0).val / 256 = c.val by omega)
  have hr : (⟨(i 0).val - 256 * c.val, by omega⟩ : Fin 256) = ⟨(i 0).val % 256, Nat.mod_lt _ (by decide)⟩ :=
    Fin.ext (show (i 0).val - 256 * c.val = (i 0).val % 256 by omega)
  show _ = gathered m i
  unfold gathered
  dsimp only
  rw [hp, ← hr]
  rfl

/-! ## What a device starts from -/

/-- What the launch makes of the ghost state, per device. -/
def ghost (c : Dev nD) : sProp 𝕄 :=
  iprop(∃ K : Dev nD × Fin 27 → ℕ, (bigSep Finset.univ fun ck => cellInv ER (sched (cont m)) (K ck) (kcell ck))
    ∗ (bigSep Finset.univ fun ck : Dev nD × Fin 27 => reached ER (kcell ck) 0)
    ∗ cells (F := F) c ∅ ∗ barToks (F := F) c ∗ toksL (F := F) c (kvFlows c ++ agFlows c))

/-- The credit a device is launched with. -/
def credits (c : Dev nD) : sProp 𝕄 :=
  iprop(cred (tallyAt (barC c) () 3) ∗ kvCreds c
    ∗ cred (tallyAt (dmaC c 29) () N256) ∗ cred (tallyAt (dmaC c 30) () N256) ∗ cred (tallyAt (dmaC c 31) () N256))

def start (c : Dev nD) : sProp 𝕄 := iprop(ghost m c ∗ credits (F := F) c ∗ levAts L lv)

def Φ₀ (c : Dev nD) : sProp 𝕄 := iprop(start m c ∗ scr (F := F) c)
def Φ₁ (c : Dev nD) : sProp 𝕄 := iprop((bigSep Finset.univ fun k : Fin 27 => semVal (kcell (c, k)) 0) ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wqst m c
    | ⟨2, _⟩ => kst m c
    | ⟨3, _⟩ => vst m c
    | ⟨4, _⟩ => wost m c
    | ⟨5, _⟩ => k0_pay121 (gathered m)
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] [Named F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m ρ 0 c).before (0 : Fin 6) t0_0 d = xst m c := by
  unfold Dat.before; rw [if_pos (fetch0_0 t0_0)]; rfl
theorem before_1 (c : Dev nD) (d) : (dats m ρ 0 c).before (1 : Fin 6) t0_0 d = wqst m c := by
  unfold Dat.before; rw [if_pos (fetch0_1 t0_0)]; rfl
theorem before_2 (c : Dev nD) (d) : (dats m ρ 0 c).before (2 : Fin 6) t0_0 d = kst m c := by
  unfold Dat.before; rw [if_pos (fetch0_2 t0_0)]; rfl
theorem before_3 (c : Dev nD) (d) : (dats m ρ 0 c).before (3 : Fin 6) t0_0 d = vst m c := by
  unfold Dat.before; rw [if_pos (fetch0_3 t0_0)]; rfl
theorem before_4 (c : Dev nD) (d) : (dats m ρ 0 c).before (4 : Fin 6) t0_0 d = wost m c := by
  unfold Dat.before; rw [if_pos (fetch0_4 t0_0)]; rfl

/-! ## The body -/

/-- The body on any device, from what it starts from. -/
theorem body_any (K : Dev nD × Fin 27 → ℕ) (c : Dev nD) (o : S1x1024x1024.Idx → Elt F .f32) {Q : PUnit → sProp 𝕄} (W : Waits sig Unit) :
    bodyIn (cont m) K (xst m c) (wqst m c) (wost m c) (kst m c) (vst m c) o c W
      ⊢ iprop((bodyOut (cont m) (xst m c) (wqst m c) (wost m c) (kst m c) (vst m c) c -∗ Q ⟨⟩)
      -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  have h : c = 0 ∨ c = 1 ∨ c = 2 ∨ c = 3 := by revert c; decide
  rcases h with rfl | rfl | rfl | rfl
  · exact body_0 (cont m) K _ _ _ _ _ o W rfl rfl (own_cont m 0)
  · exact body_1 (cont m) K _ _ _ _ _ o W rfl rfl (own_cont m 1)
  · exact body_2 (cont m) K _ _ _ _ _ o W (own_cont m 2)
  · exact body_3 (cont m) K _ _ _ _ _ o W (own_cont m 3)

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xst m c) ∗ stg c cc0_stg1_0 (wqst m c) ∗ stg c cc0_stg2_0 (kst m c)
    ∗ stg c cc0_stg3_0 (vst m c) ∗ stg c cc0_stg4_0 (wost m c) ∗ stg c cc0_stg5_0 (k0_pay121 (gathered m)))

theorem post_of_out (c : Dev nD) :
    (bodyOut (cont m) (xst m c) (wqst m c) (wost m c) (kst m c) (vst m c) c : sProp 𝕄) ⊢ bodyPost m ρ c := by
  unfold bodyOut bodyPost Φ₁ Dat.owesAt Pipeline.owesWithin
  rw [show (dats m ρ 0 c).owed t0_0.succ = 0 from rfl]
  unfold xB wqB kinB vinB woB outB
  iintro ⟨⟨%W, HO⟩, HZ, Hscr, H0, H1, H2, H3, H4, H5⟩
  isplitl [HZ Hscr]
  · isplitl [HZ]; · iexact HZ
    iexact Hscr
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

theorem sound_body (c : Dev nD) :
    bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) (fun _ => bodyPost m ρ c) := by
  unfold bodyPre Φ₀ start ghost credits Dat.owesAt Pipeline.owesWithin
  rw [show (dats m ρ 0 c).owed t0_0.castSucc = O₀ c from rfl]
  iintro ⟨⟨⟨⟨%K, #HI, #HR, HS, Hbt, HT⟩, ⟨Hbc, Hkc, H29, H30, H31⟩, #Hlev⟩, Hscr⟩, ⟨%W, %hW, HO⟩,
    ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_0] at h0
  rw [before_1] at h1
  rw [before_2] at h2
  rw [before_3] at h3
  rw [before_4] at h4
  subst h0 h1 h2 h3 h4
  iapply (body_any m K c g5 (Q := fun _ => bodyPost m ρ c) W) $$ [HO HS Hbt HT Hbc Hkc H29 H30 H31 Hscr H0 H1 H2 H3 H4 H5]
  · unfold bodyIn ctx xB wqB kinB vinB woB outB
    isplitr
    · isplitr; · iexact HI
      isplitr; · iexact HR
      iexact Hlev
    isplitl [HO]; · iexact HO
    isplitl [Hbt]; · iexact Hbt
    isplitl [Hbc]; · iexact Hbc
    isplitl [Hkc]; · iexact Hkc
    isplitl [H29]; · iexact H29
    isplitl [H30]; · iexact H30
    isplitl [H31]; · iexact H31
    isplitl [HT]; · iexact HT
    isplitl [HS]; · iexact HS
    isplitl [Hscr]; · iexact Hscr
    isplitl [H0]; · iexact H0
    isplitl [H1]; · iexact H1
    isplitl [H2]; · iexact H2
    isplitl [H3]; · iexact H3
    isplitl [H4]; · iexact H4
    iexact H5
  iintro H
  iapply (post_of_out m ρ c)
  iexact H

set_option maxRecDepth 16384 in
/-- The library's body obligation on each device. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  exact sound_body m ρ c

end Cert.KernelIdeal.Win
-- ==== Proof.KI.Launch1.lean ====
/- The ghost state that the launch deals: the cells, the tokens each device pays with, and its credit. -/
module

public import proofs.«01_k».proof.Proof.KI.Launch0

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Lists
omit [FloatOps F] [Named F]

/-- Resources listed one by one. -/
def sepL {I : Type} (Φ : I → sProp 𝕄) : List I → sProp 𝕄
  | [] => iprop(emp)
  | i :: l => iprop(Φ i ∗ sepL Φ l)

/-- Members of a set listed one by one. -/
theorem bigSep_list {I : Type} [DecidableEq I] (Φ : I → sProp 𝕄) : ∀ (l : List I) (s : Finset I), l.Nodup → (∀ i ∈ l, i ∈ s) →
    (bigSep s Φ : sProp 𝕄) ⊢ sepL Φ l
  | [], s, _, _ => by unfold sepL; iintro -; iempintro
  | i :: l, s, hn, hm => by
    unfold sepL
    rw [bigSep_at (hm i List.mem_cons_self)]
    iintro ⟨H, Hr⟩
    isplitl [H]; · iexact H
    iapply (bigSep_list Φ l (s.erase i) hn.of_cons (fun j hj => Finset.mem_erase.mpr
      ⟨fun e => (List.nodup_cons.mp hn).1 (e ▸ hj), hm j (List.mem_cons_of_mem _ hj)⟩))
    iexact Hr

theorem sepL_append {I : Type} (Φ : I → sProp 𝕄) : ∀ (l l' : List I), (sepL Φ (l ++ l') : sProp 𝕄) ⊢ iprop(sepL Φ l ∗ sepL Φ l')
  | [], l' => by
    show sepL Φ l' ⊢ iprop(emp ∗ sepL Φ l')
    iintro H; isplitr; · iempintro
    iexact H
  | i :: l, l' => by
    show iprop(Φ i ∗ sepL Φ (l ++ l')) ⊢ iprop((Φ i ∗ sepL Φ l) ∗ sepL Φ l')
    iintro ⟨H, Hr⟩
    ihave Hr := (sepL_append Φ l l') $$ Hr
    icases Hr with ⟨H1, H2⟩
    isplitr [H2]
    · isplitl [H]; · iexact H
      iexact H1
    iexact H2

end Lists

/-! ## The cells and the tokens as minted -/

theorem csem_injective : Function.Injective csem := by decide

theorem kcell_injective : Function.Injective (kcell : Dev nD × Fin 27 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def exCells : Finset (GSem nD τ sig) := Finset.univ.map ⟨kcell, kcell_injective⟩

/-- A token: a cell's device, the cell, and whose duty. -/
abbrev Tok : Type := Dev nD × Fin 27 × Dev nD

abbrev tokOf (t : Tok) : GSem nD τ sig × ℕ × Dev nD := (kcell (t.1, t.2.1), 0, t.2.2)
theorem tokOf_injective : Function.Injective tokOf := by
  rintro ⟨c, k, d⟩ ⟨c', k', d'⟩ h
  have h1 : (c, k) = (c', k') := kcell_injective (congrArg Prod.fst h)
  have h2 : d = d' := congrArg (fun x : GSem nD τ sig × ℕ × Dev nD => x.2.2) h
  rw [h2, (Prod.mk.inj h1).1, (Prod.mk.inj h1).2]

def exToks : Finset (GSem nD τ sig × ℕ × Dev nD) := Finset.univ.map ⟨tokOf, tokOf_injective⟩

def u₀ : UU := (initOf (Pipeline.cells cfgs cellOf_inj) (Pipeline.launchToks cfgs cellOf_inj), initOf exCells exToks)

/-- Who pays with a token: the sender of the copy, or the signalling device. -/
def payer (t : Tok) : Dev nD :=
  let q := t.2.1.val + 5
  if t.2.1.val = 0 then t.2.2
  else if q ≤ 17 then t.1
  else if q ≤ 23 then (match t.1.val with
    | 2 => if q ≤ 19 then 1 else 3
    | 3 => if q ≤ 21 then 0 else 1
    | _ => 0)
  else if q ≤ 28 then t.1
  else nx t.1 (32 - q)

def flowToks (c : Dev nD) : List Flow → List Tok
  | [] => []
  | e :: l => (c, kq e.qs, 0) :: (e.p, kq e.qd, 0) :: flowToks c l

def payList (c : Dev nD) : List Tok := flowToks c (kvFlows c ++ agFlows c) ++ [(nx c 1, 0, c), (nx c 2, 0, c), (nx c 3, 0, c)]

theorem payList_nodup : ∀ c : Fin 4, (payList c).Nodup := by decide
theorem payList_payer : ∀ c : Fin 4, ∀ t ∈ payList c, payer t = c := by decide
theorem flows_ge : ∀ c : Fin 4, ∀ e ∈ kvFlows c ++ agFlows c, 6 ≤ e.qs.val ∧ 6 ≤ e.qd.val := by decide

abbrev tokRes (t : Tok) : sProp 𝕄 := dutyTok ER (kcell (t.1, t.2.1)) 0 t.2.2

section Deal
omit [FloatOps F] [Named F]

theorem toksL_of (c : Dev nD) : ∀ l : List Flow, (∀ e ∈ l, 6 ≤ e.qs.val ∧ 6 ≤ e.qd.val) →
    (sepL (tokRes (F := F)) (flowToks c l) : sProp 𝕄) ⊢ toksL c l
  | [], _ => Entails.of_eq rfl
  | e :: l, h => by
    have h1 : kcell (c, kq e.qs) = dmaC c e.qs := by
      show ((c : Thread nD τ), csem (kq e.qs)) = _; rw [csem_kq _ (h e List.mem_cons_self).1]
    have h2 : kcell (e.p, kq e.qd) = dmaC e.p e.qd := by
      show ((e.p : Thread nD τ), csem (kq e.qd)) = _; rw [csem_kq _ (h e List.mem_cons_self).2]
    rw [toksL_cons]
    show iprop(tokRes (c, kq e.qs, 0) ∗ tokRes (e.p, kq e.qd, 0) ∗ sepL tokRes (flowToks c l)) ⊢ _
    unfold tokRes
    rw [h1, h2]
    iintro ⟨H1, H2, Hr⟩
    isplitr [Hr]
    · isplitl [H1]; · iexact H1
      iexact H2
    iapply (toksL_of c l fun e' he' => h e' (List.mem_cons_of_mem _ he'))
    iexact Hr

/-- What a device pays with. -/
def payToks (c : Dev nD) : sProp 𝕄 := iprop(barToks (F := F) c ∗ toksL (F := F) c (kvFlows c ++ agFlows c))

theorem payToks_of (c : Dev nD) : (bigSep (Finset.univ.filter fun t : Tok => payer t = c) (tokRes (F := F)) : sProp 𝕄) ⊢ payToks c := by
  refine (bigSep_list tokRes (payList c) _ (payList_nodup c) fun t ht => Finset.mem_filter.mpr ⟨Finset.mem_univ _, payList_payer c t ht⟩).trans ?_
  unfold payList payToks barToks
  refine (sepL_append _ _ _).trans ?_
  iintro ⟨H1, H2⟩
  isplitl [H2]
  · ihave H2 := (Entails.of_eq (show (sepL tokRes [(nx c 1, (0 : Fin 27), c), (nx c 2, (0 : Fin 27), c), (nx c 3, (0 : Fin 27), c)] : sProp 𝕄)
      = iprop(dutyTok ER (barC (nx c 1)) 0 c ∗ dutyTok ER (barC (nx c 2)) 0 c ∗ dutyTok ER (barC (nx c 3)) 0 c ∗ emp) from rfl)) $$ H2
    icases H2 with ⟨Ha, Hb, Hc, -⟩
    isplitl [Ha]; · iexact Ha
    isplitl [Hb]; · iexact Hb
    iexact Hc
  iapply (toksL_of c _ (flows_ge c))
  iexact H1

theorem bigSep_payer (Φ : Tok → sProp 𝕄) :
    bigSep Finset.univ Φ = bigSep Finset.univ fun c : Dev nD => bigSep (Finset.univ.filter fun t : Tok => payer t = c) Φ := by
  have h (c : Dev nD) : bigSep (Finset.univ.filter fun t : Tok => payer t = c) Φ = bigSep Finset.univ fun t : Tok => if payer t = c then Φ t else (iprop(emp) : sProp 𝕄) :=
    BI.bigSep_filter Finset.univ (fun t : Tok => payer t = c) Φ
  rw [bigSep_congr (s := Finset.univ) fun (c : Dev nD) _ => h c, BI.bigSep_univ_comm]
  refine bigSep_congr fun t _ => ?_
  have e := (BI.bigSep_filter Finset.univ (fun c : Dev nD => payer t = c) (fun _ => Φ t))
  rw [Finset.filter_eq, if_pos (Finset.mem_univ _), bigSep_singleton] at e
  exact e

end Deal

/-! ## What the launch deals -/

/-- What the launch element deals device `c`. -/
def G (c : Dev nD) : sProp 𝕄 :=
  iprop((bigSep Finset.univ fun k : Fin 27 => roundState ER (sched (cont m)) (kcell (c, k)) 0)
    ∗ (bigSep Finset.univ fun k : Fin 27 => iprop(atPos ER (kcell (c, k)) 0 ∅ 0 ∗ reached ER (kcell (c, k)) 0)) ∗ payToks (F := F) c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 27 => Φ (kcell (c, k)) := by
    unfold exCells; rw [bigSep_map, bigSep_univ_prod]; rfl
  have hT : bigSep exToks (fun x => (dutyTok ER x.1 x.2.1 x.2.2 : sProp 𝕄)) ⊢ bigSep Finset.univ fun c : Dev nD => payToks c := by
    unfold exToks; rw [bigSep_map]
    exact (Entails.of_eq (bigSep_payer (fun t => tokRes t))).trans (bigSep_mono fun c _ => payToks_of c)
  iintro HX
  imod (Rounds.fund ER (sched (cont m)) exCells exToks) $$ HX with ⟨Hst, Hr, Hat, Htok⟩
  imodintro
  ihave Hst' := (Entails.of_eq (hX fun g => roundState ER (sched (cont m)) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] [Named F] in
theorem bigSep_cells (Φ : Fin 27 → sProp 𝕄) : bigSep Finset.univ Φ = iprop(Φ 0 ∗ bigSep Finset.univ fun k : Fin 26 => Φ k.succ) := by
  rw [bigSep_univ_at Φ 0, show (Finset.univ.erase (0 : Fin 27)) = Finset.univ.map (Fin.succEmb 26) from by decide, bigSep_map]
  rfl

omit [FloatOps F] [Named F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] [Named F] in
/-- The exchange's semaphores are the kernel's own and the launch's one unscoped semaphore. -/
theorem sems0_eq (c : Dev nD) :
    iprop(Pipeline.ownSems0 (Ix := Unit) (Name := ℕ) (U := UU) (Lvl := ℕ) (Val := Elt F) (τ := τ) osem c ∗ unscopedSems0 c)
      ⊣⊢ (bigSep Finset.univ fun k : Fin 27 => semVal (kcell (c, k)) 0 : sProp 𝕄) := by
  rw [unscopedSems0_eq, bigSep_cells]
  unfold Pipeline.ownSems0
  constructor
  · iintro ⟨HS, HB⟩
    isplitl [HB]; · iexact HB
    iexact HS
  · iintro ⟨HB, HS⟩
    isplitl [HS]; · iexact HS
    iexact HB

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (cont m)) κ (kcell (c, k))))
          ∗ (bigSep Finset.univ fun k => iprop(atPos ER (kcell (c, k)) 0 ∅ 0 ∗ reached ER (kcell (c, k)) 0)) ∗ payToks (F := F) c) := by
  unfold G
  iintro ⟨Hos, Hus, Hst, Hat, Htok⟩
  ihave Hv := (sems0_eq (F := F) c).1 $$ [Hos Hus]
  · isplitl [Hos] <;> iassumption
  imod (show iprop((bigSep Finset.univ fun k : Fin 27 => semVal (kcell (c, k)) 0) ∗ bigSep Finset.univ fun k : Fin 27 => roundState ER (sched (cont m)) (kcell (c, k)) 0)
      ⊢ (|={Set.univ}=> bigSep Finset.univ fun k => iprop(∃ κ : ℕ, cellInv ER (sched (cont m)) κ (kcell (c, k))) : sProp 𝕄) from by
        rw [← bigSep_sep']
        exact (bigSep_mono fun k _ => (Rounds.body_intro ER (sched (cont m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all devices know of the cells. -/
def records (K : Dev nD × Fin 27 → ℕ) : sProp 𝕄 :=
  iprop((bigSep Finset.univ fun ck : Dev nD × Fin 27 => cellInv ER (sched (cont m)) (K ck) (kcell ck))
    ∗ bigSep Finset.univ fun ck : Dev nD × Fin 27 => reached ER (kcell ck) 0)

instance records_persistent (K : Dev nD × Fin 27 → ℕ) : BI.Persistent (records m K) := by unfold records; infer_instance

def linear (c : Dev nD) : sProp 𝕄 :=
  iprop((bigSep Finset.univ fun k : Fin 27 => atPos ER (kcell (c, k)) 0 ∅ 0) ∗ payToks (F := F) c)

omit [FloatOps F] [Named F] in
theorem cells_start (c : Dev nD) : (bigSep Finset.univ fun k : Fin 27 => (atPos ER (kcell (c, k)) 0 ∅ 0 : sProp 𝕄)) = cells c ∅ := by
  unfold cells
  exact bigSep_congr fun k _ => (if_neg (Finset.notMem_empty k)).symm

theorem ghost_intro (K : Dev nD × Fin 27 → ℕ) (c : Dev nD) : iprop(records m K ∗ linear (F := F) c) ⊢ ghost m c := by
  unfold records linear payToks ghost
  rw [cells_start]
  iintro ⟨⟨#HI, #HR⟩, HS, Hbt, HT⟩
  iexists K
  isplitr; · iexact HI
  isplitr; · iexact HR
  isplitl [HS]; · iexact HS
  isplitl [Hbt]; · iexact Hbt
  iexact HT

theorem regroup :
    (bigSep Finset.univ fun c : Dev nD => iprop((bigSep Finset.univ fun k => iprop(∃ κ : ℕ, cellInv ER (sched (cont m)) κ (kcell (c, k))))
          ∗ (bigSep Finset.univ fun k => iprop(atPos ER (kcell (c, k)) 0 ∅ 0 ∗ reached ER (kcell (c, k)) 0)) ∗ payToks (F := F) c) : sProp 𝕄)
      ⊢ bigSep Finset.univ (ghost m) := by
  rw [bigSep_sep', bigSep_sep', ← bigSep_univ_prod (fun ck : Dev nD × Fin 27 => iprop(∃ κ : ℕ, cellInv ER (sched (cont m)) κ (kcell ck))),
    bigSep_congr (s := Finset.univ) (fun (c : Dev nD) _ => bigSep_sep' Finset.univ (fun k : Fin 27 => (atPos ER (kcell (c, k)) 0 ∅ 0 : sProp 𝕄)) (fun k => reached ER (kcell (c, k)) 0)),
    bigSep_sep', ← bigSep_univ_prod (fun ck : Dev nD × Fin 27 => (reached ER (kcell ck) 0 : sProp 𝕄))]
  iintro ⟨HI, ⟨Hat, #HR⟩, Htok⟩
  ihave HK := (BI.bigSep_exists_pi Finset.univ (fun (ck : Dev nD × Fin 27) (κ : ℕ) => (cellInv ER (sched (cont m)) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 27 => (atPos ER (kcell (c, k)) 0 ∅ 0 : sProp 𝕄)) payToks).symm)
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

/-- What the copies `l` credit the DMA cell `q` of device `c`. -/
def flowSum (l : List Flow) (c : Dev nD) (q : DmaSem sig) : ℕ := (l.map fun e => if e.p = c ∧ e.qd = q then e.n else 0).sum

theorem dma_eq_iff {a b : Dev nD} {q q' : DmaSem sig} : dmaC a q = dmaC b q' ↔ b = a ∧ q' = q :=
  ⟨fun h => ⟨(congrArg (fun g : GSem nD τ sig => g.1.1) h).symm, SemLoc.dma.inj (congrArg Prod.snd h).symm⟩, fun ⟨h, h'⟩ => by subst h h'; rfl⟩

theorem owedL_dma (c : Dev nD) (q : DmaSem sig) : ∀ l : List Flow, owedL l (dmaC c q) () = flowSum l c q
  | [] => rfl
  | e :: l => by
    rw [owedL_cons, Pi.add_apply, Finsupp.add_apply, owedL_dma c q l, tallyAt_apply]
    unfold flowSum
    rw [List.map_cons, List.sum_cons, Nat.add_comm]
    congr 1
    by_cases h : e.p = c ∧ e.qd = q
    · rw [if_pos h, if_pos ⟨dma_eq_iff.mpr h, rfl⟩]
    · rw [if_neg h, if_neg fun h' => h (dma_eq_iff.mp h'.1)]

theorem owedL_bar (c : Dev nD) : ∀ l : List Flow, owedL l (barC c) () = 0
  | [] => rfl
  | e :: l => by
    rw [owedL_cons, Pi.add_apply, Finsupp.add_apply, owedL_bar c l, tallyAt_apply, if_neg fun h => by cases congrArg Prod.snd h.1]

theorem bar_at (a c : Dev nD) : (tallyAt (barC a) () 1 : CellTallies nD τ sig Unit) (barC c) () = if c = a then 1 else 0 := by
  rw [tallyAt_apply]
  by_cases h : c = a
  · rw [if_pos h, if_pos ⟨by rw [h], rfl⟩]
  · rw [if_neg h, if_neg fun h' => h (congrArg (fun g : GSem nD τ sig => g.1.1) h'.1)]

theorem bar_at_dma (a c : Dev nD) (q : DmaSem sig) : (tallyAt (barC a) () 1 : CellTallies nD τ sig Unit) (dmaC c q) () = 0 := by
  rw [tallyAt_apply, if_neg fun h => by cases congrArg Prod.snd h.1]

theorem owed_dma (d c : Dev nD) (q : DmaSem sig) : O₀ d (dmaC c q) () = flowSum (kvFlows d ++ agFlows d) c q := by
  unfold O₀ O₁ O₂ O₃
  simp only [Pi.add_apply, Finsupp.add_apply, bar_at_dma, Nat.add_zero]
  exact owedL_dma c q _

theorem owed_bar (d c : Dev nD) : O₀ d (barC c) () = (if c = nx d 3 then 1 else 0) + (if c = nx d 2 then 1 else 0) + (if c = nx d 1 then 1 else 0) := by
  unfold O₀ O₁ O₂ O₃
  simp only [Pi.add_apply, Finsupp.add_apply, bar_at, owedL_bar, Nat.zero_add]

theorem bar_sum : ∀ c : Fin 4, ∑ d : Dev nD, ((if c = nx d 3 then 1 else 0) + (if c = nx d 2 then 1 else 0) + (if c = nx d 1 then 1 else 0)) = 3 := by decide

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c]
  exact bar_sum c

theorem launch_dma (c : Dev nD) (q : DmaSem sig) (n : ℕ) (h : ∑ d : Dev nD, flowSum (kvFlows d ++ agFlows d) c q = n) :
    tallyOn (dmaC c q) (launchCredit (Pipeline.owing O₀) 0 (dmaC c q)) = (tallyAt (dmaC c q) () n : CellTallies nD τ sig Unit) := by
  unfold tallyAt; refine congrArg _ (Finsupp.ext fun u => ?_); cases u
  rw [Pipeline.launchCredit_owing, Finsupp.single_eq_same, Finset.sum_congr rfl fun d _ => owed_dma d c q]
  exact h

theorem ag_sum : ∀ c : Fin 4, (∑ d : Dev nD, flowSum (kvFlows d ++ agFlows d) c 29 = N256)
    ∧ (∑ d : Dev nD, flowSum (kvFlows d ++ agFlows d) c 30 = N256) ∧ (∑ d : Dev nD, flowSum (kvFlows d ++ agFlows d) c 31 = N256) := by decide

abbrev credOf (c : Dev nD) (sm : SemLoc sig) : sProp 𝕄 := cred (tallyOn ((c : Thread nD τ), sm) (launchCredit (Pipeline.owing O₀) 0 ((c : Thread nD τ), sm)))

section Creds
omit [FloatOps F] [Named F]

theorem cred_dma (c : Dev nD) (q : DmaSem sig) (n : ℕ) (h : ∑ d : Dev nD, flowSum (kvFlows d ++ agFlows d) c q = n) :
    (credOf (F := F) c (.dma q) : sProp 𝕄) = cred (tallyAt (dmaC c q) () n) := by
  unfold credOf; exact congrArg _ (launch_dma c q n h)
theorem cred_bar (c : Dev nD) : (credOf (F := F) c (.reg barS) : sProp 𝕄) = cred (tallyAt (barC c) () 3) := by
  unfold credOf; exact congrArg _ (launch_bar c)

theorem creds_list (c : Dev nD) (l : List (SemLoc sig)) (hl : l.Nodup) : (Pipeline.launchCred O₀ c : sProp 𝕄) ⊢ sepL (credOf (F := F) c) l := by
  unfold Pipeline.launchCred
  exact bigSep_list _ l _ hl fun _ _ => Finset.mem_univ _

theorem creds_0 : (Pipeline.launchCred O₀ 0 : sProp 𝕄) ⊢ credits (F := F) 0 := by
  refine (creds_list 0 [.reg barS, .dma 29, .dma 30, .dma 31] (by decide)).trans ?_
  simp only [sepL]
  rw [cred_bar, cred_dma 0 29 N256 (by decide), cred_dma 0 30 N256 (by decide), cred_dma 0 31 N256 (by decide)]
  unfold credits
  rw [show (kvCreds 0 : sProp 𝕄) = iprop(emp) from rfl]
  iintro ⟨HB, H29, H30, H31, -⟩
  isplitl [HB]; · iexact HB
  isplitr; · iempintro
  isplitl [H29]; · iexact H29
  isplitl [H30]; · iexact H30
  iexact H31

theorem creds_1 : (Pipeline.launchCred O₀ 1 : sProp 𝕄) ⊢ credits (F := F) 1 := by
  refine (creds_list 1 [.reg barS, .dma 18, .dma 19, .dma 20, .dma 21, .dma 29, .dma 30, .dma 31] (by decide)).trans ?_
  simp only [sepL]
  rw [cred_bar, cred_dma 1 18 N256 (by decide), cred_dma 1 19 N256 (by decide), cred_dma 1 20 N256 (by decide), cred_dma 1 21 N256 (by decide), cred_dma 1 29 N256 (by decide), cred_dma 1 30 N256 (by decide), cred_dma 1 31 N256 (by decide)]
  unfold credits
  rw [show (kvCreds 1 : sProp 𝕄) = iprop(cred (tallyAt (dmaC 1 18) () N256) ∗ cred (tallyAt (dmaC 1 19) () N256) ∗ cred (tallyAt (dmaC 1 20) () N256) ∗ cred (tallyAt (dmaC 1 21) () N256)) from rfl]
  iintro ⟨HB, H18, H19, H20, H21, H29, H30, H31, -⟩
  isplitl [HB]; · iexact HB
  isplitl [H18 H19 H20 H21]
  · isplitl [H18]; · iexact H18
    isplitl [H19]; · iexact H19
    isplitl [H20]; · iexact H20
    iexact H21
  isplitl [H29]; · iexact H29
  isplitl [H30]; · iexact H30
  iexact H31

theorem creds_2 : (Pipeline.launchCred O₀ 2 : sProp 𝕄) ⊢ credits (F := F) 2 := by
  refine (creds_list 2 [.reg barS, .dma 18, .dma 19, .dma 20, .dma 21, .dma 29, .dma 30, .dma 31] (by decide)).trans ?_
  simp only [sepL]
  rw [cred_bar, cred_dma 2 18 N256 (by decide), cred_dma 2 19 N256 (by decide), cred_dma 2 20 N256 (by decide), cred_dma 2 21 N256 (by decide), cred_dma 2 29 N256 (by decide), cred_dma 2 30 N256 (by decide), cred_dma 2 31 N256 (by decide)]
  unfold credits
  rw [show (kvCreds 2 : sProp 𝕄) = iprop(cred (tallyAt (dmaC 2 18) () N256) ∗ cred (tallyAt (dmaC 2 19) () N256) ∗ cred (tallyAt (dmaC 2 20) () N256) ∗ cred (tallyAt (dmaC 2 21) () N256)) from rfl]
  iintro ⟨HB, H18, H19, H20, H21, H29, H30, H31, -⟩
  isplitl [HB]; · iexact HB
  isplitl [H18 H19 H20 H21]
  · isplitl [H18]; · iexact H18
    isplitl [H19]; · iexact H19
    isplitl [H20]; · iexact H20
    iexact H21
  isplitl [H29]; · iexact H29
  isplitl [H30]; · iexact H30
  iexact H31

theorem creds_3 : (Pipeline.launchCred O₀ 3 : sProp 𝕄) ⊢ credits (F := F) 3 := by
  refine (creds_list 3 [.reg barS, .dma 18, .dma 19, .dma 20, .dma 21, .dma 22, .dma 23, .dma 29, .dma 30, .dma 31] (by decide)).trans ?_
  simp only [sepL]
  rw [cred_bar, cred_dma 3 18 N256 (by decide), cred_dma 3 19 N256 (by decide), cred_dma 3 20 N128 (by decide), cred_dma 3 21 N128 (by decide), cred_dma 3 22 N128 (by decide), cred_dma 3 23 N128 (by decide), cred_dma 3 29 N256 (by decide), cred_dma 3 30 N256 (by decide), cred_dma 3 31 N256 (by decide)]
  unfold credits
  rw [show (kvCreds 3 : sProp 𝕄) = iprop(cred (tallyAt (dmaC 3 18) () N256) ∗ cred (tallyAt (dmaC 3 19) () N256) ∗ cred (tallyAt (dmaC 3 20) () N128) ∗ cred (tallyAt (dmaC 3 21) () N128) ∗ cred (tallyAt (dmaC 3 22) () N128) ∗ cred (tallyAt (dmaC 3 23) () N128)) from rfl]
  iintro ⟨HB, H18, H19, H20, H21, H22, H23, H29, H30, H31, -⟩
  isplitl [HB]; · iexact HB
  isplitl [H18 H19 H20 H21 H22 H23]
  · isplitl [H18]; · iexact H18
    isplitl [H19]; · iexact H19
    isplitl [H20]; · iexact H20
    isplitl [H21]; · iexact H21
    isplitl [H22]; · iexact H22
    iexact H23
  isplitl [H29]; · iexact H29
  isplitl [H30]; · iexact H30
  iexact H31

theorem creds (c : Dev nD) : (Pipeline.launchCred O₀ c : sProp 𝕄) ⊢ credits (F := F) c := by
  have h : c = 0 ∨ c = 1 ∨ c = 2 ∨ c = 3 := by revert c; decide
  rcases h with rfl | rfl | rfl | rfl
  · exact creds_0
  · exact creds_1
  · exact creds_2
  · exact creds_3

end Creds

end Cert.KernelIdeal.Win
-- ==== Proof.KI.Launch.lean ====
/- The run of the kernel on the mesh. -/
module

public import Idealize.ShloMosaic.Lib.Pipeline.CollectiveSegs
public import proofs.«01_k».proof.Proof.KI.Launch1

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Scratch
omit [FloatOps F] [Named F]

theorem ksB_whole (c : Dev nD) (f : S1024x1024.Idx → Elt F .bf16) : (ksB c 0 1024 fullShare f : sProp 𝕄) = (((c : Thread nD τ).loc cc0_scratch0) ↦{fullShare} f) := by
  unfold ksB; rw [rows_all]
theorem vsB_whole (c : Dev nD) (f : S1024x1024.Idx → Elt F .bf16) : (vsB c 0 1024 fullShare f : sProp 𝕄) = (((c : Thread nD τ).loc cc0_scratch1) ↦{fullShare} f) := by
  unfold vsB; rw [rows_all]
theorem kwB_buf (c : Dev nD) (f : S512x1024.Idx → Elt F .bf16) : (kwB c 0 512 fullShare f : sProp 𝕄) = (((c : Thread nD τ).loc cc0_scratch2) ↦{fullShare} f) := by
  unfold kwB; rw [rows_all]
theorem vwB_buf (c : Dev nD) (f : S512x1024.Idx → Elt F .bf16) : (vwB c 0 512 fullShare f : sProp 𝕄) = (((c : Thread nD τ).loc cc0_scratch3) ↦{fullShare} f) := by
  unfold vwB; rw [rows_all]
theorem agB_whole (c : Dev nD) (f : S1024x1024.Idx → Elt F .bf16) : (agB c 0 1024 fullShare f : sProp 𝕄) = (((c : Thread nD τ).loc cc0_scratch4) ↦{fullShare} f) := by
  unfold agB; rw [rows_all]

/-- The scratch buffers are the launch's scoped rest. -/
theorem scr_eq (c : Dev nD) : (Pipeline.scopedRest cfg0.spec c : sProp 𝕄) ⊣⊢ scr c := by
  show (Pipeline.scopedRest spec0 c : sProp 𝕄) ⊣⊢ scr c
  rw [scopedRest0_eq]
  unfold scr
  constructor
  · iintro ⟨⟨%f0, H0⟩, ⟨%f1, H1⟩, ⟨%f2, H2⟩, ⟨%f3, H3⟩, ⟨%f4, H4⟩⟩
    isplitl [H0]; · iexists f0; rw [ksB_whole]; iexact H0
    isplitl [H1]; · iexists f1; rw [vsB_whole]; iexact H1
    isplitl [H2]; · iexists f2; rw [kwB_buf]; iexact H2
    isplitl [H3]; · iexists f3; rw [vwB_buf]; iexact H3
    iexists f4; rw [agB_whole]; iexact H4
  · iintro ⟨⟨%f0, H0⟩, ⟨%f1, H1⟩, ⟨%f2, H2⟩, ⟨%f3, H3⟩, ⟨%f4, H4⟩⟩
    isplitl [H0]; · iexists f0; rw [← ksB_whole]; iexact H0
    isplitl [H1]; · iexists f1; rw [← vsB_whole]; iexact H1
    isplitl [H2]; · iexists f2; rw [← kwB_buf]; iexact H2
    isplitl [H3]; · iexists f3; rw [← vwB_buf]; iexact H3
    iexists f4; rw [← agB_whole]; iexact H4

end Scratch

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_eq (F := F) c).1; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨HZ, Hr⟩
  ihave HZ := (sems0_eq (F := F) c).2 $$ HZ
  icases HZ with ⟨Ho, Hu⟩
  isplitl [Hu]; · iexact Hu
  isplitl [Ho]; · iexact Ho
  iapply (scr_eq (F := F) c).2; iexact Hr

theorem above_O₀ (c : Dev nD) : Above 0 (O₀ c) := by
  unfold O₀ O₁ O₂ O₃
  exact above_add (above_add (above_add (above_owedL 0 _ fun e he => Nat.lt_of_succ_lt (lv_flows c e he))
    (above_tally _ _ rfl Nat.one_pos)) (above_tally _ _ rfl Nat.one_pos)) (above_tally _ _ rfl Nat.one_pos)

omit [FloatOps F] [Named F] in
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine mayWait_above c (.dma q) 0 (O₀ c) (above_O₀ c) ?_
    show lvq c.val q.val ≤ 0
    unfold lvq
    rw [if_neg (by omega), if_neg (by omega)]
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- From any memory with zero counters every weakly fair execution of the program on the mesh terminates, and every
    final state has each device's result array at the gathered rows, the arguments unchanged and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Win
-- ==== Proof.KI.Result.lean ====
/- What the run leaves in the arrays: the arguments as they were, the result the gathered rows. -/
module

public import proofs.«01_k».proof.Proof.KI.Launch

@[expose] public section

set_option maxRecDepth 16384

noncomputable section

namespace Cert.KernelIdeal.Win

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The blocks are the whole arrays -/

omit [FloatOps F] [Named F] in
theorem emb_out (i : S1x1024x1024.Idx) : ((cfg0.win (5 : Fin 6)).blk t0_0).view.emb i = i :=
  funext fun k => Fin.ext (by fin_cases k <;> exact (Nat.zero_add _).trans (Nat.one_mul _))

omit [FloatOps F] [Named F] in
theorem xst_eq (c : Dev nD) : xst m c = m ((c.tc : Thread nD τ).loc main_arg0) :=
  funext fun i => congrArg (m ((c.tc : Thread nD τ).loc main_arg0))
    (funext fun k => Fin.ext (by fin_cases k <;> exact (Nat.zero_add _).trans (Nat.one_mul _)))

omit [FloatOps F] [Named F] in
theorem wqst_eq (c : Dev nD) : wqst m c = m ((c.tc : Thread nD τ).loc main_arg1) :=
  funext fun i => congrArg (m ((c.tc : Thread nD τ).loc main_arg1))
    (funext fun k => Fin.ext (by fin_cases k <;> exact (Nat.zero_add _).trans (Nat.one_mul _)))

omit [FloatOps F] [Named F] in
theorem kst_eq (c : Dev nD) : kst m c = m ((c.tc : Thread nD τ).loc main_arg2) :=
  funext fun i => congrArg (m ((c.tc : Thread nD τ).loc main_arg2))
    (funext fun k => Fin.ext (by fin_cases k <;> exact (Nat.zero_add _).trans (Nat.one_mul _)))

omit [FloatOps F] [Named F] in
theorem vst_eq (c : Dev nD) : vst m c = m ((c.tc : Thread nD τ).loc main_arg3) :=
  funext fun i => congrArg (m ((c.tc : Thread nD τ).loc main_arg3))
    (funext fun k => Fin.ext (by fin_cases k <;> exact (Nat.zero_add _).trans (Nat.one_mul _)))

omit [FloatOps F] [Named F] in
theorem wost_eq (c : Dev nD) : wost m c = m ((c.tc : Thread nD τ).loc main_arg4) :=
  funext fun i => congrArg (m ((c.tc : Thread nD τ).loc main_arg4))
    (funext fun k => Fin.ext (by fin_cases k <;> exact (Nat.zero_add _).trans (Nat.one_mul _)))

/-! ## The result -/

/-- The result array ends at the gathered rows. -/
theorem out_eq (c : Dev nD) : finalA m ρ c 5 = k0_pay121 (gathered m) := by
  refine (dats m ρ 0 c).arrAt_eq_of_cover (5 : Fin 6) (k0_pay121 (gathered m)) (fun t _ => ?_) fun i => ⟨t0_0, flush0_5 _, ?_⟩
  · rw [show t = t0_0 from fin_N0 t]
    funext i
    exact (congrArg (k0_pay121 (gathered m)) (emb_out i)).symm
  · have h := ((cfg0.win (5 : Fin 6)).blk t0_0).view.emb_mem_set i
    rw [emb_out] at h
    exact h

/-- From any memory with zero counters: the result on every device, the arguments unchanged, every counter at zero. -/
theorem run_result : θ_run defs (onTc (τ := τ) (main (F := F))) ⟨m, fun _ => 0, ρ⟩ (fun r => (∀ c : Dev nD,
      r.2.mem ((c.tc : Thread nD τ).loc main_v1) = k0_pay121 (gathered m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 5).trans (out_eq m ρ c),
      (h.1 c 0).trans ((dats m ρ 0 c).arrAt_in 0 rfl _),
      (h.1 c 1).trans ((dats m ρ 0 c).arrAt_in 1 rfl _),
      (h.1 c 2).trans ((dats m ρ 0 c).arrAt_in 2 rfl _),
      (h.1 c 3).trans ((dats m ρ 0 c).arrAt_in 3 rfl _),
      (h.1 c 4).trans ((dats m ρ 0 c).arrAt_in 4 rfl _)⟩, h.2⟩) (run_main m ρ)

end Cert.KernelIdeal.Win
-- ==== Proof.Frames.lean ====
/- The frames of the three programs and the idealization of the mask's constant. -/
module

public import proofs.«01_k».proof.Defs
public import proofs.«01_k».proof.Proof.SameProgram
public import proofs.«01_k».proof.Proof.KI.Result
public import proofs.«01_k».proof.Proof.Gen.ReferenceIdeal.Run

@[expose] public section

noncomputable section

namespace Cert.Proof

open Idealize.ShloMosaic Idealize.ShloMosaic.TcCoe Idealize.SL.Sem

theorem frame_kernel : Cert.quiescent_Kernel := fun m ρ _ => by
  rw [defs_eq, main_eq]
  exact (θ_run (Cert.KernelIdeal.defs (F := Bits)) _ _).mono (fun _ h => ⟨fun c => (h.1 c).2, h.2⟩)
    (Cert.KernelIdeal.Win.run_result (F := Bits) m ρ)

theorem frame_ideal : Cert.quiescent_KernelIdeal := fun m ρ _ =>
  (θ_run Cert.KernelIdeal.defs _ _).mono (fun _ h => ⟨fun c => (h.1 c).2, h.2⟩) (Cert.KernelIdeal.Win.run_result (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ideal_pre [Cert.Pre_finite_KernelIdeal.Facts] : Cert.quiescent_KernelIdeal_pre_finite_KernelIdeal :=
  fun m ρ _ => frame_ideal m ρ trivial

theorem frame_reference_pre [Cert.Pre_finite_ReferenceIdeal.Facts] : Cert.quiescent_ReferenceIdeal_pre_finite_ReferenceIdeal :=
  fun m ρ _ => frame_reference m ρ trivial

theorem preserves : Cert.preserves_Kernel_KernelIdeal :=
  IdealRules.named_const.statement Cert.KernelIdeal.κ "mask" .f32 0xCE6E6B28#32 ⊥ rfl

end Cert.Proof

end
-- ==== Proof.Value.Softmax.lean ====
/- Over the extended reals: weights by exponentials, and why masked keys outside a window do not count. -/
module

public import Idealize.ShloMosaic.Lib.Pointwise

@[expose] public section

noncomputable section

namespace Cert.Value

open Idealize.ShloMosaic

/-- The largest of the scores, from −∞. -/
def top {n : Nat} (s : Fin n → EReal) : EReal := Finset.univ.fold max ⊥ s

/-- The sum of the exponentials of the scores less their largest. -/
def mass {n : Nat} (s : Fin n → EReal) : EReal := ∑ k, Ideal.exp (s k - top s)

/-- The weight of one key. -/
def weight {n : Nat} (s : Fin n → EReal) (k : Fin n) : EReal := Ideal.div (Ideal.exp (s k - top s)) (mass s)

/-- The weighted sum of the values. -/
def attend {n : Nat} (s v : Fin n → EReal) : EReal := ∑ k, weight s k * v k

theorem top_eq_sup {n : Nat} (s : Fin n → EReal) : top s = Finset.univ.sup s := rfl

theorem exp_bot_sub (x : EReal) : Ideal.exp (⊥ - x) = 0 := by
  rw [sub_eq_add_neg, EReal.bot_add]; rfl

/-- The largest score is unchanged where only keys of score −∞ are left out. -/
theorem top_window {n N : Nat} (e : Fin n → Fin N) (S : Fin N → EReal) (hout : ∀ j, j ∉ Set.range e → S j = ⊥) :
    top (fun k => S (e k)) = top S := by
  rw [top_eq_sup, top_eq_sup]
  refine le_antisymm (Finset.sup_le fun k _ => Finset.le_sup (f := S) (Finset.mem_univ (e k))) (Finset.sup_le fun j _ => ?_)
  by_cases h : j ∈ Set.range e
  · obtain ⟨k, rfl⟩ := h
    exact Finset.le_sup (f := fun k => S (e k)) (Finset.mem_univ k)
  · rw [hout j h]; exact bot_le

theorem mass_window {n N : Nat} (e : Fin n → Fin N) (he : Function.Injective e) (S : Fin N → EReal)
    (hout : ∀ j, j ∉ Set.range e → S j = ⊥) : mass (fun k => S (e k)) = mass S := by
  unfold mass
  rw [top_window e S hout]
  exact Fintype.sum_of_injective e he _ _ (fun j hj => by rw [hout j hj, exp_bot_sub]) fun k => rfl

/-- Some key of real score and none of score +∞: the sum of the exponentials is not zero. -/
theorem mass_ne_zero {n : Nat} (s : Fin n → EReal) (htop : ∀ k, s k ≠ ⊤) (k₀ : Fin n) (hk : s k₀ ≠ ⊥) : mass s ≠ 0 := by
  obtain ⟨k, -, hmax⟩ := Finset.exists_mem_eq_sup Finset.univ ⟨k₀, Finset.mem_univ _⟩ s
  have hle : s k₀ ≤ s k := hmax ▸ Finset.le_sup (f := s) (Finset.mem_univ k₀)
  have hbot : s k ≠ ⊥ := fun h => hk (le_bot_iff.1 (h ▸ hle))
  have hone : Ideal.exp (s k - top s) = 1 := by
    rw [top_eq_sup, hmax]
    lift s k to ℝ using ⟨htop k, hbot⟩ with x
    rw [← EReal.coe_sub, sub_self]
    exact congrArg (fun r : ℝ => (r : EReal)) Real.exp_zero
  have hnn : ∀ x : EReal, 0 ≤ Ideal.exp x := fun x => by
    induction x with
    | bot => exact le_rfl
    | top => exact le_top
    | coe r => exact EReal.coe_nonneg.2 (Real.exp_pos r).le
  have h1 : (1 : EReal) ≤ mass s := hone ▸ Finset.single_le_sum (f := fun k => Ideal.exp (s k - top s)) (fun k _ => hnn _) (Finset.mem_univ k)
  intro h
  rw [h] at h1
  exact absurd h1 (by norm_num)

/-- Keys of score −∞ outside a window carry no weight: the window's sum is the whole one. -/
theorem attend_window {n N : Nat} (e : Fin n → Fin N) (he : Function.Injective e) (S V : Fin N → EReal)
    (hout : ∀ j, j ∉ Set.range e → S j = ⊥) (htop : ∀ j, S j ≠ ⊤) (j₀ : Fin N) (hj : S j₀ ≠ ⊥) :
    attend (fun k => S (e k)) (fun k => V (e k)) = attend S V := by
  unfold attend weight
  rw [top_window e S hout, mass_window e he S hout]
  refine Fintype.sum_of_injective e he _ _ (fun j hj' => ?_) fun k => rfl
  rw [hout j hj', exp_bot_sub, Ideal.zero_div (mass_ne_zero S htop j₀ hj), zero_mul]

end Cert.Value

end
-- ==== Proof.Value.Near.lean ====
/- The mask as a relation between two positions. -/
module

public import Idealize.ShloMosaic.Lib.Pointwise

@[expose] public section

set_option maxRecDepth 16384

noncomputable section

namespace Cert.Value

open Idealize.ShloMosaic

theorem neg_inf : Ideal.ofBits .f32 0xFF800000#32 = (⊥ : EReal) := by
  show Ideal.ieee 8 23 0xFF800000#32 = ⊥
  unfold Ideal.ieee
  simp

/-- The mask's word at query `i` and key `j`. -/
def near (i j : Nat) : BitVec 1 := IntOp.cmpi .sle (IntOp.absi (BitVec.ofNat 32 i - BitVec.ofNat 32 j)) 128#32

theorem absi_toNat (i j : Nat) (hi : i < 4096) (hj : j < 4096) :
    (IntOp.absi (BitVec.ofNat 32 i - BitVec.ofNat 32 j)).toNat = (i - j) + (j - i) := by
  unfold IntOp.absi
  rw [BitVec.msb_eq_decide]
  have h : (BitVec.ofNat 32 i - BitVec.ofNat 32 j).toNat = if j ≤ i then i - j else 2 ^ 32 - (j - i) := by
    rw [BitVec.toNat_sub, BitVec.toNat_ofNat, BitVec.toNat_ofNat]
    split <;> omega
  split
  · rename_i hc
    rw [decide_eq_true_iff, h] at hc
    rw [BitVec.toNat_neg, h]
    split at hc <;> split <;> omega
  · rename_i hc
    rw [decide_eq_true_iff, h] at hc
    rw [h]
    split at hc <;> split <;> omega

theorem near_eq (i j : Nat) (hi : i < 4096) (hj : j < 4096) : near i j = if i ≤ j + 128 ∧ j ≤ i + 128 then 1#1 else 0#1 := by
  have h := absi_toNat i j hi hj
  unfold near IntOp.cmpi
  generalize IntOp.absi (BitVec.ofNat 32 i - BitVec.ofNat 32 j) = w at h
  have hw : w.toInt = ((i - j) + (j - i) : ℕ) := by
    rw [BitVec.toInt_eq_toNat_of_lt (by omega), h]
  show BitVec.ofBool (w.sle 128#32) = _
  rw [BitVec.sle_eq_decide, hw]
  have h128 : (128#32 : BitVec 32).toInt = 128 := by decide
  rw [h128]
  split
  · rw [decide_eq_true (by omega)]; rfl
  · rw [decide_eq_false (by omega)]; rfl

theorem near_self (i : Nat) (hi : i < 4096) : near i i = 1#1 := by
  rw [near_eq i i hi hi, if_pos (by omega)]

theorem near_far (i j : Nat) (hi : i < 4096) (hj : j < 4096) (h : i > j + 128 ∨ j > i + 128) : near i j = 0#1 := by
  rw [near_eq i j hi hj, if_neg (by omega)]

end Cert.Value

end
-- ==== Proof.Value.Heads.lean ====
/- What a device's rows hold: per row, per head, the weighted sum of the window's values, then the output weight. -/
module

public import proofs.«01_k».proof.Proof.KI.Middle
public import proofs.«01_k».proof.Proof.Value.Softmax
public import proofs.«01_k».proof.Proof.Value.Near

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Win
open Cert.Value

/-- The scale. -/
def scale : EReal := Ideal.ofBits .f32 0x3DB504F3#32

theorem named_mask : (Named.named κ "mask" 0xCE6E6B28#32 : Ideal .f32) = (⊥ : EReal) :=
  IdealRules.named_const.ideal_named_scalar _ _ _ _ rfl

/-- Column `d` of head `h` among the 1024. -/
def col (h : Fin 8) (d : Fin 128) : Fin 1024 := ⟨128 * h.val + d.val, by omega⟩

/-- The score of key `k` of the window at row `r`, head `h`. -/
def score (q : FVec Ideal S256x1024 .bf16) (mk : IVec S256x512 1) (kw : FVec Ideal S512x1024 .bf16) (r : Fin 256) (h : Fin 8) (k : Fin 512) : EReal :=
  Scalar.select (mk (ix2 r k)) ((∑ e : Fin 128, q (ix2 r (col h e)) * kw (ix2 k (col h e))) * scale) (⊥ : EReal)

variable (q : FVec Ideal S256x1024 .bf16) (mk : IVec S256x512 1) (kw vw : FVec Ideal S512x1024 .bf16) (v2 : BitVec 32) (r : Fin 256) (d : Fin 128)

theorem head0 : k0_pay107 (F := Ideal) (k0_pay104 vw) (k0_pay105 v2 q kw) (k0_pay106 v2 q kw) (ix2 r d) = attend (score q (k0_pay103 v2) kw r 0) (fun k => vw (ix2 k (col 0 d))) := by
  unfold attend weight mass top score scale col
  pointwise [k0_pay107, k0_pay104, k0_pay105, k0_pay106, named_mask, neg_inf]

theorem head1 : k0_pay108 (F := Ideal) q mk kw vw (ix2 r d) = attend (score q mk kw r (1 : Fin 8)) (fun k => vw (ix2 k (col 1 d))) := by
  unfold attend weight mass top score scale col
  pointwise [k0_pay108, named_mask, neg_inf]

theorem head2 : k0_pay109 (F := Ideal) q mk kw vw (ix2 r d) = attend (score q mk kw r 2) (fun k => vw (ix2 k (col 2 d))) := by
  unfold attend weight mass top score scale col
  pointwise [k0_pay109, named_mask, neg_inf]

theorem head3 : k0_pay110 (F := Ideal) q mk kw vw (ix2 r d) = attend (score q mk kw r 3) (fun k => vw (ix2 k (col 3 d))) := by
  unfold attend weight mass top score scale col
  pointwise [k0_pay110, named_mask, neg_inf]

theorem head4 : k0_pay111 (F := Ideal) q mk kw vw (ix2 r d) = attend (score q mk kw r 4) (fun k => vw (ix2 k (col 4 d))) := by
  unfold attend weight mass top score scale col
  pointwise [k0_pay111, named_mask, neg_inf]

theorem head6 : k0_pay116 (F := Ideal) q mk kw vw (ix2 r d) = attend (score q mk kw r 6) (fun k => vw (ix2 k (col 6 d))) := by
  unfold attend weight mass top score scale col
  pointwise [k0_pay116, named_mask, neg_inf]

theorem head5 : k0_pay115 (F := Ideal) mk (k0_pay112 vw) (k0_pay113 q kw) k0_pay114 (ix2 r d) = attend (score q mk kw r 5) (fun k => vw (ix2 k (col 5 d))) := by
  unfold attend weight mass top score scale col
  pointwise [k0_pay115, k0_pay112, k0_pay113, k0_pay114, named_mask, neg_inf]

/-- The last head's rows. -/
def lastHead (q : FVec Ideal S256x1024 .bf16) (mk : IVec S256x512 1) (kw vw : FVec Ideal S512x1024 .bf16) : FVec Ideal S256x128 .f32 :=
  matmul dot_S256x512_S512x128_S256x128_1_0_0_1_n_n none (truncf .bf16 (divf (k0_pay118 (F := Ideal) q mk kw)
    (broadcastTo S256x512 (k0_pay119 (F := Ideal) q mk kw) broadcasts_S256x1_S256x512)) bitsLt_bf16_f32) (k0_pay117 (F := Ideal) vw) (constant S256x128 .f32 0x00000000#32)

theorem head7 : lastHead q mk kw vw (ix2 r d) = attend (score q mk kw r 7) (fun k => vw (ix2 k (col 7 d))) := by
  unfold attend weight mass top score scale col
  pointwise [lastHead, k0_pay117, k0_pay118, k0_pay119, named_mask, neg_inf]

/-- The eight heads side by side. -/
def heads (q : FVec Ideal S256x1024 .bf16) (v2 : BitVec 32) (kw vw : FVec Ideal S512x1024 .bf16) : FVec Ideal S256x1024 .f32 :=
  concatenate S256x1024 1 [⟨S256x128, k0_pay107 (F := Ideal) (k0_pay104 vw) (k0_pay105 v2 q kw) (k0_pay106 v2 q kw)⟩,
    ⟨S256x128, k0_pay108 (F := Ideal) q (k0_pay103 v2) kw vw⟩, ⟨S256x128, k0_pay109 (F := Ideal) q (k0_pay103 v2) kw vw⟩,
    ⟨S256x128, k0_pay110 (F := Ideal) q (k0_pay103 v2) kw vw⟩, ⟨S256x128, k0_pay111 (F := Ideal) q (k0_pay103 v2) kw vw⟩,
    ⟨S256x128, k0_pay115 (F := Ideal) (k0_pay103 v2) (k0_pay112 vw) (k0_pay113 q kw) k0_pay114⟩,
    ⟨S256x128, k0_pay116 (F := Ideal) q (k0_pay103 v2) kw vw⟩, ⟨S256x128, lastHead q (k0_pay103 v2) kw vw⟩]
    concatenates_S256x128_S256x128_S256x128_S256x128_S256x128_S256x128_S256x128_S256x128_S256x1024_d1

/-- One head's sum at its column among the 1024. -/
theorem head_at (h : Fin 8) (l : Fin 1024) (n : Nat) (hn : n = 128 * h.val) (e : l.val = n + d.val) :
    attend (score q mk kw r h) (fun k => vw (ix2 k (col h d)))
      = attend (score q mk kw r ⟨l.val / 128, by omega⟩) (fun k => vw (ix2 k l)) := by
  have hh : (⟨l.val / 128, by omega⟩ : Fin 8) = h := Fin.ext (by show l.val / 128 = h.val; omega)
  rw [hh]
  exact congrArg (attend (score q mk kw r h)) (funext fun k => congrArg (fun t => vw (ix2 k t)) (Fin.ext (by show 128 * h.val + d.val = l.val; omega)))

theorem heads_apply (l : Fin 1024) : heads q v2 kw vw (ix2 r l)
    = attend (score q (k0_pay103 v2) kw r ⟨l.val / 128, by omega⟩) (fun k => vw (ix2 k l)) := by
  pointwise [heads]
  by_cases h0 : l.val < 128
  · rw [dif_pos h0]
    exact (head0 q kw vw v2 r ⟨l.val, by omega⟩).trans (head_at q (k0_pay103 v2) kw vw r _ 0 l 0 rfl (by show l.val = 0 + l.val; omega))
  rw [dif_neg h0]
  by_cases h1 : l.val - 128 < 128
  · rw [dif_pos h1]
    exact (head1 q (k0_pay103 v2) kw vw r ⟨l.val - 128, by omega⟩).trans (head_at q (k0_pay103 v2) kw vw r _ 1 l 128 rfl (by show l.val = 128 + (l.val - 128); omega))
  rw [dif_neg h1]
  by_cases h2 : l.val - 128 - 128 < 128
  · rw [dif_pos h2]
    exact (head2 q (k0_pay103 v2) kw vw r ⟨l.val - 256, by omega⟩).trans (head_at q (k0_pay103 v2) kw vw r _ 2 l 256 rfl (by show l.val = 256 + (l.val - 256); omega))
  rw [dif_neg h2]
  by_cases h3 : l.val - 128 - 128 - 128 < 128
  · rw [dif_pos h3]
    exact (head3 q (k0_pay103 v2) kw vw r ⟨l.val - 384, by omega⟩).trans (head_at q (k0_pay103 v2) kw vw r _ 3 l 384 rfl (by show l.val = 384 + (l.val - 384); omega))
  rw [dif_neg h3]
  by_cases h4 : l.val - 128 - 128 - 128 - 128 < 128
  · rw [dif_pos h4]
    exact (head4 q (k0_pay103 v2) kw vw r ⟨l.val - 512, by omega⟩).trans (head_at q (k0_pay103 v2) kw vw r _ 4 l 512 rfl (by show l.val = 512 + (l.val - 512); omega))
  rw [dif_neg h4]
  by_cases h5 : l.val - 128 - 128 - 128 - 128 - 128 < 128
  · rw [dif_pos h5]
    exact (head5 q (k0_pay103 v2) kw vw r ⟨l.val - 640, by omega⟩).trans (head_at q (k0_pay103 v2) kw vw r _ 5 l 640 rfl (by show l.val = 640 + (l.val - 640); omega))
  rw [dif_neg h5]
  by_cases h6 : l.val - 128 - 128 - 128 - 128 - 128 - 128 < 128
  · rw [dif_pos h6]
    exact (head6 q (k0_pay103 v2) kw vw r ⟨l.val - 768, by omega⟩).trans (head_at q (k0_pay103 v2) kw vw r _ 6 l 768 rfl (by show l.val = 768 + (l.val - 768); omega))
  rw [dif_neg h6]
  exact (head7 q (k0_pay103 v2) kw vw r ⟨l.val - 896, by omega⟩).trans (head_at q (k0_pay103 v2) kw vw r _ 7 l 896 rfl (by show l.val = 896 + (l.val - 896); omega))

/-- A device's rows at an index. -/
theorem resRows_apply (c : Dev nD) (xr : FVec Ideal S1x256x1024 .bf16) (wq wo : FVec Ideal S1024x1024 .bf16) (j : Fin 1024) :
    resRows (F := Ideal) c xr wq wo kw vw (ix2 r j)
      = ∑ l : Fin 1024, attend (score (k0_pay102 (F := Ideal) xr wq) (k0_pay103 (V2 c)) kw r ⟨l.val / 128, by omega⟩) (fun k => vw (ix2 k l)) * wo (ix2 l j) := by
  have h : resRows (F := Ideal) c xr wq wo kw vw = truncf .bf16 (matmul dot_S256x1024_S1024x1024_S256x1024_1_0_0_1_n_n none
      (truncf .bf16 (heads (k0_pay102 (F := Ideal) xr wq) (V2 c) kw vw) bitsLt_bf16_f32) wo (constant S256x1024 .f32 0x00000000#32)) bitsLt_bf16_f32 := by
    simp only [resRows, k0_pay120, shapeCast_id, heads, lastHead]
  rw [h]
  pointwise
  exact Finset.sum_congr rfl fun l _ => congrArg (· * wo (ix2 l j)) (heads_apply _ _ _ _ _ l)

theorem first_key : ∀ c : Dev nD, Scalar.maxsi (Scalar.subi (Scalar.muli 256#32 (V2 c)) 128#32) 0#32 = BitVec.ofNat 32 (wst c) := by
  decide

theorem first_row : ∀ c : Dev nD, Scalar.muli 256#32 (V2 c) = BitVec.ofNat 32 (256 * c.val) := by
  decide

/-- The mask at a device's row and a key of its window. -/
theorem mask_apply (c : Dev nD) (k : Fin 512) : k0_pay103 (V2 c) (ix2 r k) = near (256 * c.val + r.val) (wst c + k.val) := by
  have h1 := first_key c
  have h2 := first_row c
  pointwise [k0_pay103, near]
  rw [h1, h2]
  show IntOp.cmpi .sle (IntOp.absi (BitVec.ofNat 32 (256 * c.val) + BitVec.ofNat 32 r.val - (BitVec.ofNat 32 (wst c) + BitVec.ofNat 32 k.val))) 128#32 = _
  rw [← BitVec.ofNat_add, ← BitVec.ofNat_add]

theorem query_apply (xr : FVec Ideal S1x256x1024 .bf16) (wq : FVec Ideal S1024x1024 .bf16) (l : Fin 1024) :
    k0_pay102 (F := Ideal) xr wq (ix2 r l) = ∑ e : Fin 1024, xr (ix3 0 r e) * wq (ix2 e l) := by
  pointwise [k0_pay102]

end Cert.KernelIdeal.Value

end
-- ==== Proof.Value.Windows.lean ====
/- Where a device's rows and window lie in the whole arrays. -/
module

public import proofs.«01_k».proof.Proof.KI.Launch0
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Win

theorem off_row (c : Dev nD) : k0_off1 c = ![0, 256 * c.val, 0] := by
  revert c; decide

theorem wst_le (c : Dev nD) : wst c ≤ 640 := by
  revert c; decide

/-- A device's rows of the input. -/
theorem xrows_apply (c : Dev nD) (x : FVec Ideal S1x1024x1024 .bf16) (r : Fin 256) (e : Fin 1024) :
    xrows (F := Ideal) c x (ix3 0 r e) = x (ix3 0 ⟨256 * c.val + r.val, by have : c.val < 4 := c.isLt; omega⟩ e) := by
  refine congrArg x (funext fun k => Fin.ext ?_)
  fin_cases k
  · show k0_off1 c 0 + 1 * 0 = 0
    rw [off_row]; rfl
  · show k0_off1 c 1 + 1 * r.val = 256 * c.val + r.val
    rw [off_row, Nat.one_mul]; rfl
  · show k0_off1 c 2 + 1 * e.val = e.val
    rw [off_row, Nat.one_mul]; exact Nat.zero_add _

/-- The devices' arrays are the blocks of a whole one. -/
def Blocks (f : Dev nD → FVec Ideal S1x1024x8x128 .bf16) (A : FVec Ideal ⟨4, ![1, 4096, 8, 128]⟩ .bf16) : Prop :=
  ∀ c, f c = Layout.block ⟨4, ![1, 1024, 8, 128]⟩ ⟨4, ![1, 4096, 8, 128]⟩ 1 4 c A

/-- A device's window of the whole keys or values. -/
theorem winOf_block (A : FVec Ideal ⟨4, ![1, 4096, 8, 128]⟩ .bf16) (f : Dev nD → FVec Ideal S1x1024x8x128 .bf16)
    (hf : Blocks f A) (p : Dev nD) (k : Fin 512) (l : Fin 1024) :
    winOf (F := Ideal) (fun c => flat (f c)) p (ix2 k l)
      = A (ix4 0 ⟨wst p + k.val, by have := wst_le p; omega⟩ ⟨l.val / 128, by omega⟩ ⟨l.val % 128, by omega⟩) := by
  have hw := wst_le p
  show flat (F := Ideal) (f (if wst p + k.val < 1024 then 0 else 1)) (ix2 ⟨(wst p + k.val) % 1024, _⟩ l) = _
  unfold flat
  rw [hf]
  refine congrArg A (funext fun a => Fin.ext ?_)
  rw [Layout.Tiles.idx_val]
  fin_cases a
  · rfl
  · show (if wst p + k.val < 1024 then (0 : Dev nD) else 1).val * 1024 + (wst p + k.val) % 1024 = wst p + k.val
    split
    · show 0 * 1024 + _ = _; omega
    · show 1 * 1024 + _ = _; omega
  · rfl
  · rfl

end Cert.KernelIdeal.Value

end
-- ==== Proof.Value.Reference.lean ====
/- What the reference computes, at an index. -/
module

public import proofs.«01_k».proof.Proof.Gen.ReferenceIdeal.Run
public import proofs.«01_k».proof.Proof.Value.Softmax
public import proofs.«01_k».proof.Proof.Value.Near

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen
open Cert.Value

/-- The mask over all queries and keys. -/
def maskArr : IVec S1024x4096 1 :=
  cmpi .sle (absi (subi (broadcastInDim S1024x4096 ![0, 1] bcast_S1024x1_S1024x4096_0_1 (broadcastInDim S1024x1 ![0] bcast_S1024_S1024x1_0 (iotaInDim S1024 32 0))) (broadcastInDim S1024x4096 ![0, 1] bcast_S1x4096_S1024x4096_0_1 (broadcastInDim S1x4096 ![1] bcast_S4096_S1x4096_1 (iotaInDim S4096 32 0))))) (broadcastInDim S1024x4096 ![] bcast_S_S1024x4096 (constantI S_ 32 128#32))

/-- Whether a query has a key left. -/
def keepArr : IVec S1024 1 := Host.reduce IntOp.ori maskArr (constantI S_ 1 0#1) reducesTo_S1024x4096_S1024_d1 h_S_

/-- The queries, head by head. -/
def queryArr (x : FVec Ideal S1x1024x1024 .bf16) (wq : FVec Ideal S1024x1024 .bf16) : FVec Ideal S1x1024x8x128 .bf16 :=
  shapeCast _ (truncf .bf16 (Host.dotGeneral dot_S1x1024x1024_S1024x1024_S1x1024x1024_2_0_01_1_n_n none x wq) bitsLt_bf16_f32) shapeCasts_S1x1024x1024_S1x1024x8x128

/-- The scores, masked. -/
def scoreArr (x : FVec Ideal S1x1024x1024 .bf16) (wq : FVec Ideal S1024x1024 .bf16) (kk : FVec Ideal S1x4096x8x128 .bf16) : FVec Ideal S1x8x1024x4096 .f32 :=
  select (broadcastInDim S1x8x1024x4096 ![0, 1, 2, 3] bcast_S1x1x1024x4096_S1x8x1024x4096_0_1_2_3 (broadcastInDim S1x1x1024x4096 ![2, 3] bcast_S1024x4096_S1x1x1024x4096_2_3 maskArr)) (mulf (extf .f32 (truncf .bf16 (Host.dotGeneral dot_S1x1024x8x128_S1x4096x8x128_S1x8x1024x4096_3_3_1_1_02_02 none (queryArr x wq) kk) bitsLt_bf16_f32) bitsLt_bf16_f32) (broadcastInDim S1x8x1024x4096 ![] bcast_S_S1x8x1024x4096 (constant S_ .f32 0x3DB504F3#32))) (broadcastInDim S1x8x1024x4096 ![] bcast_S_S1x8x1024x4096 (id (constant S_ .f32 0xFF800000#32)))

/-- The exponentials of the scores less their row's largest. -/
def expArr (s : FVec Ideal S1x8x1024x4096 .f32) : FVec Ideal S1x8x1024x4096 .f32 :=
  Host.exp (subf s (broadcastInDim S1x8x1024x4096 ![0, 1, 2, 3] bcast_S1x8x1024x1_S1x8x1024x4096_0_1_2_3 (broadcastInDim S1x8x1024x1 ![0, 1, 2] bcast_S1x8x1024_S1x8x1024x1_0_1_2 (Host.reduce FloatOps.maximumf s (constant S_ .f32 0xFF800000#32) reducesTo_S1x8x1024x4096_S1x8x1024_d3 h_S_))))

/-- The weights. -/
def weightArr (keep : IVec S1024 1) (s : FVec Ideal S1x8x1024x4096 .f32) : FVec Ideal S1x8x1024x4096 .f32 :=
  select (broadcastInDim S1x8x1024x4096 ![0, 1, 2, 3] bcast_S1x1x1024x1_S1x8x1024x4096_0_1_2_3 (broadcastInDim S1x1x1024x1 ![2] bcast_S1024_S1x1x1024x1_2 keep)) (Host.divf (expArr s) (broadcastInDim S1x8x1024x4096 ![0, 1, 2, 3] bcast_S1x8x1024x1_S1x8x1024x4096_0_1_2_3 (select (broadcastInDim S1x8x1024x1 ![0, 1, 2, 3] bcast_S1x1x1024x1_S1x8x1024x1_0_1_2_3 (broadcastInDim S1x1x1024x1 ![2] bcast_S1024_S1x1x1024x1_2 keep)) (broadcastInDim S1x8x1024x1 ![0, 1, 2] bcast_S1x8x1024_S1x8x1024x1_0_1_2 (Host.reduceAdd (expArr s) (constant S_ .f32 0x00000000#32) reducesTo_S1x8x1024x4096_S1x8x1024_d3 h_S_)) (broadcastInDim S1x8x1024x1 ![] bcast_S_S1x8x1024x1 (id (constant S_ .f32 0x3F800000#32)))))) (broadcastInDim S1x8x1024x4096 ![] bcast_S_S1x8x1024x4096 (id (constant S_ .f32 0x00000000#32)))

/-- The reference's result as a function of the five arrays. -/
def refOut (x : FVec Ideal S1x1024x1024 .bf16) (wq : FVec Ideal S1024x1024 .bf16) (kk vv : FVec Ideal S1x4096x8x128 .bf16) (wo : FVec Ideal S1024x1024 .bf16) : FVec Ideal S1x1024x1024 .f32 :=
  Host.dotGeneral dot_S1x1024x1024_S1024x1024_S1x1024x1024_2_0_01_1_n_n none (shapeCast _ (transpose S1x1024x8x128 [0, 3, 1, 2] (Host.dotGeneral dot_S1x4096x8x128_S1x8x1024x4096_S1x8x128x1024_1_3_3_2_02_01 none (extf .f32 vv bitsLt_bf16_f32) (weightArr keepArr (scoreArr x wq kk))) transposes_S1x8x128x1024_S1x1024x8x128_0_3_1_2) shapeCasts_S1x1024x8x128_S1x1024x1024) (extf .f32 wo bitsLt_bf16_f32)

theorem res_eq (m : (ℓ : Loc nD τ sig) → Buf (Elt Ideal) ℓ) (c : Dev nD) :
    Cert.ReferenceIdeal.Value.res_main_v39 m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem mask_at (i : Fin 1024) (j : Fin 4096) : maskArr (ix2 i j) = near i.val j.val := by
  pointwise [maskArr, near]
  rfl

theorem ori_of_mem {n : Nat} (f : Fin n → BitVec 1) (k : Fin n) (hk : f k = 1#1) : Finset.univ.fold IntOp.ori 0#1 f = 1#1 := by
  rw [← Finset.insert_erase (Finset.mem_univ k), Finset.fold_insert (Finset.notMem_erase k _), hk]
  exact (by decide : ∀ y : BitVec 1, IntOp.ori 1#1 y = 1#1) _

theorem select_one {α : Type} (a b : α) : Scalar.select 1#1 a b = a := rfl

theorem keep_at (i : Fin 1024) : keepArr (ix1 i) = 1#1 := by
  pointwise [keepArr]
  exact ori_of_mem _ ⟨i.val, by omega⟩ ((mask_at i ⟨i.val, by omega⟩).trans (near_self i.val (by omega)))

/-- The score of key `j` at query `i`, head `h`. -/
def score (x : FVec Ideal S1x1024x1024 .bf16) (wq : FVec Ideal S1024x1024 .bf16) (kk : FVec Ideal S1x4096x8x128 .bf16) (i : Fin 1024) (h : Fin 8) (j : Fin 4096) : EReal :=
  Scalar.select (near i.val j.val) ((∑ e : Fin 128, (∑ k : Fin 1024, x (ix3 0 i k) * wq (ix2 k ⟨h.val * 128 + e.val, by omega⟩)) * kk (ix4 0 j h e)) * Ideal.ofBits .f32 0x3DB504F3#32) (Ideal.ofBits .f32 0xFF800000#32)

theorem score_at (x : FVec Ideal S1x1024x1024 .bf16) (wq : FVec Ideal S1024x1024 .bf16) (kk : FVec Ideal S1x4096x8x128 .bf16) (i : Fin 1024) (h : Fin 8) (j : Fin 4096) :
    scoreArr x wq kk (ix4 0 h i j) = score x wq kk i h j := by
  unfold score
  pointwise [scoreArr, queryArr, mask_at, id_eq]

theorem exp_at (s : FVec Ideal S1x8x1024x4096 .f32) (h : Fin 8) (i : Fin 1024) (j : Fin 4096) :
    expArr s (ix4 0 h i j) = Ideal.exp (s (ix4 0 h i j) - top (fun j => s (ix4 0 h i j))) := by
  unfold top
  pointwise [expArr, neg_inf]

theorem weight_at (keep : IVec S1024 1) (hk : ∀ i : Fin 1024, keep (ix1 i) = 1#1) (s : FVec Ideal S1x8x1024x4096 .f32) (h : Fin 8) (i : Fin 1024) (j : Fin 4096) :
    weightArr keep s (ix4 0 h i j) = weight (fun j => s (ix4 0 h i j)) j := by
  unfold weight mass
  pointwise [weightArr, hk, exp_at]

theorem refOut_at (x : FVec Ideal S1x1024x1024 .bf16) (wq : FVec Ideal S1024x1024 .bf16) (kk vv : FVec Ideal S1x4096x8x128 .bf16) (wo : FVec Ideal S1024x1024 .bf16) (i j : Fin 1024) :
    refOut x wq kk vv wo (ix3 0 i j) = ∑ l : Fin 1024, attend (score x wq kk i ⟨l.val / 128, by omega⟩) (fun j => vv (ix4 0 j ⟨l.val / 128, by omega⟩ ⟨l.val % 128, by omega⟩)) * wo (ix2 l j) := by
  pointwise [refOut]
  refine Finset.sum_congr rfl fun l _ => congrArg (· * wo (ix2 l j)) (Finset.sum_congr rfl fun k _ => ?_)
  refine (mul_comm _ _).trans (congrArg (· * vv (ix4 0 k ⟨l.val / 128, by omega⟩ ⟨l.val % 128, by omega⟩)) ?_)
  refine (weight_at keepArr keep_at (scoreArr x wq kk) ⟨l.val / 128, by omega⟩ i k).trans ?_
  exact congrArg (fun s => weight s k) (funext fun j => score_at x wq kk i ⟨l.val / 128, by omega⟩ j)

end Cert.ReferenceIdeal.Attn

end
-- ==== Proof.Value.Equation.lean ====
/- The kernel's result is the reference's, where the input, the query weight and the keys are finite. -/
module

public import proofs.«01_k».proof.Proof.Value.Heads
public import proofs.«01_k».proof.Proof.Value.Windows
public import proofs.«01_k».proof.Proof.Value.Reference
public import proofs.«01_k».proof.Proof.KI.Result

@[expose] public section

set_option maxRecDepth 16384

noncomputable section

namespace Cert.Value

open Idealize.ShloMosaic

/-- Neither −∞ nor +∞. -/
def Finite (x : EReal) : Prop := ∃ r : ℝ, x = r

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.sum {n : Nat} {f : Fin n → EReal} (h : ∀ k, Finite (f k)) : Finite (∑ k, f k) := by
  refine Finset.sum_induction f Finite ?_ ⟨0, rfl⟩ fun k _ => h k
  rintro _ _ ⟨a, rfl⟩ ⟨b, rfl⟩
  exact ⟨a + b, (EReal.coe_add a b).symm⟩

theorem Finite.ne_top {x : EReal} (h : Finite x) : x ≠ ⊤ := by
  obtain ⟨r, rfl⟩ := h; exact EReal.coe_ne_top r

theorem Finite.ne_bot {x : EReal} (h : Finite x) : x ≠ ⊥ := by
  obtain ⟨r, rfl⟩ := h; exact EReal.coe_ne_bot r

theorem finite_scale : Finite (Ideal.ofBits .f32 0x3DB504F3#32) := by
  show Finite (Ideal.ieee 8 23 0x3DB504F3#32)
  unfold Ideal.ieee
  simp
  exact ⟨_, rfl⟩

end Cert.Value

namespace Cert.ReferenceIdeal.Attn

open Idealize.ShloMosaic Idealize.ShloMosaic.TcCoe Idealize.SL.Sem
open Cert.ReferenceIdeal Cert.ReferenceIdeal.Gen
open Cert.Value

variable (x : FVec Ideal S1x1024x1024 .bf16) (wq : FVec Ideal S1024x1024 .bf16) (kk : FVec Ideal S1x4096x8x128 .bf16)
  (i : Fin 1024) (h : Fin 8)

theorem score_near (hx : ∀ k, Finite (x k)) (hq : ∀ k, Finite (wq k)) (hk : ∀ k, Finite (kk k)) (j : Fin 4096)
    (e : near i.val j.val = 1#1) : Finite (score x wq kk i h j) := by
  unfold score
  rw [e, select_one]
  exact Finite.mul (Finite.sum fun _ => Finite.mul (Finite.sum fun _ => Finite.mul (hx _) (hq _)) (hk _)) finite_scale

theorem score_far (j : Fin 4096) (e : near i.val j.val = 0#1) : score x wq kk i h j = ⊥ := by
  unfold score
  rw [e, neg_inf]; rfl

theorem score_ne_top (hx : ∀ k, Finite (x k)) (hq : ∀ k, Finite (wq k)) (hk : ∀ k, Finite (kk k)) (j : Fin 4096) :
    score x wq kk i h j ≠ ⊤ := by
  rcases (by decide : ∀ w : BitVec 1, w = 1#1 ∨ w = 0#1) (near i.val j.val) with e | e
  · exact (score_near x wq kk i h hx hq hk j e).ne_top
  · rw [score_far x wq kk i h j e]; exact bot_ne_top

end Cert.ReferenceIdeal.Attn

namespace Cert.KernelIdeal.Value

open Idealize.ShloMosaic Idealize.ShloMosaic.TcCoe Idealize.SL.Sem
open Cert.KernelIdeal Cert.KernelIdeal.Gen Cert.KernelIdeal.Win
open Cert.Value

/-- Where a window's key lies among all keys. -/
def key (p : Dev nD) (k : Fin 512) : Fin 4096 := ⟨wst p + k.val, by have := wst_le p; omega⟩

theorem key_injective (p : Dev nD) : Function.Injective (key p) := fun a b e => by
  have h : wst p + a.val = wst p + b.val := congrArg Fin.val e
  exact Fin.ext (by omega)

/-- A key outside the window is more than 128 away from each of the device's queries. -/
theorem outside (p : Dev nD) (r : Fin 256) (j : Fin 4096) (hj : j ∉ Set.range (key p)) : near (256 * p.val + r.val) j.val = 0#1 := by
  have hp : p.val < 4 := p.isLt
  refine near_far _ _ (by omega) (by omega) ?_
  have hn : ¬ (wst p ≤ j.val ∧ j.val < wst p + 512) := fun ⟨h1, h2⟩ =>
    hj ⟨⟨j.val - wst p, by omega⟩, Fin.ext (by show wst p + (j.val - wst p) = j.val; omega)⟩
  unfold wst at hn
  split at hn <;> omega

variable (x : FVec Ideal S1x1024x1024 .bf16) (wq wo : FVec Ideal S1024x1024 .bf16) (kk vv : FVec Ideal Cert.ReferenceIdeal.S1x4096x8x128 .bf16)
  (fk fv : Dev nD → FVec Ideal S1x1024x8x128 .bf16)
  (hk : Blocks fk kk)
  (hv : Blocks fv vv)
  (fx : ∀ k, Finite (x k)) (fq : ∀ k, Finite (wq k)) (fkk : ∀ k, Finite (kk k))
  (p : Dev nD) (r : Fin 256)

/-- The device's row among all. -/
def row (p : Dev nD) (r : Fin 256) : Fin 1024 := ⟨256 * p.val + r.val, by have : p.val < 4 := p.isLt; omega⟩

include hk in
theorem score_eq (h : Fin 8) (k : Fin 512) :
    score (k0_pay102 (F := Ideal) (xrows p x) wq) (k0_pay103 (V2 p)) (winOf (F := Ideal) (fun c => flat (F := Ideal) (fk c)) p) r h k
      = Cert.ReferenceIdeal.Attn.score x wq kk (row p r) h (key p k) := by
  unfold score Cert.ReferenceIdeal.Attn.score scale
  rw [mask_apply, neg_inf]
  refine congrArg (fun s => Scalar.select (near (256 * p.val + r.val) (wst p + k.val)) (s * Ideal.ofBits .f32 0x3DB504F3#32) (⊥ : EReal))
    (Finset.sum_congr rfl fun e _ => ?_)
  rw [query_apply, winOf_block kk fk hk]
  refine congrArg₂ (· * ·) (Finset.sum_congr rfl fun t _ => ?_) ?_
  · rw [xrows_apply]
    exact congrArg (fun c => x (ix3 0 (row p r) t) * wq (ix2 t c)) (Fin.ext (by show 128 * h.val + e.val = h.val * 128 + e.val; omega))
  · exact congrArg₂ (fun a b => kk (ix4 0 (key p k) a b)) (Fin.ext (by show (128 * h.val + e.val) / 128 = h.val; omega))
      (Fin.ext (by show (128 * h.val + e.val) % 128 = e.val; omega))

/-- One head of one row: the attention over the window is the one over all keys. -/
theorem head_eq (s v : Fin 512 → EReal) (S V : Fin 4096 → EReal) (hs : ∀ k, s k = S (key p k)) (hv : ∀ k, v k = V (key p k))
    (hfar : ∀ j : Fin 4096, near (256 * p.val + r.val) j.val = 0#1 → S j = ⊥) (htop : ∀ j, S j ≠ ⊤)
    (hnear : ∀ j : Fin 4096, near (256 * p.val + r.val) j.val = 1#1 → S j ≠ ⊥) : attend s v = attend S V := by
  have hp : p.val < 4 := p.isLt
  obtain rfl : s = fun k => S (key p k) := funext hs
  obtain rfl : v = fun k => V (key p k) := funext hv
  exact attend_window (key p) (key_injective p) S V (fun j hj => hfar j (outside p r j hj)) htop
    ⟨256 * p.val + r.val, by omega⟩ (hnear _ (near_self _ (by omega)))

include hk hv fx fq fkk in
theorem rows_eq (j : Fin 1024) :
    resRows (F := Ideal) p (xrows (F := Ideal) p x) wq wo (winOf (F := Ideal) (fun c => flat (F := Ideal) (fk c)) p)
        (winOf (F := Ideal) (fun c => flat (F := Ideal) (fv c)) p) (ix2 r j)
      = Cert.ReferenceIdeal.Attn.refOut x wq kk vv wo (ix3 0 (row p r) j) := by
  rw [resRows_apply]
  refine Eq.trans ?_ (Cert.ReferenceIdeal.Attn.refOut_at x wq kk vv wo (row p r) j).symm
  refine Finset.sum_congr rfl fun l _ => congrArg (· * wo (ix2 l j)) (head_eq p r _ _ _ _ (fun k => ?_) (fun k => ?_) ?_ ?_ ?_)
  · exact score_eq x wq kk fk hk p r _ k
  · exact winOf_block vv fv hv p k l
  · exact fun j e => Cert.ReferenceIdeal.Attn.score_far x wq kk (row p r) _ j e
  · exact Cert.ReferenceIdeal.Attn.score_ne_top x wq kk (row p r) _ fx fq fkk
  · exact fun j e => (Cert.ReferenceIdeal.Attn.score_near x wq kk (row p r) _ fx fq fkk j e).ne_bot

theorem result_at (g : FVec Ideal S1024x1024 .bf16) (i j : Fin 1024) : k0_pay121 (F := Ideal) g (ix3 0 i j) = g (ix2 i j) := by
  pointwise [k0_pay121]

/-- The kernel's result as the reference's. -/
theorem result_eq (m : (ℓ : Loc nD τ sig) → Buf (Elt Ideal) ℓ)
    (hx : ∀ c : Dev nD, m ((c.tc : Thread nD τ).loc main_arg0) = x) (hq : ∀ c : Dev nD, m ((c.tc : Thread nD τ).loc main_arg1) = wq)
    (hK : Blocks (fun c => m ((c.tc : Thread nD τ).loc main_arg2)) kk)
    (hV : Blocks (fun c => m ((c.tc : Thread nD τ).loc main_arg3)) vv)
    (hw : ∀ c : Dev nD, m ((c.tc : Thread nD τ).loc main_arg4) = wo)
    (fx : ∀ k, Finite (x k)) (fq : ∀ k, Finite (wq k)) (fkk : ∀ k, Finite (kk k)) :
    k0_pay121 (F := Ideal) (gathered m) = Cert.ReferenceIdeal.Attn.refOut x wq kk vv wo := by
  funext i
  idx_vars i
  obtain rfl : i0 = 0 := Subsingleton.elim _ _
  rw [result_at]
  have e : row ⟨i1.val / 256, by show i1.val / 256 < 4; omega⟩ ⟨i1.val % 256, by omega⟩ = i1 := Fin.ext (by show 256 * (i1.val / 256) + i1.val % 256 = i1.val; omega)
  have h := rows_eq x wq wo kk vv (kst m) (vst m) (fun c => (kst_eq m c).trans (hK c)) (fun c => (vst_eq m c).trans (hV c)) fx fq fkk
    ⟨i1.val / 256, by show i1.val / 256 < 4; omega⟩ ⟨i1.val % 256, by omega⟩ i2
  rw [e] at h
  refine Eq.trans ?_ h
  show resRows (F := Ideal) ⟨i1.val / 256, by show i1.val / 256 < 4; omega⟩ (xrows (F := Ideal) ⟨i1.val / 256, by show i1.val / 256 < 4; omega⟩ (xst m ⟨i1.val / 256, by show i1.val / 256 < 4; omega⟩))
    (wqst m ⟨i1.val / 256, by show i1.val / 256 < 4; omega⟩) (wost m ⟨i1.val / 256, by show i1.val / 256 < 4; omega⟩) _ _ (ix2 ⟨i1.val % 256, by omega⟩ i2) = _
  rw [xst_eq, hx, wqst_eq, hq, wost_eq, hw]
  rfl

end Cert.KernelIdeal.Value

end
-- ==== Proof.Value.Algebraic.lean ====
/- From the precondition's blocks to finite arrays, and the two programs' runs put together. -/
module

public import proofs.«01_k».proof.Defs
public import proofs.«01_k».proof.Proof.Value.Equation
public import proofs.«01_k».proof.Proof.Gen.ReferenceIdeal.Run

@[expose] public section

set_option maxRecDepth 16384

noncomputable section

namespace Cert.Value

open Idealize.ShloMosaic

theorem pos_inf : Ideal.ofBits .bf16 0x7F80#16 = ⊤ := by
  show Ideal.ieee 8 7 0x7F80#16 = ⊤
  unfold Ideal.ieee
  simp

/-- What the precondition's comparison says of one element. -/
theorem finite_of_cmp (a : Ideal .bf16) (h : BitVec.ofBool (decide (FloatOps.absf a < Ideal.ofBits .bf16 0x7F80#16)) = 1#1) : Finite a := by
  rw [pos_inf] at h
  have h' : max (a : EReal) (-a) < ⊤ := by
    by_contra hn
    have e : decide (FloatOps.absf a < (⊤ : EReal)) = false := decide_eq_false hn
    rw [e] at h
    exact absurd h (by decide)
  have h1 : (a : EReal) ≠ ⊤ := fun e => by rw [e] at h'; simp at h'
  have h2 : (a : EReal) ≠ ⊥ := fun e => by rw [e] at h'; simp at h'
  exact ⟨(a : EReal).toReal, (EReal.coe_toReal h1 h2).symm⟩

end Cert.Value

namespace Cert.Pre_finite_KernelIdeal

open Idealize.ShloMosaic

instance facts : Facts where
  bcast_S_S1x1024x1024 := by decide
  bcast_S_S1024x1024 := by decide
  bcast_S_S1x1024x8x128 := by decide

open Cert.Value

variable (a0 : FVec Ideal S1x1024x1024 .bf16) (a1 a4 : FVec Ideal S1024x1024 .bf16) (a2 a3 : FVec Ideal S1x1024x8x128 .bf16)

theorem finite_x (h : (fn (F := Ideal) a0 a1 a2 a3 a4).1 = fun _ => 1#1) (i : S1x1024x1024.Idx) : Finite (a0 i) := by
  have e := congrFun h i
  pointwise [fn] at e
  exact finite_of_cmp _ e

theorem finite_wq (h : (fn (F := Ideal) a0 a1 a2 a3 a4).2.1 = fun _ => 1#1) (i : S1024x1024.Idx) : Finite (a1 i) := by
  have e := congrFun h i
  pointwise [fn] at e
  exact finite_of_cmp _ e

theorem finite_k (h : (fn (F := Ideal) a0 a1 a2 a3 a4).2.2 = fun _ => 1#1) (i : S1x1024x8x128.Idx) : Finite (a2 i) := by
  have e := congrFun h i
  pointwise [fn] at e
  exact finite_of_cmp _ e

end Cert.Pre_finite_KernelIdeal

namespace Cert.Pre_finite_ReferenceIdeal

instance facts : Facts where
  bcast_S_S1x1024x1024 := by decide
  bcast_S_S1024x1024 := by decide
  bcast_S_S1x4096x8x128 := by decide

end Cert.Pre_finite_ReferenceIdeal

namespace Cert.Proof

open Idealize.ShloMosaic Idealize.ShloMosaic.TcCoe Idealize.SL.Sem
open Cert.Value

/-- An array whose four blocks are finite is finite. -/
theorem finite_of_blocks (A : FVec Ideal Cert.ReferenceIdeal.S1x4096x8x128 .bf16) (f : Fin 4 → FVec Ideal Cert.KernelIdeal.S1x1024x8x128 .bf16)
    (hf : Cert.KernelIdeal.Value.Blocks f A) (h : ∀ c i, Finite (f c i))
    (i : Cert.ReferenceIdeal.S1x4096x8x128.Idx) : Finite (A i) := by
  idx_vars i
  have e : f ⟨i1.val / 1024, by omega⟩ (ix4 i0 ⟨i1.val % 1024, by omega⟩ i2 i3) = A (ix4 i0 i1 i2 i3) := by
    rw [hf]
    refine congrArg A (funext fun a => Fin.ext ?_)
    rw [Layout.Tiles.idx_val]
    fin_cases a
    · rfl
    · show i1.val / 1024 * 1024 + i1.val % 1024 = i1.val
      omega
    · rfl
    · rfl
  rw [← e]; exact h _ _

theorem algebraic : Cert.algebraic_KernelIdeal_ReferenceIdeal_pre_finite_KernelIdeal := by
  intro m g m' g' hp ha
  have hK : Cert.KernelIdeal.Value.Blocks (fun c => m ((c.tc : Thread Cert.KernelIdeal.nD Cert.KernelIdeal.τ).loc Cert.KernelIdeal.main_arg2)) _ :=
    fun c => (ha c).2.2.1
  have e := Cert.KernelIdeal.Value.result_eq _ _ _ _ _ m (fun c => (ha c).1) (fun c => (ha c).2.1) hK (fun c => (ha c).2.2.2.1)
    (fun c => (ha c).2.2.2.2)
    (fun i => (ha 0).1 ▸ Cert.Pre_finite_KernelIdeal.finite_x _ _ _ _ _ (hp 0).1 i)
    (fun i => (ha 0).2.1 ▸ Cert.Pre_finite_KernelIdeal.finite_wq _ _ _ _ _ (hp 0).2.1 i)
    (finite_of_blocks _ _ hK fun c i => Cert.Pre_finite_KernelIdeal.finite_k _ _ _ _ _ (hp c).2.2 i)
  refine ⟨Cert.ReferenceIdeal.Value.res_main_v39 (F := Ideal) m' 0, (θ_run Cert.KernelIdeal.defs _ _).mono (fun r h c => ⟨(h.1 c).1.trans e, (h.1 c).2⟩) (Cert.KernelIdeal.Win.run_result (F := Ideal) m g),
    (θ_run Cert.ReferenceIdeal.defs _ _).mono (fun r h => h 0) (Cert.ReferenceIdeal.Value.run (F := Ideal) m' g')⟩

end Cert.Proof

end
-- ==== Proof.lean ====
/- The claims, assembled behind the witnesses of the programs' stated facts. -/
module

public import proofs.«01_k».proof.Proof.Frames
public import proofs.«01_k».proof.Proof.Value.Algebraic

@[expose] public section

noncomputable section

namespace Cert.Proof

theorem claim : Cert.Claim :=
  ⟨Cert.Kernel.Gen.facts, Cert.KernelIdeal.Gen.facts, Cert.ReferenceIdeal.Gen.facts, Cert.Pre_finite_KernelIdeal.facts,
    Cert.Pre_finite_ReferenceIdeal.facts, frame_kernel, frame_ideal, frame_ideal_pre, frame_reference, frame_reference_pre,
    preserves, algebraic⟩

end Cert.Proof

end
